-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![512, 4096]⟩ ⟨2, ![512, 65536]⟩ 1 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S256x512 : Shape := ⟨2, ![256, 512]⟩
abbrev S512x4096 : Shape := ⟨2, ![512, 4096]⟩
abbrev S_ : Shape := ⟨0, ![]⟩

class Facts : Prop where
  bcast_S_S256x512 : S_.BroadcastsInDim S256x512 (![] : Fin 0 → Fin S256x512.rank)
  bcast_S_S512x4096 : S_.BroadcastsInDim S512x4096 (![] : Fin 0 → Fin S512x4096.rank)

variable [Facts]

def fn {F : FTy → Type} [FloatOps F] (main_arg0 : FVec F S256x512 .f32) (main_arg1 : FVec F S512x4096 .f32) : IVec S256x512 1 × IVec S512x4096 1 :=
  let main_v0 : FVec F S256x512 .f32 := Host.absf main_arg0
  let main_cst : FVec F S_ .f32 := constant S_ .f32 0x7F800000#32
  let main_v1 : FVec F S256x512 .f32 := broadcastInDim S256x512 ![] bcast_S_S256x512 main_cst
  let main_v2 : IVec S256x512 1 := cmpf .olt main_v0 main_v1
  let main_v3 : FVec F S512x4096 .f32 := Host.absf main_arg1
  let main_cst_0 : FVec F S_ .f32 := constant S_ .f32 0x7F800000#32
  let main_v4 : FVec F S512x4096 .f32 := broadcastInDim S512x4096 ![] bcast_S_S512x4096 main_cst_0
  let main_v5 : IVec S512x4096 1 := cmpf .olt main_v3 main_v4
  (main_v2, main_v5)
-- ==== Pre_finite_ReferenceIdeal.lean ====
abbrev S256x512 : Shape := ⟨2, ![256, 512]⟩
abbrev S512x65536 : Shape := ⟨2, ![512, 65536]⟩
abbrev S_ : Shape := ⟨0, ![]⟩

class Facts : Prop where
  bcast_S_S256x512 : S_.BroadcastsInDim S256x512 (![] : Fin 0 → Fin S256x512.rank)
  bcast_S_S512x65536 : S_.BroadcastsInDim S512x65536 (![] : Fin 0 → Fin S512x65536.rank)

variable [Facts]

def fn {F : FTy → Type} [FloatOps F] (main_arg0 : FVec F S256x512 .f32) (main_arg1 : FVec F S512x65536 .f32) : IVec S256x512 1 × IVec S512x65536 1 :=
  let main_v0 : FVec F S256x512 .f32 := Host.absf main_arg0
  let main_cst : FVec F S_ .f32 := constant S_ .f32 0x7F800000#32
  let main_v1 : FVec F S256x512 .f32 := broadcastInDim S256x512 ![] bcast_S_S256x512 main_cst
  let main_v2 : IVec S256x512 1 := cmpf .olt main_v0 main_v1
  let main_v3 : FVec F S512x65536 .f32 := Host.absf main_arg1
  let main_cst_0 : FVec F S_ .f32 := constant S_ .f32 0x7F800000#32
  let main_v4 : FVec F S512x65536 .f32 := broadcastInDim S512x65536 ![] bcast_S_S512x65536 main_cst_0
  let main_v5 : IVec S512x65536 1 := cmpf .olt main_v3 main_v4
  (main_v2, main_v5)
-- ==== Kernel.lean ====
abbrev S256x512 : Shape := ⟨2, ![256, 512]⟩
abbrev S512x4096 : Shape := ⟨2, ![512, 4096]⟩
abbrev S256x65536 : Shape := ⟨2, ![256, 65536]⟩
abbrev S1x256x4096 : Shape := ⟨3, ![1, 256, 4096]⟩
abbrev S16x256x128 : Shape := ⟨3, ![16, 256, 128]⟩
abbrev S15 : Shape := ⟨1, ![15]⟩
abbrev S16 : Shape := ⟨1, ![16]⟩
abbrev S15x2 : Shape := ⟨2, ![15, 2]⟩
abbrev S_ : Shape := ⟨0, ![]⟩
abbrev S256x4096 : Shape := ⟨2, ![256, 4096]⟩
abbrev S256 : Shape := ⟨1, ![256]⟩
abbrev S256x1 : Shape := ⟨2, ![256, 1]⟩
abbrev S256x126 : Shape := ⟨2, ![256, 126]⟩
abbrev S256x128 : Shape := ⟨2, ![256, 128]⟩
abbrev S1x256x128 : Shape := ⟨3, ![1, 256, 128]⟩
abbrev S1 : Shape := ⟨1, ![1]⟩
abbrev S1x256x1 : Shape := ⟨3, ![1, 256, 1]⟩
abbrev S1x1 : Shape := ⟨2, ![1, 1]⟩
abbrev S256x1024 : Shape := ⟨2, ![256, 1024]⟩
abbrev S1x256x1024 : Shape := ⟨3, ![1, 256, 1024]⟩

abbrev nBuf : Space → Nat
  | .hbm => 3
  | .vmem => 4
  | .smem => 0
  | _ => 0

abbrev bufTy : (tb : Table) → Fin (tcTables nBuf tb) → BufTy
  | .hbm, ⟨0, _⟩ => ⟨S256x512, .f32⟩
  | .hbm, ⟨1, _⟩ => ⟨S512x4096, .f32⟩
  | .hbm, ⟨2, _⟩ => ⟨S256x65536, .f32⟩
  | .local _ .vmem, ⟨0, _⟩ => ⟨S256x512, .f32⟩
  | .local _ .vmem, ⟨1, _⟩ => ⟨S512x4096, .f32⟩
  | .local _ .vmem, ⟨2, _⟩ => ⟨S1x256x4096, .f32⟩
  | .local _ .vmem, ⟨3, _⟩ => ⟨S16x256x128, .f32⟩
  | _, _ => ⟨S256x512, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 154 → Bool
  | ⟨i, _⟩ => dmaSemScopedAt i

abbrev sig : RefSig :=
  (ofTc nBuf bufTy 1 154 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_5 : BitVec 32 := 1#32
  let v9 : BitVec 32 := Scalar.addi v2 c1_i32_5
  let c16_i32_6 : BitVec 32 := 16#32
  let v10 : BitVec 32 := Scalar.remsi v9 c16_i32_6
  let c1_i32_8 : BitVec 32 := 1#32
  let v11 : BitVec 32 := Scalar.muli v10 c1_i32_8
  let v12 : BitVec 32 := Scalar.addi c0_i32 v11
  v12.toNat
def k0_dev2 (d0 : Dev nD) : Nat :=
  let c0_i32_12 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v13 : BitVec 32 := Scalar.addi v2 c2_i32
  let c16_i32_9 : BitVec 32 := 16#32
  let v14 : BitVec 32 := Scalar.remsi v13 c16_i32_9
  let c1_i32_11 : BitVec 32 := 1#32
  let v15 : BitVec 32 := Scalar.muli v14 c1_i32_11
  let v16 : BitVec 32 := Scalar.addi c0_i32_12 v15
  v16.toNat
def k0_dev3 (d0 : Dev nD) : Nat :=
  let c0_i32_16 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v17 : BitVec 32 := Scalar.addi v2 c3_i32
  let c16_i32_13 : BitVec 32 := 16#32
  let v18 : BitVec 32 := Scalar.remsi v17 c16_i32_13
  let c1_i32_15 : BitVec 32 := 1#32
  let v19 : BitVec 32 := Scalar.muli v18 c1_i32_15
  let v20 : BitVec 32 := Scalar.addi c0_i32_16 v19
  v20.toNat
def k0_dev4 (d0 : Dev nD) : Nat :=
  let c0_i32_20 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v21 : BitVec 32 := Scalar.addi v2 c4_i32
  let c16_i32_17 : BitVec 32 := 16#32
  let v22 : BitVec 32 := Scalar.remsi v21 c16_i32_17
  let c1_i32_19 : BitVec 32 := 1#32
  let v23 : BitVec 32 := Scalar.muli v22 c1_i32_19
  let v24 : BitVec 32 := Scalar.addi c0_i32_20 v23
  v24.toNat
def k0_dev5 (d0 : Dev nD) : Nat :=
  let c0_i32_24 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v25 : BitVec 32 := Scalar.addi v2 c5_i32
  let c16_i32_21 : BitVec 32 := 16#32
  let v26 : BitVec 32 := Scalar.remsi v25 c16_i32_21
  let c1_i32_23 : BitVec 32 := 1#32
  let v27 : BitVec 32 := Scalar.muli v26 c1_i32_23
  let v28 : BitVec 32 := Scalar.addi c0_i32_24 v27
  v28.toNat
def k0_dev6 (d0 : Dev nD) : Nat :=
  let c0_i32_28 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v29 : BitVec 32 := Scalar.addi v2 c6_i32
  let c16_i32_25 : BitVec 32 := 16#32
  let v30 : BitVec 32 := Scalar.remsi v29 c16_i32_25
  let c1_i32_27 : BitVec 32 := 1#32
  let v31 : BitVec 32 := Scalar.muli v30 c1_i32_27
  let v32 : BitVec 32 := Scalar.addi c0_i32_28 v31
  v32.toNat
def k0_dev7 (d0 : Dev nD) : Nat :=
  let c0_i32_32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v33 : BitVec 32 := Scalar.addi v2 c7_i32
  let c16_i32_29 : BitVec 32 := 16#32
  let v34 : BitVec 32 := Scalar.remsi v33 c16_i32_29
  let c1_i32_31 : BitVec 32 := 1#32
  let v35 : BitVec 32 := Scalar.muli v34 c1_i32_31
  let v36 : BitVec 32 := Scalar.addi c0_i32_32 v35
  v36.toNat
def k0_dev8 (d0 : Dev nD) : Nat :=
  let c0_i32_36 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v37 : BitVec 32 := Scalar.addi v2 c8_i32
  let c16_i32_33 : BitVec 32 := 16#32
  let v38 : BitVec 32 := Scalar.remsi v37 c16_i32_33
  let c1_i32_35 : BitVec 32 := 1#32
  let v39 : BitVec 32 := Scalar.muli v38 c1_i32_35
  let v40 : BitVec 32 := Scalar.addi c0_i32_36 v39
  v40.toNat
def k0_dev9 (d0 : Dev nD) : Nat :=
  let c0_i32_40 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v41 : BitVec 32 := Scalar.addi v2 c9_i32
  let c16_i32_37 : BitVec 32 := 16#32
  let v42 : BitVec 32 := Scalar.remsi v41 c16_i32_37
  let c1_i32_39 : BitVec 32 := 1#32
  let v43 : BitVec 32 := Scalar.muli v42 c1_i32_39
  let v44 : BitVec 32 := Scalar.addi c0_i32_40 v43
  v44.toNat
def k0_dev10 (d0 : Dev nD) : Nat :=
  let c0_i32_44 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v45 : BitVec 32 := Scalar.addi v2 c10_i32
  let c16_i32_41 : BitVec 32 := 16#32
  let v46 : BitVec 32 := Scalar.remsi v45 c16_i32_41
  let c1_i32_43 : BitVec 32 := 1#32
  let v47 : BitVec 32 := Scalar.muli v46 c1_i32_43
  let v48 : BitVec 32 := Scalar.addi c0_i32_44 v47
  v48.toNat
def k0_dev11 (d0 : Dev nD) : Nat :=
  let c0_i32_48 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v49 : BitVec 32 := Scalar.addi v2 c11_i32
  let c16_i32_45 : BitVec 32 := 16#32
  let v50 : BitVec 32 := Scalar.remsi v49 c16_i32_45
  let c1_i32_47 : BitVec 32 := 1#32
  let v51 : BitVec 32 := Scalar.muli v50 c1_i32_47
  let v52 : BitVec 32 := Scalar.addi c0_i32_48 v51
  v52.toNat
def k0_dev12 (d0 : Dev nD) : Nat :=
  let c0_i32_52 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v53 : BitVec 32 := Scalar.addi v2 c12_i32
  let c16_i32_49 : BitVec 32 := 16#32
  let v54 : BitVec 32 := Scalar.remsi v53 c16_i32_49
  let c1_i32_51 : BitVec 32 := 1#32
  let v55 : BitVec 32 := Scalar.muli v54 c1_i32_51
  let v56 : BitVec 32 := Scalar.addi c0_i32_52 v55
  v56.toNat
def k0_dev13 (d0 : Dev nD) : Nat :=
  let c0_i32_56 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v57 : BitVec 32 := Scalar.addi v2 c13_i32
  let c16_i32_53 : BitVec 32 := 16#32
  let v58 : BitVec 32 := Scalar.remsi v57 c16_i32_53
  let c1_i32_55 : BitVec 32 := 1#32
  let v59 : BitVec 32 := Scalar.muli v58 c1_i32_55
  let v60 : BitVec 32 := Scalar.addi c0_i32_56 v59
  v60.toNat
def k0_dev14 (d0 : Dev nD) : Nat :=
  let c0_i32_60 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v61 : BitVec 32 := Scalar.addi v2 c14_i32
  let c16_i32_57 : BitVec 32 := 16#32
  let v62 : BitVec 32 := Scalar.remsi v61 c16_i32_57
  let c1_i32_59 : BitVec 32 := 1#32
  let v63 : BitVec 32 := Scalar.muli v62 c1_i32_59
  let v64 : BitVec 32 := Scalar.addi c0_i32_60 v63
  v64.toNat
def k0_dev15 (d0 : Dev nD) : Nat :=
  let c0_i32_64 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v65 : BitVec 32 := Scalar.addi v2 c15_i32
  let c16_i32_61 : BitVec 32 := 16#32
  let v66 : BitVec 32 := Scalar.remsi v65 c16_i32_61
  let c1_i32_63 : BitVec 32 := 1#32
  let v67 : BitVec 32 := Scalar.muli v66 c1_i32_63
  let v68 : BitVec 32 := Scalar.addi c0_i32_64 v67
  v68.toNat
def k0_off1 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v86 : Index := Scalar.indexCast v2
  let c0_74 : Index := 0#32
  let c0_75 : Index := 0#32
  ![v86.toNat, 0, 0]
def k0_off2 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off3 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_82 : BitVec 32 := 0#32
  let c0_i32_83 : BitVec 32 := 0#32
  ![v2.toNat, 0, 0]
def k0_dev16 (d0 : Dev nD) : Nat :=
  let c0_i32_81 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_77 : BitVec 32 := 1#32
  let v90 : BitVec 32 := Scalar.addi v2 c1_i32_77
  let c16_i32_78 : BitVec 32 := 16#32
  let v91 : BitVec 32 := Scalar.remsi v90 c16_i32_78
  let c1_i32_80 : BitVec 32 := 1#32
  let v92 : BitVec 32 := Scalar.muli v91 c1_i32_80
  let v93 : BitVec 32 := Scalar.addi c0_i32_81 v92
  v93.toNat
def k0_dev17 (d0 : Dev nD) : Nat :=
  let c0_i32_90 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_86 : BitVec 32 := 2#32
  let v102 : BitVec 32 := Scalar.addi v2 c2_i32_86
  let c16_i32_87 : BitVec 32 := 16#32
  let v103 : BitVec 32 := Scalar.remsi v102 c16_i32_87
  let c1_i32_89 : BitVec 32 := 1#32
  let v104 : BitVec 32 := Scalar.muli v103 c1_i32_89
  let v105 : BitVec 32 := Scalar.addi c0_i32_90 v104
  v105.toNat
def k0_dev18 (d0 : Dev nD) : Nat :=
  let c0_i32_99 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_95 : BitVec 32 := 3#32
  let v114 : BitVec 32 := Scalar.addi v2 c3_i32_95
  let c16_i32_96 : BitVec 32 := 16#32
  let v115 : BitVec 32 := Scalar.remsi v114 c16_i32_96
  let c1_i32_98 : BitVec 32 := 1#32
  let v116 : BitVec 32 := Scalar.muli v115 c1_i32_98
  let v117 : BitVec 32 := Scalar.addi c0_i32_99 v116
  v117.toNat
def k0_dev19 (d0 : Dev nD) : Nat :=
  let c0_i32_108 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_104 : BitVec 32 := 4#32
  let v126 : BitVec 32 := Scalar.addi v2 c4_i32_104
  let c16_i32_105 : BitVec 32 := 16#32
  let v127 : BitVec 32 := Scalar.remsi v126 c16_i32_105
  let c1_i32_107 : BitVec 32 := 1#32
  let v128 : BitVec 32 := Scalar.muli v127 c1_i32_107
  let v129 : BitVec 32 := Scalar.addi c0_i32_108 v128
  v129.toNat
def k0_dev20 (d0 : Dev nD) : Nat :=
  let c0_i32_117 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_113 : BitVec 32 := 5#32
  let v138 : BitVec 32 := Scalar.addi v2 c5_i32_113
  let c16_i32_114 : BitVec 32 := 16#32
  let v139 : BitVec 32 := Scalar.remsi v138 c16_i32_114
  let c1_i32_116 : BitVec 32 := 1#32
  let v140 : BitVec 32 := Scalar.muli v139 c1_i32_116
  let v141 : BitVec 32 := Scalar.addi c0_i32_117 v140
  v141.toNat
def k0_dev21 (d0 : Dev nD) : Nat :=
  let c0_i32_126 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_122 : BitVec 32 := 6#32
  let v150 : BitVec 32 := Scalar.addi v2 c6_i32_122
  let c16_i32_123 : BitVec 32 := 16#32
  let v151 : BitVec 32 := Scalar.remsi v150 c16_i32_123
  let c1_i32_125 : BitVec 32 := 1#32
  let v152 : BitVec 32 := Scalar.muli v151 c1_i32_125
  let v153 : BitVec 32 := Scalar.addi c0_i32_126 v152
  v153.toNat
def k0_dev22 (d0 : Dev nD) : Nat :=
  let c0_i32_135 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_131 : BitVec 32 := 7#32
  let v162 : BitVec 32 := Scalar.addi v2 c7_i32_131
  let c16_i32_132 : BitVec 32 := 16#32
  let v163 : BitVec 32 := Scalar.remsi v162 c16_i32_132
  let c1_i32_134 : BitVec 32 := 1#32
  let v164 : BitVec 32 := Scalar.muli v163 c1_i32_134
  let v165 : BitVec 32 := Scalar.addi c0_i32_135 v164
  v165.toNat
def k0_dev23 (d0 : Dev nD) : Nat :=
  let c0_i32_144 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_140 : BitVec 32 := 8#32
  let v174 : BitVec 32 := Scalar.addi v2 c8_i32_140
  let c16_i32_141 : BitVec 32 := 16#32
  let v175 : BitVec 32 := Scalar.remsi v174 c16_i32_141
  let c1_i32_143 : BitVec 32 := 1#32
  let v176 : BitVec 32 := Scalar.muli v175 c1_i32_143
  let v177 : BitVec 32 := Scalar.addi c0_i32_144 v176
  v177.toNat
def k0_dev24 (d0 : Dev nD) : Nat :=
  let c0_i32_153 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_149 : BitVec 32 := 9#32
  let v186 : BitVec 32 := Scalar.addi v2 c9_i32_149
  let c16_i32_150 : BitVec 32 := 16#32
  let v187 : BitVec 32 := Scalar.remsi v186 c16_i32_150
  let c1_i32_152 : BitVec 32 := 1#32
  let v188 : BitVec 32 := Scalar.muli v187 c1_i32_152
  let v189 : BitVec 32 := Scalar.addi c0_i32_153 v188
  v189.toNat
def k0_dev25 (d0 : Dev nD) : Nat :=
  let c0_i32_162 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_158 : BitVec 32 := 10#32
  let v198 : BitVec 32 := Scalar.addi v2 c10_i32_158
  let c16_i32_159 : BitVec 32 := 16#32
  let v199 : BitVec 32 := Scalar.remsi v198 c16_i32_159
  let c1_i32_161 : BitVec 32 := 1#32
  let v200 : BitVec 32 := Scalar.muli v199 c1_i32_161
  let v201 : BitVec 32 := Scalar.addi c0_i32_162 v200
  v201.toNat
def k0_dev26 (d0 : Dev nD) : Nat :=
  let c0_i32_171 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_167 : BitVec 32 := 11#32
  let v210 : BitVec 32 := Scalar.addi v2 c11_i32_167
  let c16_i32_168 : BitVec 32 := 16#32
  let v211 : BitVec 32 := Scalar.remsi v210 c16_i32_168
  let c1_i32_170 : BitVec 32 := 1#32
  let v212 : BitVec 32 := Scalar.muli v211 c1_i32_170
  let v213 : BitVec 32 := Scalar.addi c0_i32_171 v212
  v213.toNat
def k0_dev27 (d0 : Dev nD) : Nat :=
  let c0_i32_180 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_176 : BitVec 32 := 12#32
  let v222 : BitVec 32 := Scalar.addi v2 c12_i32_176
  let c16_i32_177 : BitVec 32 := 16#32
  let v223 : BitVec 32 := Scalar.remsi v222 c16_i32_177
  let c1_i32_179 : BitVec 32 := 1#32
  let v224 : BitVec 32 := Scalar.muli v223 c1_i32_179
  let v225 : BitVec 32 := Scalar.addi c0_i32_180 v224
  v225.toNat
def k0_dev28 (d0 : Dev nD) : Nat :=
  let c0_i32_189 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_185 : BitVec 32 := 13#32
  let v234 : BitVec 32 := Scalar.addi v2 c13_i32_185
  let c16_i32_186 : BitVec 32 := 16#32
  let v235 : BitVec 32 := Scalar.remsi v234 c16_i32_186
  let c1_i32_188 : BitVec 32 := 1#32
  let v236 : BitVec 32 := Scalar.muli v235 c1_i32_188
  let v237 : BitVec 32 := Scalar.addi c0_i32_189 v236
  v237.toNat
def k0_dev29 (d0 : Dev nD) : Nat :=
  let c0_i32_198 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_194 : BitVec 32 := 14#32
  let v246 : BitVec 32 := Scalar.addi v2 c14_i32_194
  let c16_i32_195 : BitVec 32 := 16#32
  let v247 : BitVec 32 := Scalar.remsi v246 c16_i32_195
  let c1_i32_197 : BitVec 32 := 1#32
  let v248 : BitVec 32 := Scalar.muli v247 c1_i32_197
  let v249 : BitVec 32 := Scalar.addi c0_i32_198 v248
  v249.toNat
def k0_dev30 (d0 : Dev nD) : Nat :=
  let c0_i32_207 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_203 : BitVec 32 := 15#32
  let v258 : BitVec 32 := Scalar.addi v2 c15_i32_203
  let c16_i32_204 : BitVec 32 := 16#32
  let v259 : BitVec 32 := Scalar.remsi v258 c16_i32_204
  let c1_i32_206 : BitVec 32 := 1#32
  let v260 : BitVec 32 := Scalar.muli v259 c1_i32_206
  let v261 : BitVec 32 := Scalar.addi c0_i32_207 v260
  v261.toNat
def k0_off4 (d0 : Dev nD) (c1_i32_212 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v270 : BitVec 32 := Scalar.subi v2 c1_i32_212
  let c16_i32_213 : BitVec 32 := 16#32
  let v271 : BitVec 32 := Scalar.addi v270 c16_i32_213
  let c16_i32_214 : BitVec 32 := 16#32
  let v272 : BitVec 32 := Scalar.remsi v271 c16_i32_214
  ![v272.toNat]
def k0_off5 (d0 : Dev nD) (c1_i32_212 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v270 : BitVec 32 := Scalar.subi v2 c1_i32_212
  let c16_i32_213 : BitVec 32 := 16#32
  let v271 : BitVec 32 := Scalar.addi v270 c16_i32_213
  let c16_i32_214 : BitVec 32 := 16#32
  let v272 : BitVec 32 := Scalar.remsi v271 c16_i32_214
  let c0_i32_218 : BitVec 32 := 0#32
  let c0_i32_219 : BitVec 32 := 0#32
  ![v272.toNat, 0, 0]
def k0_off6 (d0 : Dev nD) : Fin 2 → Nat :=
  let c0_i32_590 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4096_i32 : BitVec 32 := 4096#32
  let v713 : BitVec 32 := Scalar.muli v2 c4096_i32
  ![0, v713.toNat]
def k0_off7 (d0 : Dev nD) (c0_i32_593 : BitVec 32) (c0_i32_596 : BitVec 32) : Fin 2 → Nat :=
  let c0_i32_604 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v717 : BitVec 32 := Scalar.subi v2 c0_i32_593
  let c32_i32 : BitVec 32 := 32#32
  let v718 : BitVec 32 := Scalar.addi v717 c32_i32
  let c16_i32_594 : BitVec 32 := 16#32
  let v719 : BitVec 32 := Scalar.remsi v718 c16_i32_594
  let c4096_i32_595 : BitVec 32 := 4096#32
  let v720 : BitVec 32 := Scalar.muli v719 c4096_i32_595
  let v721 : BitVec 32 := Scalar.addi v720 c0_i32_596
  ![0, v721.toNat]
def k0_dev31 (d0 : Dev nD) : Nat :=
  let c0_i32_603 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_602 : BitVec 32 := 1#32
  let v722 : BitVec 32 := Scalar.muli v4 c1_i32_602
  let v723 : BitVec 32 := Scalar.addi c0_i32_603 v722
  v723.toNat
def k0_off8 (d0 : Dev nD) (c0_i32_607 : BitVec 32) (c2048_i32 : BitVec 32) : Fin 2 → Nat :=
  let c0_i32_617 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v731 : BitVec 32 := Scalar.addi v2 c0_i32_607
  let c16_i32_608 : BitVec 32 := 16#32
  let v732 : BitVec 32 := Scalar.remsi v731 c16_i32_608
  let c4096_i32_609 : BitVec 32 := 4096#32
  let v733 : BitVec 32 := Scalar.muli v732 c4096_i32_609
  let v734 : BitVec 32 := Scalar.addi v733 c2048_i32
  ![0, v734.toNat]
def k0_dev32 (d0 : Dev nD) : Nat :=
  let c0_i32_616 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_615 : BitVec 32 := 1#32
  let v735 : BitVec 32 := Scalar.muli v7 c1_i32_615
  let v736 : BitVec 32 := Scalar.addi c0_i32_616 v735
  v736.toNat
def k0_dev33 (d0 : Dev nD) : Nat :=
  let c0_i32_630 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_629 : BitVec 32 := 1#32
  let v749 : BitVec 32 := Scalar.muli v4 c1_i32_629
  let v750 : BitVec 32 := Scalar.addi c0_i32_630 v749
  v750.toNat
def k0_dev34 (d0 : Dev nD) : Nat :=
  let c0_i32_643 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_642 : BitVec 32 := 1#32
  let v762 : BitVec 32 := Scalar.muli v7 c1_i32_642
  let v763 : BitVec 32 := Scalar.addi c0_i32_643 v762
  v763.toNat
def k0_dev35 (d0 : Dev nD) : Nat :=
  let c0_i32_667 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_666 : BitVec 32 := 1#32
  let v783 : BitVec 32 := Scalar.muli v4 c1_i32_666
  let v784 : BitVec 32 := Scalar.addi c0_i32_667 v783
  v784.toNat
def k0_dev36 (d0 : Dev nD) : Nat :=
  let c0_i32_689 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_688 : BitVec 32 := 1#32
  let v802 : BitVec 32 := Scalar.muli v7 c1_i32_688
  let v803 : BitVec 32 := Scalar.addi c0_i32_689 v802
  v803.toNat
def k0_dev37 (d0 : Dev nD) : Nat :=
  let c0_i32_712 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_711 : BitVec 32 := 1#32
  let v822 : BitVec 32 := Scalar.muli v4 c1_i32_711
  let v823 : BitVec 32 := Scalar.addi c0_i32_712 v822
  v823.toNat
def k0_dev38 (d0 : Dev nD) : Nat :=
  let c0_i32_734 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_733 : BitVec 32 := 1#32
  let v841 : BitVec 32 := Scalar.muli v7 c1_i32_733
  let v842 : BitVec 32 := Scalar.addi c0_i32_734 v841
  v842.toNat
def k0_dev39 (d0 : Dev nD) : Nat :=
  let c0_i32_755 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_754 : BitVec 32 := 1#32
  let v860 : BitVec 32 := Scalar.muli v4 c1_i32_754
  let v861 : BitVec 32 := Scalar.addi c0_i32_755 v860
  v861.toNat
def k0_dev40 (d0 : Dev nD) : Nat :=
  let c0_i32_775 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_774 : BitVec 32 := 1#32
  let v878 : BitVec 32 := Scalar.muli v7 c1_i32_774
  let v879 : BitVec 32 := Scalar.addi c0_i32_775 v878
  v879.toNat
def k0_dev41 (d0 : Dev nD) : Nat :=
  let c0_i32_796 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_795 : BitVec 32 := 1#32
  let v897 : BitVec 32 := Scalar.muli v4 c1_i32_795
  let v898 : BitVec 32 := Scalar.addi c0_i32_796 v897
  v898.toNat
def k0_dev42 (d0 : Dev nD) : Nat :=
  let c0_i32_816 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_815 : BitVec 32 := 1#32
  let v915 : BitVec 32 := Scalar.muli v7 c1_i32_815
  let v916 : BitVec 32 := Scalar.addi c0_i32_816 v915
  v916.toNat
def k0_dev43 (d0 : Dev nD) : Nat :=
  let c0_i32_837 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_836 : BitVec 32 := 1#32
  let v934 : BitVec 32 := Scalar.muli v4 c1_i32_836
  let v935 : BitVec 32 := Scalar.addi c0_i32_837 v934
  v935.toNat
def k0_dev44 (d0 : Dev nD) : Nat :=
  let c0_i32_857 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_856 : BitVec 32 := 1#32
  let v952 : BitVec 32 := Scalar.muli v7 c1_i32_856
  let v953 : BitVec 32 := Scalar.addi c0_i32_857 v952
  v953.toNat
def k0_dev45 (d0 : Dev nD) : Nat :=
  let c0_i32_878 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_877 : BitVec 32 := 1#32
  let v971 : BitVec 32 := Scalar.muli v4 c1_i32_877
  let v972 : BitVec 32 := Scalar.addi c0_i32_878 v971
  v972.toNat
def k0_dev46 (d0 : Dev nD) : Nat :=
  let c0_i32_898 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_897 : BitVec 32 := 1#32
  let v989 : BitVec 32 := Scalar.muli v7 c1_i32_897
  let v990 : BitVec 32 := Scalar.addi c0_i32_898 v989
  v990.toNat
def k0_dev47 (d0 : Dev nD) : Nat :=
  let c0_i32_919 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_918 : BitVec 32 := 1#32
  let v1008 : BitVec 32 := Scalar.muli v4 c1_i32_918
  let v1009 : BitVec 32 := Scalar.addi c0_i32_919 v1008
  v1009.toNat
def k0_dev48 (d0 : Dev nD) : Nat :=
  let c0_i32_939 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_938 : BitVec 32 := 1#32
  let v1026 : BitVec 32 := Scalar.muli v7 c1_i32_938
  let v1027 : BitVec 32 := Scalar.addi c0_i32_939 v1026
  v1027.toNat
def k0_dev49 (d0 : Dev nD) : Nat :=
  let c0_i32_960 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_959 : BitVec 32 := 1#32
  let v1045 : BitVec 32 := Scalar.muli v4 c1_i32_959
  let v1046 : BitVec 32 := Scalar.addi c0_i32_960 v1045
  v1046.toNat
def k0_dev50 (d0 : Dev nD) : Nat :=
  let c0_i32_980 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_979 : BitVec 32 := 1#32
  let v1063 : BitVec 32 := Scalar.muli v7 c1_i32_979
  let v1064 : BitVec 32 := Scalar.addi c0_i32_980 v1063
  v1064.toNat
def k0_dev51 (d0 : Dev nD) : Nat :=
  let c0_i32_1001 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1000 : BitVec 32 := 1#32
  let v1082 : BitVec 32 := Scalar.muli v4 c1_i32_1000
  let v1083 : BitVec 32 := Scalar.addi c0_i32_1001 v1082
  v1083.toNat
def k0_dev52 (d0 : Dev nD) : Nat :=
  let c0_i32_1021 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_1020 : BitVec 32 := 1#32
  let v1100 : BitVec 32 := Scalar.muli v7 c1_i32_1020
  let v1101 : BitVec 32 := Scalar.addi c0_i32_1021 v1100
  v1101.toNat
def k0_dev53 (d0 : Dev nD) : Nat :=
  let c0_i32_1042 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1041 : BitVec 32 := 1#32
  let v1119 : BitVec 32 := Scalar.muli v4 c1_i32_1041
  let v1120 : BitVec 32 := Scalar.addi c0_i32_1042 v1119
  v1120.toNat
def k0_dev54 (d0 : Dev nD) : Nat :=
  let c0_i32_1062 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_1061 : BitVec 32 := 1#32
  let v1137 : BitVec 32 := Scalar.muli v7 c1_i32_1061
  let v1138 : BitVec 32 := Scalar.addi c0_i32_1062 v1137
  v1138.toNat
def k0_dev55 (d0 : Dev nD) : Nat :=
  let c0_i32_1083 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1082 : BitVec 32 := 1#32
  let v1156 : BitVec 32 := Scalar.muli v4 c1_i32_1082
  let v1157 : BitVec 32 := Scalar.addi c0_i32_1083 v1156
  v1157.toNat
def k0_dev56 (d0 : Dev nD) : Nat :=
  let c0_i32_1103 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_1102 : BitVec 32 := 1#32
  let v1174 : BitVec 32 := Scalar.muli v7 c1_i32_1102
  let v1175 : BitVec 32 := Scalar.addi c0_i32_1103 v1174
  v1175.toNat
def k0_dev57 (d0 : Dev nD) : Nat :=
  let c0_i32_1124 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1123 : BitVec 32 := 1#32
  let v1193 : BitVec 32 := Scalar.muli v4 c1_i32_1123
  let v1194 : BitVec 32 := Scalar.addi c0_i32_1124 v1193
  v1194.toNat
def k0_dev58 (d0 : Dev nD) : Nat :=
  let c0_i32_1144 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_1143 : BitVec 32 := 1#32
  let v1211 : BitVec 32 := Scalar.muli v7 c1_i32_1143
  let v1212 : BitVec 32 := Scalar.addi c0_i32_1144 v1211
  v1212.toNat
def k0_dev59 (d0 : Dev nD) : Nat :=
  let c0_i32_1165 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1164 : BitVec 32 := 1#32
  let v1230 : BitVec 32 := Scalar.muli v4 c1_i32_1164
  let v1231 : BitVec 32 := Scalar.addi c0_i32_1165 v1230
  v1231.toNat
def k0_dev60 (d0 : Dev nD) : Nat :=
  let c0_i32_1185 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_1184 : BitVec 32 := 1#32
  let v1248 : BitVec 32 := Scalar.muli v7 c1_i32_1184
  let v1249 : BitVec 32 := Scalar.addi c0_i32_1185 v1248
  v1249.toNat
def k0_dev61 (d0 : Dev nD) : Nat :=
  let c0_i32_1206 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1205 : BitVec 32 := 1#32
  let v1267 : BitVec 32 := Scalar.muli v4 c1_i32_1205
  let v1268 : BitVec 32 := Scalar.addi c0_i32_1206 v1267
  v1268.toNat
def k0_dev62 (d0 : Dev nD) : Nat :=
  let c0_i32_1226 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_1225 : BitVec 32 := 1#32
  let v1285 : BitVec 32 := Scalar.muli v7 c1_i32_1225
  let v1286 : BitVec 32 := Scalar.addi c0_i32_1226 v1285
  v1286.toNat
def k0_dev63 (d0 : Dev nD) : Nat :=
  let c0_i32_1247 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1246 : BitVec 32 := 1#32
  let v1304 : BitVec 32 := Scalar.muli v4 c1_i32_1246
  let v1305 : BitVec 32 := Scalar.addi c0_i32_1247 v1304
  v1305.toNat
def k0_dev64 (d0 : Dev nD) : Nat :=
  let c0_i32_1267 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_1266 : BitVec 32 := 1#32
  let v1322 : BitVec 32 := Scalar.muli v7 c1_i32_1266
  let v1323 : BitVec 32 := Scalar.addi c0_i32_1267 v1322
  v1323.toNat
def k0_dev65 (d0 : Dev nD) : Nat :=
  let c0_i32_1288 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1287 : BitVec 32 := 1#32
  let v1341 : BitVec 32 := Scalar.muli v4 c1_i32_1287
  let v1342 : BitVec 32 := Scalar.addi c0_i32_1288 v1341
  v1342.toNat
def k0_dev66 (d0 : Dev nD) : Nat :=
  let c0_i32_1308 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_1307 : BitVec 32 := 1#32
  let v1359 : BitVec 32 := Scalar.muli v7 c1_i32_1307
  let v1360 : BitVec 32 := Scalar.addi c0_i32_1308 v1359
  v1360.toNat
def k0_dev67 (d0 : Dev nD) : Nat :=
  let c0_i32_1329 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1328 : BitVec 32 := 1#32
  let v1378 : BitVec 32 := Scalar.muli v4 c1_i32_1328
  let v1379 : BitVec 32 := Scalar.addi c0_i32_1329 v1378
  v1379.toNat
def k0_dev68 (d0 : Dev nD) : Nat :=
  let c0_i32_1349 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_1348 : BitVec 32 := 1#32
  let v1396 : BitVec 32 := Scalar.muli v7 c1_i32_1348
  let v1397 : BitVec 32 := Scalar.addi c0_i32_1349 v1396
  v1397.toNat
def k0_dev69 (d0 : Dev nD) : Nat :=
  let c0_i32_1370 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1369 : BitVec 32 := 1#32
  let v1415 : BitVec 32 := Scalar.muli v4 c1_i32_1369
  let v1416 : BitVec 32 := Scalar.addi c0_i32_1370 v1415
  v1416.toNat
def k0_dev70 (d0 : Dev nD) : Nat :=
  let c0_i32_1390 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_1389 : BitVec 32 := 1#32
  let v1433 : BitVec 32 := Scalar.muli v7 c1_i32_1389
  let v1434 : BitVec 32 := Scalar.addi c0_i32_1390 v1433
  v1434.toNat
def k0_dev71 (d0 : Dev nD) : Nat :=
  let c0_i32_1411 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1410 : BitVec 32 := 1#32
  let v1452 : BitVec 32 := Scalar.muli v4 c1_i32_1410
  let v1453 : BitVec 32 := Scalar.addi c0_i32_1411 v1452
  v1453.toNat
def k0_dev72 (d0 : Dev nD) : Nat :=
  let c0_i32_1431 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_1430 : BitVec 32 := 1#32
  let v1470 : BitVec 32 := Scalar.muli v7 c1_i32_1430
  let v1471 : BitVec 32 := Scalar.addi c0_i32_1431 v1470
  v1471.toNat
def k0_dev73 (d0 : Dev nD) : Nat :=
  let c0_i32_1452 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1451 : BitVec 32 := 1#32
  let v1489 : BitVec 32 := Scalar.muli v4 c1_i32_1451
  let v1490 : BitVec 32 := Scalar.addi c0_i32_1452 v1489
  v1490.toNat
def k0_dev74 (d0 : Dev nD) : Nat :=
  let c0_i32_1472 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_1471 : BitVec 32 := 1#32
  let v1507 : BitVec 32 := Scalar.muli v7 c1_i32_1471
  let v1508 : BitVec 32 := Scalar.addi c0_i32_1472 v1507
  v1508.toNat
def k0_dev75 (d0 : Dev nD) : Nat :=
  let c0_i32_1493 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1492 : BitVec 32 := 1#32
  let v1526 : BitVec 32 := Scalar.muli v4 c1_i32_1492
  let v1527 : BitVec 32 := Scalar.addi c0_i32_1493 v1526
  v1527.toNat
def k0_dev76 (d0 : Dev nD) : Nat :=
  let c0_i32_1513 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_1512 : BitVec 32 := 1#32
  let v1544 : BitVec 32 := Scalar.muli v7 c1_i32_1512
  let v1545 : BitVec 32 := Scalar.addi c0_i32_1513 v1544
  v1545.toNat
def k0_dev77 (d0 : Dev nD) : Nat :=
  let c0_i32_1534 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1533 : BitVec 32 := 1#32
  let v1563 : BitVec 32 := Scalar.muli v4 c1_i32_1533
  let v1564 : BitVec 32 := Scalar.addi c0_i32_1534 v1563
  v1564.toNat
def k0_dev78 (d0 : Dev nD) : Nat :=
  let c0_i32_1554 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_1553 : BitVec 32 := 1#32
  let v1581 : BitVec 32 := Scalar.muli v7 c1_i32_1553
  let v1582 : BitVec 32 := Scalar.addi c0_i32_1554 v1581
  v1582.toNat
def k0_dev79 (d0 : Dev nD) : Nat :=
  let c0_i32_1575 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1574 : BitVec 32 := 1#32
  let v1600 : BitVec 32 := Scalar.muli v4 c1_i32_1574
  let v1601 : BitVec 32 := Scalar.addi c0_i32_1575 v1600
  v1601.toNat
def k0_dev80 (d0 : Dev nD) : Nat :=
  let c0_i32_1595 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_1594 : BitVec 32 := 1#32
  let v1618 : BitVec 32 := Scalar.muli v7 c1_i32_1594
  let v1619 : BitVec 32 := Scalar.addi c0_i32_1595 v1618
  v1619.toNat
def k0_dev81 (d0 : Dev nD) : Nat :=
  let c0_i32_1616 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1615 : BitVec 32 := 1#32
  let v1637 : BitVec 32 := Scalar.muli v4 c1_i32_1615
  let v1638 : BitVec 32 := Scalar.addi c0_i32_1616 v1637
  v1638.toNat
def k0_dev82 (d0 : Dev nD) : Nat :=
  let c0_i32_1636 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_1635 : BitVec 32 := 1#32
  let v1655 : BitVec 32 := Scalar.muli v7 c1_i32_1635
  let v1656 : BitVec 32 := Scalar.addi c0_i32_1636 v1655
  v1656.toNat
def k0_dev83 (d0 : Dev nD) : Nat :=
  let c0_i32_1657 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1656 : BitVec 32 := 1#32
  let v1674 : BitVec 32 := Scalar.muli v4 c1_i32_1656
  let v1675 : BitVec 32 := Scalar.addi c0_i32_1657 v1674
  v1675.toNat
def k0_dev84 (d0 : Dev nD) : Nat :=
  let c0_i32_1677 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_1676 : BitVec 32 := 1#32
  let v1692 : BitVec 32 := Scalar.muli v7 c1_i32_1676
  let v1693 : BitVec 32 := Scalar.addi c0_i32_1677 v1692
  v1693.toNat
def k0_dev85 (d0 : Dev nD) : Nat :=
  let c0_i32_1698 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1697 : BitVec 32 := 1#32
  let v1711 : BitVec 32 := Scalar.muli v4 c1_i32_1697
  let v1712 : BitVec 32 := Scalar.addi c0_i32_1698 v1711
  v1712.toNat
def k0_dev86 (d0 : Dev nD) : Nat :=
  let c0_i32_1718 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_1717 : BitVec 32 := 1#32
  let v1729 : BitVec 32 := Scalar.muli v7 c1_i32_1717
  let v1730 : BitVec 32 := Scalar.addi c0_i32_1718 v1729
  v1730.toNat
def k0_dev87 (d0 : Dev nD) : Nat :=
  let c0_i32_1739 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1738 : BitVec 32 := 1#32
  let v1748 : BitVec 32 := Scalar.muli v4 c1_i32_1738
  let v1749 : BitVec 32 := Scalar.addi c0_i32_1739 v1748
  v1749.toNat
def k0_dev88 (d0 : Dev nD) : Nat :=
  let c0_i32_1759 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_1758 : BitVec 32 := 1#32
  let v1766 : BitVec 32 := Scalar.muli v7 c1_i32_1758
  let v1767 : BitVec 32 := Scalar.addi c0_i32_1759 v1766
  v1767.toNat
def k0_dev89 (d0 : Dev nD) : Nat :=
  let c0_i32_1780 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1779 : BitVec 32 := 1#32
  let v1785 : BitVec 32 := Scalar.muli v4 c1_i32_1779
  let v1786 : BitVec 32 := Scalar.addi c0_i32_1780 v1785
  v1786.toNat
def k0_dev90 (d0 : Dev nD) : Nat :=
  let c0_i32_1800 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_1799 : BitVec 32 := 1#32
  let v1803 : BitVec 32 := Scalar.muli v7 c1_i32_1799
  let v1804 : BitVec 32 := Scalar.addi c0_i32_1800 v1803
  v1804.toNat
abbrev stage0_0 : Fin 1 → Memref sig .tc .vmem S256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S256x512 : Shape := ⟨2, ![256, 512]⟩
abbrev S512x65536 : Shape := ⟨2, ![512, 65536]⟩
abbrev S256x65536 : Shape := ⟨2, ![256, 65536]⟩
abbrev S_ : Shape := ⟨0, ![]⟩
abbrev S256 : Shape := ⟨1, ![256]⟩
abbrev S256x1 : Shape := ⟨2, ![256, 1]⟩

abbrev nBuf : Space → Nat
  | .hbm => 14
  | .vmem => 0
  | .smem => 0
  | _ => 0

abbrev bufTy : (tb : Table) → Fin (tcTables nBuf tb) → BufTy
  | .hbm, ⟨0, _⟩ => ⟨S256x512, .f32⟩
  | .hbm, ⟨1, _⟩ => ⟨S512x65536, .f32⟩
  | .hbm, ⟨2, _⟩ => ⟨S256x65536, .f32⟩
  | .hbm, ⟨3, _⟩ => ⟨S_, .f32⟩
  | .hbm, ⟨4, _⟩ => ⟨S256, .f32⟩
  | .hbm, ⟨5, _⟩ => ⟨S256x1, .f32⟩
  | .hbm, ⟨6, _⟩ => ⟨S256x65536, .f32⟩
  | .hbm, ⟨7, _⟩ => ⟨S256x65536, .f32⟩
  | .hbm, ⟨8, _⟩ => ⟨S256x65536, .f32⟩
  | .hbm, ⟨9, _⟩ => ⟨S_, .f32⟩
  | .hbm, ⟨10, _⟩ => ⟨S256, .f32⟩
  | .hbm, ⟨11, _⟩ => ⟨S256x1, .f32⟩
  | .hbm, ⟨12, _⟩ => ⟨S256x65536, .f32⟩
  | .hbm, ⟨13, _⟩ => ⟨S256x65536, .f32⟩
  | _, _ => ⟨S256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Proof.ProtoIdeal.lean ====
/-
  The protocol of the all-gathering softmax kernel: the cells its devices meet at, the parts of the arrays that
  change hands there, what those parts hold, and the schedule that says who pays what to whom.
-/
module
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Rounds.Family
public import Idealize.ShloMosaic.Lib.Ring
public import Idealize.ShloMosaic.Lib.Pointwise.Index
public import Idealize.ShloMosaic.Lib.ValueLayout
public import Idealize.ShloMosaic.Lib.Tactic
@[expose] public section
noncomputable section
namespace Cert.SoftmaxIdeal
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]

abbrev UB : Type := URounds (GSem nD τ sig) (Fin 16)
abbrev UU : Type := UR sig nD τ × UB
local notation "𝕄" => MT nD τ sig Unit (Elt F) ℕ UU ℕ
abbrev EP : Emb (UR sig nD τ) (MT nD τ sig Unit (Elt F) ℕ UU ℕ) := embL
abbrev ER : Emb UB (MT nD τ sig Unit (Elt F) ℕ UU ℕ) := embR
variable (m : (ℓ : Loc nD τ sig) → Buf (Elt F) ℓ) (ρ : Dev nD → PrngReg)

/-- The machine at launch: the given memory, every counter at zero. -/
def s₀ : MemSt nD τ sig (Elt F) := ⟨m, fun _ => 0, ρ⟩
abbrev 𝒱₀ : Variants := Variants.none

/-! ## The cells -/

/-- A transfer of the ring: its direction, its quarter within the direction's half, its hop. -/
abbrev RIx := Fin 2 × Fin 2 × Fin 15
/-- The kernel's own transfer semaphores: statistics sends, statistics receipts (by the sender), ring sends, ring
    receipts, the local copy. -/
abbrev DIx := Fin 15 ⊕ (Fin 16 ⊕ (RIx ⊕ (RIx ⊕ Unit)))
instance : DecidableEq (Fin 16 ⊕ (RIx ⊕ (RIx ⊕ Unit))) := instDecidableEqSum
instance : DecidableEq DIx := instDecidableEqSum
/-- The barrier and the transfer semaphores. -/
abbrev KIx := Unit ⊕ DIx

abbrev dMsS (k : Fin 15) : DIx := .inl k
abbrev dMsR (j : Fin 16) : DIx := .inr (.inl j)
abbrev dRS (x : RIx) : DIx := .inr (.inr (.inl x))
abbrev dRR (x : RIx) : DIx := .inr (.inr (.inr (.inl x)))
abbrev dCs : DIx := .inr (.inr (.inr (.inr ())))

/-- The semaphore's number. -/
def dNum : DIx → ℕ
  | .inl k => 2 + k.val
  | .inr (.inl j) => 17 + j.val
  | .inr (.inr (.inl (d, q, h))) => 33 + 60 * d.val + 2 * h.val + q.val
  | .inr (.inr (.inr (.inl (d, q, h)))) => 63 + 60 * d.val + 2 * h.val + q.val
  | .inr (.inr (.inr (.inr _))) => 153

theorem dNum_lt (i : DIx) : dNum i < 154 := by
  rcases i with k | j | ⟨d, q, h⟩ | ⟨d, q, h⟩ | u <;> simp only [dNum] <;> omega

def dSem (i : DIx) : DmaSem sig := ⟨dNum i, dNum_lt i⟩

/-- The semaphore a number belongs to. -/
def kindOf (n : ℕ) : Option DIx :=
  if h0 : n < 2 then none
  else if h1 : n < 17 then some (dMsS ⟨n - 2, by omega⟩)
  else if h2 : n < 33 then some (dMsR ⟨n - 17, by omega⟩)
  else if h3 : n < 153 then
    (if (n - 33) % 60 < 30 then
      some (dRS (⟨(n - 33) / 60, by omega⟩, ⟨(n - 33) % 2, by omega⟩, ⟨((n - 33) % 30) / 2, by omega⟩))
    else some (dRR (⟨(n - 33) / 60, by omega⟩, ⟨(n - 33) % 2, by omega⟩, ⟨((n - 33) % 30) / 2, by omega⟩)))
  else if n = 153 then some dCs else none

theorem kindOf_dNum (i : DIx) : kindOf (dNum i) = some i := by
  rcases i with k | j | ⟨d, q, h⟩ | ⟨d, q, h⟩ | u
  · revert k; decide +kernel
  · revert j; decide +kernel
  · revert d q h; decide +kernel
  · revert d q h; decide +kernel
  · rfl

theorem dNum_injective : Function.Injective dNum := fun i j h =>
  Option.some.inj ((kindOf_dNum i).symm.trans ((congrArg kindOf h).trans (kindOf_dNum j)))
theorem dSem_injective : Function.Injective dSem := fun i j h => dNum_injective (congrArg Fin.val h)

/-- The barrier's semaphore. -/
abbrev barS : Sem sig := (SemArray.scalar (sig.barrier 0 rfl) : Sems sig S_).sem

def osem (i : DIx) : SemLoc sig := .dma (dSem i)
theorem osem_injective : Function.Injective osem := fun i j h => dSem_injective (by injection h)

def ksem : KIx → SemLoc sig
  | .inl _ => .reg barS
  | .inr i => osem i
theorem ksem_injective : Function.Injective ksem := by
  intro a b h
  rcases a with a | a <;> rcases b with b | b
  · rfl
  · exact nomatch h
  · exact nomatch h
  · exact congrArg Sum.inr (osem_injective h)

def barCell (c : Dev nD) : GSem nD τ sig := ((c : Thread nD τ), .reg barS)
def dCell (c : Dev nD) (i : DIx) : GSem nD τ sig := ((c : Thread nD τ), osem i)
def kcell (ck : Dev nD × KIx) : GSem nD τ sig := ((ck.1 : Thread nD τ), ksem ck.2)
theorem kcell_bar (c : Dev nD) : kcell (c, .inl ()) = barCell c := rfl
theorem kcell_d (c : Dev nD) (i : DIx) : kcell (c, .inr i) = dCell c i := rfl

theorem kcell_injective : Function.Injective kcell := by
  rintro ⟨c, k⟩ ⟨c', k'⟩ h
  have h1 : c = c' := congrArg (fun g : GSem nD τ sig => g.1.1) h
  have h2 : k = k' := ksem_injective (congrArg (fun g : GSem nD τ sig => g.2) h)
  rw [h1, h2]

/-! ## The devices of the ring -/

/-- The device `k + 1` places on. -/
def peer (c : Dev nD) (k : Fin 15) : Dev nD := (c + k.succ : Fin 16)
/-- The neighbour a direction's transfers go to: on, or back. -/
def nb (d : Fin 2) (c : Dev nD) : Dev nD := if d = 0 then (c + 1 : Fin 16) else (c - 1 : Fin 16)
/-- The neighbour a direction's transfers come from. -/
def pv (d : Fin 2) (c : Dev nD) : Dev nD := if d = 0 then (c - 1 : Fin 16) else (c + 1 : Fin 16)
/-- The device whose quarter is held after `e` receipts of a direction. -/
def org (d : Fin 2) (c : Dev nD) (e : ℕ) : Dev nD :=
  if d = 0 then (c - Fin.ofNat 16 e : Fin 16) else (c + Fin.ofNat 16 e : Fin 16)

theorem nb_pv (d : Fin 2) (c : Dev nD) : nb d (pv d c) = c := by revert d c; decide
theorem pv_nb (d : Fin 2) (c : Dev nD) : pv d (nb d c) = c := by revert d c; decide
theorem org_zero (d : Fin 2) (c : Dev nD) : org d c 0 = c := by revert d c; decide
theorem org_nb (d : Fin 2) (c : Dev nD) (h : Fin 15) : org d (nb d c) (h.val + 1) = org d c h.val := by
  revert d c h; decide +kernel
theorem peer_val (c : Dev nD) (k : Fin 15) : (peer c k).val = (c.val + (k.val + 1)) % 16 := by
  revert c k; decide +kernel
theorem peer_ne (c : Dev nD) (k : Fin 15) : peer c k ≠ c := by revert c k; decide +kernel
theorem peer_rev (c : Dev nD) (k : Fin 15) : peer (peer c k) k.rev = c := by revert c k; decide +kernel
theorem peer_injective (c : Dev nD) : Function.Injective (peer c) := by revert c; decide +kernel

/-! ## The parts of the arrays that change hands -/

abbrev oM : Memref sig .tc .hbm S256x65536 .f32 := Memref.whole main_v1
abbrev cM : Memref sig .tc .vmem S1x256x4096 .f32 := Memref.whole cc0_scratch0
abbrev mM : Memref sig .tc .vmem S16x256x128 .f32 := Memref.whole cc0_scratch1

theorem row_inb (j : Fin 16) : ∀ a, (![j.val, 0, 0] : Fin 3 → ℕ) a + S1x256x128.size a ≤ S16x256x128.size a := by
  have := j.isLt; intro a; fin_cases a <;> simp [S1x256x128, S16x256x128] <;> omega
/-- Row `j` of the table of statistics. -/
def rowV (j : Fin 16) : Memref sig .tc .vmem S256x128 .f32 :=
  (mM.slice (Rect.unit (s := S16x256x128) ![j.val, 0, 0] S1x256x128.size (row_inb j)) (fun _ => rfl)).squeeze S256x128
    squeezes_S1x256x128_S256x128

theorem q_inb (j : Fin 16) (t : Fin 4) :
    ∀ a, (![0, 4096 * j.val + 1024 * t.val] : Fin 2 → ℕ) a + S256x1024.size a ≤ S256x65536.size a := by
  have := j.isLt; have := t.isLt; intro a; fin_cases a <;> simp [S256x1024, S256x65536] <;> omega
/-- Quarter `t` of device `j`'s columns of the result. -/
def qV (j : Fin 16) (t : Fin 4) : Memref sig .tc .hbm S256x1024 .f32 :=
  oM.slice (Rect.unit (s := S256x65536) ![0, 4096 * j.val + 1024 * t.val] S256x1024.size (q_inb j t)) (fun _ => rfl)

theorem b_inb (j : Fin 16) :
    ∀ a, (![0, 4096 * j.val] : Fin 2 → ℕ) a + S256x4096.size a ≤ S256x65536.size a := by
  have := j.isLt; intro a; fin_cases a <;> simp [S256x4096, S256x65536] <;> omega
/-- Device `j`'s columns of the result. -/
def bV (j : Fin 16) : Memref sig .tc .hbm S256x4096 .f32 :=
  oM.slice (Rect.unit (s := S256x65536) ![0, 4096 * j.val] S256x4096.size (b_inb j)) (fun _ => rfl)

theorem cq_inb (t : Fin 4) :
    ∀ a, (![0, 0, 1024 * t.val] : Fin 3 → ℕ) a + S1x256x1024.size a ≤ S1x256x4096.size a := by
  have := t.isLt; intro a; fin_cases a <;> simp [S1x256x1024, S1x256x4096] <;> omega
/-- Quarter `t` of the buffer a device keeps its own columns in. -/
def cqV (t : Fin 4) : Memref sig .tc .vmem S256x1024 .f32 :=
  (cM.slice (Rect.unit (s := S1x256x4096) ![0, 0, 1024 * t.val] S1x256x1024.size (cq_inb t)) (fun _ => rfl)).squeeze S256x1024
    squeezes_S1x256x1024_S256x1024
/-- That buffer whole, as the local copy names it. -/
def cV : Memref sig .tc .vmem S256x4096 .f32 :=
  (cM.slice (Rect.unit (s := S1x256x4096) ![0, 0, 0] S1x256x4096.size inb_S1x256x4096_S1x256x4096_0_0_0) (fun _ => rfl)).squeeze
    S256x4096 squeezes_S1x256x4096_S256x4096

theorem rowV_of {off : Fin 3 → ℕ} {inb} (j : Fin 16) (h : off = ![j.val, 0, 0]) :
    (mM.slice (Rect.unit (s := S16x256x128) off S1x256x128.size inb) (fun _ => rfl)).squeeze S256x128
      squeezes_S1x256x128_S256x128 = rowV j := by subst h; rfl
theorem qV_of {off : Fin 2 → ℕ} {inb} (j : Fin 16) (t : Fin 4) (h : off = ![0, 4096 * j.val + 1024 * t.val]) :
    oM.slice (Rect.unit (s := S256x65536) off S256x1024.size inb) (fun _ => rfl) = qV j t := by subst h; rfl
theorem bV_of {off : Fin 2 → ℕ} {inb} (j : Fin 16) (h : off = ![0, 4096 * j.val]) :
    oM.slice (Rect.unit (s := S256x65536) off S256x4096.size inb) (fun _ => rfl) = bV j := by subst h; rfl

theorem rowV_set (j : Fin 16) : (rowV j).view.set
    = (Rect.unit (s := S16x256x128) ![j.val, 0, 0] S1x256x128.size (row_inb j)).set :=
  (View.set_reshape _ _).trans (View.set_slice_whole _ _)
theorem qV_set (j : Fin 16) (t : Fin 4) : (qV j t).view.set
    = (Rect.unit (s := S256x65536) ![0, 4096 * j.val + 1024 * t.val] S256x1024.size (q_inb j t)).set :=
  View.set_slice_whole _ _
theorem bV_set (j : Fin 16) : (bV j).view.set
    = (Rect.unit (s := S256x65536) ![0, 4096 * j.val] S256x4096.size (b_inb j)).set :=
  View.set_slice_whole _ _
theorem cqV_set (t : Fin 4) : (cqV t).view.set
    = (Rect.unit (s := S1x256x4096) ![0, 0, 1024 * t.val] S1x256x1024.size (cq_inb t)).set :=
  (View.set_reshape _ _).trans (View.set_slice_whole _ _)

theorem mem_row {j : Fin 16} {i : S16x256x128.Idx} : Iff (i ∈ (rowV j).view.set) ((i 0).val = j.val) := by
  rw [rowV_set]
  refine Rect.mem_set_unit.trans ⟨fun h => ?_, fun h a => ?_⟩
  · have h0 := h 0; simp [S1x256x128] at h0; omega
  · have h1 : (i 1).val < 256 := (i 1).isLt
    have h2 : (i 2).val < 128 := (i 2).isLt
    fin_cases a <;> simp [S1x256x128] <;> omega

theorem mem_q {j : Fin 16} {t : Fin 4} {i : S256x65536.Idx} :
    Iff (i ∈ (qV j t).view.set) ((i 1).val / 1024 = 4 * j.val + t.val) := by
  rw [qV_set]
  refine Rect.mem_set_unit.trans ⟨fun h => ?_, fun h a => ?_⟩
  · have h0 := h 1; simp [S256x1024] at h0; omega
  · have h1 : (i 0).val < 256 := (i 0).isLt
    fin_cases a <;> simp [S256x1024] <;> omega

theorem mem_b {j : Fin 16} {i : S256x65536.Idx} : Iff (i ∈ (bV j).view.set) ((i 1).val / 4096 = j.val) := by
  rw [bV_set]
  refine Rect.mem_set_unit.trans ⟨fun h => ?_, fun h a => ?_⟩
  · have h0 := h 1; simp [S256x4096] at h0; omega
  · have h1 : (i 0).val < 256 := (i 0).isLt
    fin_cases a <;> simp [S256x4096] <;> omega

theorem mem_cq {t : Fin 4} {i : S1x256x4096.Idx} : Iff (i ∈ (cqV t).view.set) ((i 2).val / 1024 = t.val) := by
  rw [cqV_set]
  refine Rect.mem_set_unit.trans ⟨fun h => ?_, fun h a => ?_⟩
  · have h0 := h 2; simp [S1x256x1024] at h0; omega
  · have h1 : (i 0).val < 1 := (i 0).isLt
    have h2 : (i 1).val < 256 := (i 1).isLt
    fin_cases a <;> simp [S1x256x1024] <;> omega

theorem cV_set : cV.view.set = Finset.univ := by
  refine ((View.set_reshape _ _).trans (View.set_slice_whole _ _)).trans ?_
  refine Finset.eq_univ_iff_forall.mpr fun i => Rect.mem_set_unit.mpr fun a => ⟨?_, ?_⟩
  · fin_cases a <;> exact Nat.zero_le _
  · exact Nat.lt_of_lt_of_le (i a).isLt (Nat.le_add_left _ _)

end Cert.SoftmaxIdeal
-- ==== Proof.SchedIdeal.lean ====
/-
  What the parts of the arrays hold, who pays what to whom, and in which order the cells are waited for.
-/
module
public import proofs.«01_k».proof.Proof.ProtoIdeal
@[expose] public section
noncomputable section
namespace Cert.SoftmaxIdeal
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers (shareTok shareDrop pointsTo_toks_split pointsTo_toks_join)
variable {F : FTy → Type} [FloatOps F]
local notation "𝕄" => MT nD τ sig Unit (Elt F) ℕ UU ℕ
variable (m : (ℓ : Loc nD τ sig) → Buf (Elt F) ℓ) (ρ : Dev nD → PrngReg)

/-! ## What the parts hold -/

/-- Device `c`'s copy of `x`. -/
def xs (c : Dev nD) : Vec F S256x512 .f32 :=
  (win0_0.blk (0 : Fin 1)).view.read (Elt F) ((s₀ m ρ).mem ((c : Thread nD τ).loc main_arg0))
/-- Device `c`'s columns of `W`. -/
def ws (c : Dev nD) : Vec F S512x4096 .f32 :=
  (win0_1.blk (0 : Fin 1)).view.read (Elt F) ((s₀ m ρ).mem ((c : Thread nD τ).loc main_arg1))
/-- Its logits, and each row's largest. -/
def lg (c : Dev nD) : FVec F S256x4096 .f32 := k0_pay1 (xs m ρ c) (ws m ρ c)
def mx (c : Dev nD) : FVec F S256x1 .f32 := k0_pay2 (xs m ρ c) (ws m ρ c)
/-- Its exponentials, before the rescaling. -/
def ex (c : Dev nD) : FVec F S1x256x4096 .f32 := k0_pay4 (lg m ρ c) (mx m ρ c)
/-- The table of every device's statistics, as every device comes to hold it. -/
def MS : S16x256x128.Idx → F .f32 := fun i =>
  k0_pay5 (lg m ρ (i 0)) (mx m ρ (i 0)) (ix3 (0 : Fin 1) (i 1) (i 2))
/-- A column of one row of the table. -/
def ld (off : Fin 3 → ℕ) (inb : ∀ a, off a + S1x256x1.size a ≤ S16x256x128.size a) : Vec F S1x256x1 .f32 :=
  mM.view.readAt (Elt F) (Rect.unit (s := S16x256x128) off S1x256x1.size inb).toLoadRect (MS m ρ)
/-- The running maximum and the running sum over the table, at the points the kernel is cut at. -/
def a532 : FVec F S256x1 .f32 := k0_pay6 (ld m ρ ![0, 0, 0] inb_S16x256x128_S1x256x1_0_0_0) (ld m ρ ![1, 0, 0] inb_S16x256x128_S1x256x1_1_0_0) (ld m ρ ![2, 0, 0] inb_S16x256x128_S1x256x1_2_0_0)
def a562 : FVec F S256x1 .f32 := k0_pay7 (a532 m ρ) (ld m ρ ![3, 0, 0] inb_S16x256x128_S1x256x1_3_0_0) (ld m ρ ![4, 0, 0] inb_S16x256x128_S1x256x1_4_0_0) (ld m ρ ![5, 0, 0] inb_S16x256x128_S1x256x1_5_0_0) (ld m ρ ![6, 0, 0] inb_S16x256x128_S1x256x1_6_0_0) (ld m ρ ![7, 0, 0] inb_S16x256x128_S1x256x1_7_0_0) (ld m ρ ![8, 0, 0] inb_S16x256x128_S1x256x1_8_0_0) (ld m ρ ![9, 0, 0] inb_S16x256x128_S1x256x1_9_0_0) (ld m ρ ![10, 0, 0] inb_S16x256x128_S1x256x1_10_0_0) (ld m ρ ![11, 0, 0] inb_S16x256x128_S1x256x1_11_0_0) (ld m ρ ![12, 0, 0] inb_S16x256x128_S1x256x1_12_0_0)
def a571 : FVec F S256x1 .f32 := k0_pay8 (a562 m ρ) (ld m ρ ![13, 0, 0] inb_S16x256x128_S1x256x1_13_0_0) (ld m ρ ![14, 0, 0] inb_S16x256x128_S1x256x1_14_0_0) (ld m ρ ![15, 0, 0] inb_S16x256x128_S1x256x1_15_0_0)
def a596 : FVec F S256x1 .f32 := k0_pay9 (a562 m ρ) (ld m ρ ![13, 0, 0] inb_S16x256x128_S1x256x1_13_0_0) (ld m ρ ![14, 0, 0] inb_S16x256x128_S1x256x1_14_0_0) (ld m ρ ![15, 0, 0] inb_S16x256x128_S1x256x1_15_0_0) (ld m ρ ![0, 0, 1] inb_S16x256x128_S1x256x1_0_0_1) (ld m ρ ![0, 0, 0] inb_S16x256x128_S1x256x1_0_0_0) (ld m ρ ![1, 0, 1] inb_S16x256x128_S1x256x1_1_0_1) (ld m ρ ![1, 0, 0] inb_S16x256x128_S1x256x1_1_0_0) (ld m ρ ![2, 0, 1] inb_S16x256x128_S1x256x1_2_0_1) (ld m ρ ![2, 0, 0] inb_S16x256x128_S1x256x1_2_0_0)
def a628 : FVec F S256x1 .f32 := k0_pay10 (a571 m ρ) (a596 m ρ) (ld m ρ ![3, 0, 1] inb_S16x256x128_S1x256x1_3_0_1) (ld m ρ ![3, 0, 0] inb_S16x256x128_S1x256x1_3_0_0) (ld m ρ ![4, 0, 1] inb_S16x256x128_S1x256x1_4_0_1) (ld m ρ ![4, 0, 0] inb_S16x256x128_S1x256x1_4_0_0) (ld m ρ ![5, 0, 1] inb_S16x256x128_S1x256x1_5_0_1) (ld m ρ ![5, 0, 0] inb_S16x256x128_S1x256x1_5_0_0) (ld m ρ ![6, 0, 1] inb_S16x256x128_S1x256x1_6_0_1) (ld m ρ ![6, 0, 0] inb_S16x256x128_S1x256x1_6_0_0)
def a660 : FVec F S256x1 .f32 := k0_pay11 (a571 m ρ) (a628 m ρ) (ld m ρ ![7, 0, 1] inb_S16x256x128_S1x256x1_7_0_1) (ld m ρ ![7, 0, 0] inb_S16x256x128_S1x256x1_7_0_0) (ld m ρ ![8, 0, 1] inb_S16x256x128_S1x256x1_8_0_1) (ld m ρ ![8, 0, 0] inb_S16x256x128_S1x256x1_8_0_0) (ld m ρ ![9, 0, 1] inb_S16x256x128_S1x256x1_9_0_1) (ld m ρ ![9, 0, 0] inb_S16x256x128_S1x256x1_9_0_0) (ld m ρ ![10, 0, 1] inb_S16x256x128_S1x256x1_10_0_1) (ld m ρ ![10, 0, 0] inb_S16x256x128_S1x256x1_10_0_0)
def a662 : FVec F S256x1 .f32 := k0_pay12 (ld m ρ ![11, 0, 1] inb_S16x256x128_S1x256x1_11_0_1)
def a692 : FVec F S256x1 .f32 := k0_pay13 (a571 m ρ) (a660 m ρ) (a662 m ρ) (ld m ρ ![11, 0, 0] inb_S16x256x128_S1x256x1_11_0_0) (ld m ρ ![12, 0, 1] inb_S16x256x128_S1x256x1_12_0_1) (ld m ρ ![12, 0, 0] inb_S16x256x128_S1x256x1_12_0_0) (ld m ρ ![13, 0, 1] inb_S16x256x128_S1x256x1_13_0_1) (ld m ρ ![13, 0, 0] inb_S16x256x128_S1x256x1_13_0_0) (ld m ρ ![14, 0, 1] inb_S16x256x128_S1x256x1_14_0_1) (ld m ρ ![14, 0, 0] inb_S16x256x128_S1x256x1_14_0_0)
def a694 : FVec F S256x1 .f32 := k0_pay14 (ld m ρ ![15, 0, 1] inb_S16x256x128_S1x256x1_15_0_1)
def a698 : FVec F S256x1 .f32 := k0_pay15 (a571 m ρ) (ld m ρ ![15, 0, 0] inb_S16x256x128_S1x256x1_15_0_0)
/-- Device `c`'s columns of the result. -/
def cf (c : Dev nD) : FVec F S1x256x4096 .f32 := k0_pay16 (mx m ρ c) (a571 m ρ) (a692 m ρ) (a694 m ρ) (a698 m ρ) (ex m ρ c)
/-- The result, the same on every device. -/
def G : S256x65536.Idx → F .f32 := fun i =>
  cf m ρ (⟨(i 1).val / 4096, by have h : (i 1).val < 65536 := (i 1).isLt; omega⟩ : Fin 16)
    (ix3 (0 : Fin 1) (i 0) (⟨(i 1).val % 4096, Nat.mod_lt _ (by decide)⟩ : Fin 4096))

/-! ## Holding a part -/

def rowPts (c : Dev nD) (j : Fin 16) (q : PosShare TreeShare) (f : S16x256x128.Idx → F .f32) : sProp 𝕄 :=
  (rowV j).view.loc (c : Thread nD τ) ↦[(rowV j).view.set]{q} f
def qPts (c : Dev nD) (j : Fin 16) (t : Fin 4) (f : S256x65536.Idx → F .f32) : sProp 𝕄 :=
  (qV j t).view.loc (c : Thread nD τ) ↦[(qV j t).view.set]{fullShare} f
def bPts (c : Dev nD) (j : Fin 16) (f : S256x65536.Idx → F .f32) : sProp 𝕄 :=
  (bV j).view.loc (c : Thread nD τ) ↦[(bV j).view.set]{fullShare} f
def cqPts (c : Dev nD) (t : Fin 4) (q : PosShare TreeShare) (f : S1x256x4096.Idx → F .f32) : sProp 𝕄 :=
  (cqV t).view.loc (c : Thread nD τ) ↦[(cqV t).view.set]{q} f
def cPts (c : Dev nD) (q : PosShare TreeShare) (f : S1x256x4096.Idx → F .f32) : sProp 𝕄 :=
  cV.view.loc (c : Thread nD τ) ↦[cV.view.set]{q} f

omit [FloatOps F] in
instance rowPts_storable (c j q f) : BI.Storable (upEmb : UEmb _ 𝕄) (rowPts (F := F) c j q f) := by unfold rowPts; exact BI.Region.storable_held ..
omit [FloatOps F] in
instance qPts_storable (c j t f) : BI.Storable (upEmb : UEmb _ 𝕄) (qPts (F := F) c j t f) := by unfold qPts; exact BI.Region.storable_held ..
omit [FloatOps F] in
instance bPts_storable (c j f) : BI.Storable (upEmb : UEmb _ 𝕄) (bPts (F := F) c j f) := by unfold bPts; exact BI.Region.storable_held ..
omit [FloatOps F] in
instance cqPts_storable (c t q f) : BI.Storable (upEmb : UEmb _ 𝕄) (cqPts (F := F) c t q f) := by unfold cqPts; exact BI.Region.storable_held ..
omit [FloatOps F] in
instance cPts_storable (c q f) : BI.Storable (upEmb : UEmb _ 𝕄) (cPts (F := F) c q f) := by unfold cPts; exact BI.Region.storable_held ..

/-- The quarter of a device's columns a direction and a number within its half name. -/
def tq (d q : Fin 2) : Fin 4 := ⟨2 * d.val + q.val, by omega⟩

/-- What a device has of a stream after `e` receipts: its own columns first, then what came. -/
def held (d q : Fin 2) (c : Dev nD) : ℕ → sProp 𝕄
  | 0 => cqPts c (tq d q) fullShare.right (cf m ρ c)
  | e + 1 => qPts c (org d c (e + 1)) (tq d q) (G m ρ)
instance held_storable (d q c e) : BI.Storable (upEmb : UEmb _ 𝕄) (held m ρ d q c e) := by
  cases e <;> (unfold held; infer_instance)

/-- The part of the result device `p` gives up to the neighbour that sends to it in direction `d`. -/
def outLent (d : Fin 2) (p : Dev nD) : sProp 𝕄 :=
  bigSep (Finset.univ : Finset (Fin 2 × Fin 15)) fun x => iprop(∃ f, qPts (F := F) p (org d p (x.2.val + 1)) (tq d x.1) f)
omit [FloatOps F] in
instance outLent_storable (d p) : BI.Storable (upEmb : UEmb _ 𝕄) (outLent (F := F) d p) := by unfold outLent; infer_instance

/-- What device `p` gives device `c` with its barrier signal: the row of its table `c` writes, and to each
    neighbour the columns of the result that neighbour writes. -/
def barPay (p c : Dev nD) : sProp 𝕄 :=
  iprop((∃ f, rowPts (F := F) p c fullShare f) ∗ (if p = nb 0 c then outLent 0 p else iprop(emp))
    ∗ (if p = nb 1 c then outLent 1 p else iprop(emp)))
omit [FloatOps F] in
instance barPay_storable (p c) : BI.Storable (upEmb : UEmb _ 𝕄) (barPay (F := F) p c) := by
  unfold barPay; split <;> split <;> infer_instance

/-- What a transfer hands over when it lands or has left. -/
def dPay (c : Dev nD) : DIx → sProp 𝕄
  | .inl k => rowPts c c (shareTok fullShare 15 k) (MS m ρ)
  | .inr (.inl j) => rowPts c j fullShare (MS m ρ)
  | .inr (.inr (.inl (d, q, h))) => held m ρ d q c h.val
  | .inr (.inr (.inr (.inl (d, q, h)))) => held m ρ d q c (h.val + 1)
  | .inr (.inr (.inr (.inr _))) => iprop(bPts c c (G m ρ) ∗ cPts c fullShare.left (cf m ρ c))
instance dPay_storable (c i) : BI.Storable (upEmb : UEmb _ 𝕄) (dPay m ρ c i) := by
  rcases i with k | j | ⟨d, q, h⟩ | ⟨d, q, h⟩ | u <;> (unfold dPay; infer_instance)

/-! ## The schedule -/

/-- A statistics row's size, a quarter's, a block's, as transfers count. -/
abbrev Nms : ℕ := (rowV 0).view.dmaCredit
abbrev Nq : ℕ := (qV 0 0).view.dmaCredit
abbrev Nb : ℕ := (bV 0).view.dmaCredit
theorem Nms_pos : 0 < Nms := View.dmaCredit_pos _ (by decide)
theorem Nq_pos : 0 < Nq := View.dmaCredit_pos _ (by decide)
theorem Nb_pos : 0 < Nb := View.dmaCredit_pos _ (by decide)

def dAmt : DIx → ℕ
  | .inl _ => Nms
  | .inr (.inl _) => Nms
  | .inr (.inr (.inl _)) => Nq
  | .inr (.inr (.inr (.inl _))) => Nq
  | .inr (.inr (.inr (.inr _))) => Nb
theorem dAmt_pos (i : DIx) : 0 < dAmt i := by
  rcases i with k | j | x | x | u
  · exact Nms_pos
  · exact Nms_pos
  · exact Nq_pos
  · exact Nq_pos
  · exact Nb_pos

/-- The duties of a transfer semaphore: one, save that no one sends a device its own statistics. -/
def dDuties (c : Dev nD) : DIx → Finset (Fin 16)
  | .inr (.inl j) => if j = c then ∅ else {0}
  | _ => {0}

/-- The duties of the barrier: one for each other device, named by it. -/
def barDuties (c : Dev nD) : Finset (Fin 16) := Finset.univ.map ⟨peer c, peer_injective c⟩

def gDuties (g : GSem nD τ sig) : Finset (Fin 16) :=
  match g.2 with
  | .reg _ => barDuties g.1.1
  | .dma s => match kindOf s.val with
    | none => ∅
    | some i => dDuties g.1.1 i
def gAmount (g : GSem nD τ sig) : ℕ :=
  match g.2 with
  | .reg _ => 1
  | .dma s => match kindOf s.val with
    | none => 1
    | some i => dAmt i
def gPayload (g : GSem nD τ sig) (d : Fin 16) : sProp 𝕄 :=
  match g.2 with
  | .reg _ => barPay d g.1.1
  | .dma s => match kindOf s.val with
    | none => iprop(emp)
    | some i => dPay m ρ g.1.1 i

theorem gAmount_pos (g : GSem nD τ sig) : 0 < gAmount g := by
  unfold gAmount; split
  · exact Nat.one_pos
  · split
    · exact Nat.one_pos
    · exact dAmt_pos _

def Rd : Schedule (GSem nD τ sig) (Fin 16) 𝕄 where
  duties g r := if r = 0 ∧ g.1.2 = .tc then gDuties g else ∅
  amount g _ _ := gAmount g
  payload g _ d := gPayload m ρ g d
  amount_pos g _ _ _ := gAmount_pos g

instance Rd_payload_storable (g : GSem nD τ sig) (r : ℕ) (d : Fin 16) :
    BI.Storable (upEmb : UEmb _ 𝕄) ((Rd m ρ).payload g r d) := by
  show BI.Storable _ (gPayload m ρ g d)
  unfold gPayload; split
  · infer_instance
  · split <;> infer_instance

theorem duties_bar (c : Dev nD) : (Rd m ρ).duties (barCell c) 0 = barDuties c := by
  dsimp only [Rd]; exact if_pos ⟨rfl, rfl⟩
theorem gDuties_d (c : Dev nD) (i : DIx) : gDuties (dCell c i) = dDuties c i := by
  show (match kindOf (dNum i) with | none => (∅ : Finset (Fin 16)) | some i => dDuties c i) = _
  rw [kindOf_dNum]
theorem duties_d (c : Dev nD) (i : DIx) : (Rd m ρ).duties (dCell c i) 0 = dDuties c i := by
  rw [← gDuties_d]; dsimp only [Rd]; exact if_pos ⟨rfl, rfl⟩
theorem duties_later (g : GSem nD τ sig) {r : ℕ} (h : r ≠ 0) : (Rd m ρ).duties g r = ∅ := by
  exact if_neg fun h' => h h'.1
theorem amount_bar (c : Dev nD) (r d) : (Rd m ρ).amount (barCell c) r d = 1 := rfl
theorem amount_d (c : Dev nD) (i : DIx) (r d) : (Rd m ρ).amount (dCell c i) r d = dAmt i := by
  show (match kindOf (dNum i) with | none => 1 | some i => dAmt i) = _
  rw [kindOf_dNum]
theorem payload_bar (c : Dev nD) (r d) : (Rd m ρ).payload (barCell c) r d = barPay d c := rfl
theorem payload_d (c : Dev nD) (i : DIx) (r d) : (Rd m ρ).payload (dCell c i) r d = dPay m ρ c i := by
  show (match kindOf (dNum i) with | none => (iprop(emp) : sProp 𝕄) | some i => dPay m ρ c i) = _
  rw [kindOf_dNum]
theorem expect_bar (c : Dev nD) : (Rd m ρ).expect (barCell c) 0 = 15 := by
  unfold Schedule.expect Schedule.amountOf
  rw [duties_bar]
  simp only [amount_bar, Finset.sum_const, barDuties, Finset.card_map, Finset.card_univ, Fintype.card_fin]; rfl
theorem expect_d (c : Dev nD) (i : DIx) (h : dDuties c i = {0}) : (Rd m ρ).expect (dCell c i) 0 = dAmt i := by
  unfold Schedule.expect Schedule.amountOf
  rw [duties_d, h, Finset.sum_singleton, amount_d]

/-! ## What is owed, and the order of the cells -/

/-- What device `c` undertakes at launch, in the order it pays: the fifteen barrier signals, the fifteen statistics
    rows, the sixty quarters. -/
def obl (c : Dev nD) (i : ℕ) : CellTallies nD τ sig Unit :=
  if h : i < 15 then tallyAt (barCell (peer c ⟨i, h⟩)) () 1
  else if h : i < 30 then tallyAt (dCell (peer c ⟨i - 15, by omega⟩) (dMsR c)) () Nms
  else if h : i < 90 then
    tallyAt (dCell (nb ⟨i % 2, by omega⟩ c) (dRR (⟨i % 2, by omega⟩, ⟨(i + 2) / 2 % 2, by omega⟩, ⟨(i - 30) / 4, by omega⟩))) () Nq
  else 0
/-- What is left of it when the first `n` are paid. -/
def owed (c : Dev nD) (n : ℕ) : CellTallies nD τ sig Unit := ∑ i ∈ Finset.Ico n 90, obl c i

theorem owed_step (c : Dev nD) {n : ℕ} (h : n < 90) : owed c n = owed c (n + 1) + obl c n := by
  unfold owed
  rw [show Finset.Ico n 90 = insert n (Finset.Ico (n + 1) 90) from by ext i; simp only [Finset.mem_insert, Finset.mem_Ico]; omega,
    Finset.sum_insert (by simp only [Finset.mem_Ico]; omega), add_comm]
theorem owed_done (c : Dev nD) {n : ℕ} (h : 90 ≤ n) : owed c n = 0 := by
  unfold owed; rw [Finset.Ico_eq_empty (by omega), Finset.sum_empty]
theorem obl_bar (c : Dev nD) (k : Fin 15) : obl c k.val = tallyAt (barCell (peer c k)) () 1 := by
  unfold obl; rw [dif_pos k.isLt]
theorem obl_ms (c : Dev nD) (k : Fin 15) : obl c (15 + k.val) = tallyAt (dCell (peer c k) (dMsR c)) () Nms := by
  have := k.isLt
  unfold obl; rw [dif_neg (by omega), dif_pos (by omega)]
  exact congrArg (fun k => tallyAt (dCell (peer c k) (dMsR c)) () Nms) (Fin.ext (by simp))
theorem obl_ring (c : Dev nD) (d q : Fin 2) (h : Fin 15) :
    obl c (30 + 4 * h.val + 2 * q.val + d.val) = tallyAt (dCell (nb d c) (dRR (d, q, h))) () Nq := by
  have := d.isLt; have := q.isLt; have := h.isLt
  unfold obl; rw [dif_neg (by omega), dif_neg (by omega), dif_pos (by omega)]
  have e1 : (⟨(30 + 4 * h.val + 2 * q.val + d.val) % 2, by omega⟩ : Fin 2) = d := Fin.ext (by simp only; omega)
  have e2 : (⟨(30 + 4 * h.val + 2 * q.val + d.val + 2) / 2 % 2, by omega⟩ : Fin 2) = q := Fin.ext (by simp only; omega)
  have e3 : (⟨(30 + 4 * h.val + 2 * q.val + d.val - 30) / 4, by omega⟩ : Fin 15) = h := Fin.ext (by simp only; omega)
  rw [e1, e2, e3]

def L (g : GSem nD τ sig) : Finset Unit := if g.1.2 = .tc then {()} else ∅
theorem L_tc (c : Dev nD) (sm : SemLoc sig) : L ((c : Thread nD τ), sm) = {()} := if_pos rfl
theorem L_of_ne : ∀ g : GSem nD τ sig, g.1.2 ≠ .tc → L g = ∅ := fun g h => if_neg h

/-- Barrier, then statistics, then the hops of the ring one after another. -/
def dLev : DIx → ℕ
  | .inr (.inl _) => 2
  | .inr (.inr (.inr (.inl (_, _, h)))) => 3 + h.val
  | _ => 0
def lv (g : GSem nD τ sig) (_ : Unit) : ℕ :=
  match g.2 with
  | .reg _ => 1
  | .dma s => match kindOf s.val with
    | none => 0
    | some i => dLev i
theorem lv_d (c : Dev nD) (i : DIx) : lv (dCell c i) () = dLev i := by
  show (match kindOf (dNum i) with | none => 0 | some i => dLev i) = _
  rw [kindOf_dNum]
theorem lv_bar (c : Dev nD) : lv (barCell c) () = 1 := rfl

/-- A payment's cell is on a device's core and its level is that of the payment's turn. -/
theorem obl_pos {c : Dev nD} {i : ℕ} {g : GSem nD τ sig} {u : Unit} (h : 0 < obl c i g u) :
    g.1.2 = .tc ∧ lv g () = (if i < 15 then 1 else if i < 30 then 2 else 3 + (i - 30) / 4) := by
  unfold obl at h
  split_ifs at h with h1 h2 h3
  · obtain ⟨rfl, -⟩ := Pipeline.tallyAt_pos h
    exact ⟨rfl, by rw [lv_bar, if_pos h1]⟩
  · obtain ⟨rfl, -⟩ := Pipeline.tallyAt_pos h
    exact ⟨rfl, by rw [lv_d, if_neg h1, if_pos h2]; rfl⟩
  · obtain ⟨rfl, -⟩ := Pipeline.tallyAt_pos h
    exact ⟨rfl, by rw [lv_d, if_neg h1, if_neg h2]; rfl⟩
  · exact absurd h (Nat.lt_irrefl 0)

theorem owed_pos {c : Dev nD} {n : ℕ} {g : GSem nD τ sig} {u : Unit} (h : 0 < owed c n g u) :
    ∃ i, n ≤ i ∧ i < 90 ∧ g.1.2 = .tc ∧ lv g () = (if i < 15 then 1 else if i < 30 then 2 else 3 + (i - 30) / 4) := by
  unfold owed at h
  rw [Finset.sum_apply, Finsupp.finset_sum_apply] at h
  obtain ⟨i, hi, hp⟩ := Finset.exists_ne_zero_of_sum_ne_zero (Nat.pos_iff_ne_zero.mp h)
  rw [Finset.mem_Ico] at hi
  exact ⟨i, hi.1, hi.2, obl_pos (Nat.pos_of_ne_zero hp)⟩

/-- A device that has paid `n` may wait on any cell whose level is below every later payment's. -/
theorem mayWait_of (c : Dev nD) (sm : SemLoc sig) (n : ℕ)
    (h : ∀ i, n ≤ i → i < 90 → lv ((c : Thread nD τ), sm) () < (if i < 15 then 1 else if i < 30 then 2 else 3 + (i - 30) / 4)) :
    (levAts L lv : sProp 𝕄) ⊢ MayWait (c : Thread nD τ) sm () (owed c n) := by
  refine MayOwe.of_cut (L := L) (lev := lv) (lv ((c : Thread nD τ), sm) ())
    (fun p hp => by rw [Finset.mem_singleton.mp hp, L_tc]; exact Finset.mem_singleton_self _)
    (fun g u hg => ?_) (fun p hp => by rw [Finset.mem_singleton.mp hp])
    (fun g u hg => ?_)
  · obtain ⟨i, -, -, hc, -⟩ := owed_pos hg
    unfold L; rw [if_pos hc]; exact Finset.mem_singleton_self _
  · obtain ⟨i, hn, hi, -, hl⟩ := owed_pos hg
    exact lt_of_lt_of_eq (h i hn hi) hl.symm

end Cert.SoftmaxIdeal
-- ==== Proof.StepsIdeal.lean ====
/-
  One step of the protocol at a time: what each signal, transfer and wait takes and gives.
-/
module
public import proofs.«01_k».proof.Proof.SchedIdeal
public import Idealize.ShloMosaic.Lib.ValueLayout
@[expose] public section
set_option maxRecDepth 4000
set_option maxHeartbeats 1000000
noncomputable section
namespace Cert.SoftmaxIdeal
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers (shareTok shareDrop pointsTo_toks_split pointsTo_toks_join)
variable {F : FTy → Type} [FloatOps F]
local notation "𝕄" => MT nD τ sig Unit (Elt F) ℕ UU ℕ
variable (m : (ℓ : Loc nD τ sig) → Buf (Elt F) ℓ) (ρ : Dev nD → PrngReg)

/-! ## What a transfer writes -/

section Written
theorem row_written (c : Dev nD) (fd g : S16x256x128.Idx → F .f32) :
    ∀ i ∈ (rowV c).view.set, (rowV c).view.write (Elt F) fd ((rowV c).view.read (Elt F) g) Finset.univ i = g i := fun i hi => by
  exact (congrFun (View.write_read_eq_piecewise _ _ _) i).trans (Finset.piecewise_eq_of_mem _ _ _ hi)

theorem q_written (j : Fin 16) (t : Fin 4) (fd g : S256x65536.Idx → F .f32) :
    ∀ i ∈ (qV j t).view.set, (qV j t).view.write (Elt F) fd ((qV j t).view.read (Elt F) g) Finset.univ i = g i := fun i hi => by
  exact (congrFun (View.write_read_eq_piecewise _ _ _) i).trans (Finset.piecewise_eq_of_mem _ _ _ hi)

/-- The result at a place of device `j`'s columns. -/
theorem G_at (j : Fin 16) (x : Fin 256) (y : Fin 4096) (i : S256x65536.Idx) (h0 : (i 0).val = x.val) (h1 : (i 1).val = 4096 * j.val + y.val) :
    G m ρ i = cf m ρ j (ix3 (0 : Fin 1) x y) := by
  have e1 : (⟨(i 1).val / 4096, by have h : (i 1).val < 65536 := (i 1).isLt; omega⟩ : Fin 16) = j := Fin.ext (by have := y.isLt; simp only; omega)
  have e2 : (⟨(i 1).val % 4096, Nat.mod_lt _ (by decide)⟩ : Fin 4096) = y := Fin.ext (by have := y.isLt; simp only; omega)
  have e0 : (i 0 : Fin 256) = x := Fin.ext h0
  show cf m ρ _ (ix3 (0 : Fin 1) (i 0) _) = _
  rw [e1, e2]
  exact congrArg (fun z => cf m ρ j (ix3 (0 : Fin 1) z y)) e0

theorem sq_q (x : S256x1024.Idx) : Shape.reshapeEquiv (s' := S256x1024) (s := S1x256x1024) squeezes_S1x256x1024_S256x1024.numel_eq x
    = ix3 (⟨0, Nat.one_pos⟩ : Fin 1) (x 0) (x 1) := by
  have h := ValueIdx.reshapeEquiv_ix2_1ab (a := 256) (b := 1024) squeezes_S1x256x1024_S256x1024.numel_eq (x 0) (x 1)
  refine Eq.trans (congrArg _ ?_) h
  funext a; fin_cases a <;> rfl
theorem sq_b (x : S256x4096.Idx) : Shape.reshapeEquiv (s' := S256x4096) (s := S1x256x4096) squeezes_S1x256x4096_S256x4096.numel_eq x
    = ix3 (⟨0, Nat.one_pos⟩ : Fin 1) (x 0) (x 1) := by
  have h := ValueIdx.reshapeEquiv_ix2_1ab (a := 256) (b := 4096) squeezes_S1x256x4096_S256x4096.numel_eq (x 0) (x 1)
  refine Eq.trans (congrArg _ ?_) h
  funext a; fin_cases a <;> rfl

theorem cq_emb (t : Fin 4) (x : S256x1024.Idx) :
    (cqV t).view.emb x = ix3 (0 : Fin 1) (x 0) (⟨1024 * t.val + (x 1).val, by have := t.isLt; have h : (x 1).val < 1024 := (x 1).isLt; omega⟩ : Fin 4096) := by
  show (Rect.unit (s := S1x256x4096) ![0, 0, 1024 * t.val] S1x256x1024.size (cq_inb t)).emb (Shape.reshapeEquiv _ x) = _
  rw [sq_q]
  funext a; refine Fin.ext ?_
  fin_cases a
  · rfl
  · show 0 + 1 * (x 0).val = (x 0).val; omega
  · show 1024 * t.val + 1 * (x 1).val = 1024 * t.val + (x 1).val; omega
theorem c_emb (x : S256x4096.Idx) : cV.view.emb x = ix3 (0 : Fin 1) (x 0) (x 1) := by
  show (Rect.unit (s := S1x256x4096) ![0, 0, 0] S1x256x4096.size inb_S1x256x4096_S1x256x4096_0_0_0).emb (Shape.reshapeEquiv _ x) = _
  rw [sq_b]
  funext a; refine Fin.ext ?_
  fin_cases a
  · rfl
  · show 0 + 1 * (x 0).val = (x 0).val; omega
  · show 0 + 1 * (x 1).val = (x 1).val; omega

theorem first_written (j : Fin 16) (t : Fin 4) (fd : S256x65536.Idx → F .f32) :
    ∀ i ∈ (qV j t).view.set, (qV j t).view.write (Elt F) fd ((cqV t).view.read (Elt F) (cf m ρ j)) Finset.univ i = G m ρ i := fun i hi => by
  obtain ⟨x, -, rfl⟩ := Finset.mem_map.mp hi
  refine (View.write_emb_of_mem _ _ (Finset.mem_univ _)).trans ?_
  show cf m ρ j ((cqV t).view.emb x) = _
  rw [cq_emb]
  refine (G_at m ρ j _ _ _ ?_ ?_).symm
  · show 0 + 1 * (x 0).val = (x 0).val; omega
  · show 4096 * j.val + 1024 * t.val + 1 * (x 1).val = 4096 * j.val + (1024 * t.val + (x 1).val); omega
theorem copy_written (j : Fin 16) (fd : S256x65536.Idx → F .f32) :
    ∀ i ∈ (bV j).view.set, (bV j).view.write (Elt F) fd (cV.view.read (Elt F) (cf m ρ j)) Finset.univ i = G m ρ i := fun i hi => by
  obtain ⟨x, -, rfl⟩ := Finset.mem_map.mp hi
  refine (View.write_emb_of_mem _ _ (Finset.mem_univ _)).trans ?_
  show cf m ρ j (cV.view.emb x) = _
  rw [c_emb]
  refine (G_at m ρ j _ _ _ ?_ ?_).symm
  · show 0 + 1 * (x 0).val = (x 0).val; omega
  · show 4096 * j.val + 1 * (x 1).val = 4096 * j.val + (x 1).val; omega
end Written

/-! ## What every device may rely on -/

variable (K : Dev nD × KIx → ℕ)

/-- Every cell's invariant, that its round is reached, and the order of the cells. -/
def records : sProp 𝕄 :=
  iprop((bigSep Finset.univ fun ck : Dev nD × KIx => cellInv ER (Rd m ρ) (K ck) (kcell ck))
    ∗ (bigSep Finset.univ fun ck : Dev nD × KIx => reached ER (kcell ck) 0) ∗ levAts L lv)
instance records_persistent : BI.Persistent (records m ρ K) := by unfold records; infer_instance
theorem inv_at (ck : Dev nD × KIx) :
    (bigSep Finset.univ fun ck : Dev nD × KIx => cellInv ER (Rd m ρ) (K ck) (kcell ck)) ⊢ cellInv ER (Rd m ρ) (K ck) (kcell ck) :=
  bigSep_elim (Finset.mem_univ ck)
omit [FloatOps F] in
theorem reached_at (ck : Dev nD × KIx) :
    (bigSep Finset.univ fun ck : Dev nD × KIx => (reached ER (kcell ck) 0 : sProp 𝕄)) ⊢ reached ER (kcell ck) 0 :=
  bigSep_elim (Finset.mem_univ ck)
theorem rec_inv (ck : Dev nD × KIx) : records m ρ K ⊢ cellInv ER (Rd m ρ) (K ck) (kcell ck) := by
  unfold records; iintro ⟨#H, -, -⟩; iapply (inv_at m ρ K ck); iexact H
theorem rec_reached (ck : Dev nD × KIx) : records m ρ K ⊢ reached ER (kcell ck) 0 := by
  unfold records; iintro ⟨-, #H, -⟩; iapply (reached_at ck); iexact H
theorem rec_wait (c : Dev nD) (sm : SemLoc sig) (n : ℕ)
    (h : ∀ i, n ≤ i → i < 90 → lv ((c : Thread nD τ), sm) () < (if i < 15 then 1 else if i < 30 then 2 else 3 + (i - 30) / 4)) :
    records m ρ K ⊢ MayWait (c : Thread nD τ) sm () (owed c n) := by
  unfold records; iintro ⟨-, -, H⟩; iapply (mayWait_of c sm n h); iexact H

/-- What device `c` carries from step to step: the records, and what it owes when it has paid `n` times. -/
def OW (c : Dev nD) (n : ℕ) : sProp 𝕄 :=
  iprop(records m ρ K ∗ ∃ W, owes (c : Thread nD τ) (owed c n) W)

/-! ## A list of fifteen, partly done -/

/-- What is left of a family when the first `n` are done. -/
def rem (n : ℕ) (Φ : Fin 15 → sProp 𝕄) : sProp 𝕄 := bigSep (Finset.univ.filter fun k : Fin 15 => n ≤ k.val) Φ
/-- What the first `n` have left. -/
def don (n : ℕ) (Φ : Fin 15 → sProp 𝕄) : sProp 𝕄 := bigSep (Finset.univ.filter fun k : Fin 15 => k.val < n) Φ

omit [FloatOps F] in
theorem rem_take (k : Fin 15) (Φ : Fin 15 → sProp 𝕄) : rem k.val Φ ⊢ iprop(Φ k ∗ rem (k.val + 1) Φ) := by
  unfold rem
  rw [bigSep_erase (i := k) (by simp)]
  refine sep_mono_right (Entails.of_eq (congrArg (fun S => bigSep S Φ) ?_))
  ext j; simp only [Finset.mem_erase, Finset.mem_filter, Finset.mem_univ, true_and, ne_eq, Fin.ext_iff]; omega
omit [FloatOps F] in
theorem don_put (k : Fin 15) (Φ : Fin 15 → sProp 𝕄) : iprop(Φ k ∗ don k.val Φ) ⊢ don (k.val + 1) Φ := by
  unfold don
  conv => rhs; rw [bigSep_erase (i := k) (by simp)]
  refine sep_mono_right (Entails.of_eq (congrArg (fun S => bigSep S Φ) ?_))
  ext j; simp only [Finset.mem_erase, Finset.mem_filter, Finset.mem_univ, true_and, ne_eq, Fin.ext_iff]; omega
omit [FloatOps F] in
theorem rem_take_zero (Φ : Fin 15 → sProp 𝕄) : rem 0 Φ ⊢ iprop(Φ 0 ∗ rem 1 Φ) := rem_take 0 Φ
omit [FloatOps F] in
theorem don_put_zero (Φ : Fin 15 → sProp 𝕄) : iprop(Φ 0 ∗ don 0 Φ) ⊢ don 1 Φ := don_put 0 Φ
omit [FloatOps F] in
theorem rem_zero (Φ : Fin 15 → sProp 𝕄) : rem 0 Φ = bigSep Finset.univ Φ := by
  unfold rem; exact congrArg (fun S => bigSep S Φ) (by ext j; simp)
omit [FloatOps F] in
theorem don_all (Φ : Fin 15 → sProp 𝕄) : don 15 Φ = bigSep Finset.univ Φ := by
  unfold don; exact congrArg (fun S => bigSep S Φ) (by ext j; simp)
omit [FloatOps F] in
theorem don_zero (Φ : Fin 15 → sProp 𝕄) : don 0 Φ = iprop(emp) := by
  unfold don
  rw [show (Finset.univ.filter fun k : Fin 15 => k.val < 0) = ∅ from by ext j; simp]
  exact bigSep_empty

/-! ## One wait on a transfer -/

theorem rest_d (c : Dev nD) (i : DIx) (hi : dDuties c i = {0}) :
    bigSep ((Rd m ρ).duties (dCell c i) 0 \ ∅) (fun d => (Rd m ρ).payload (dCell c i) 0 d) = dPay m ρ c i := by
  rw [duties_d, hi, Finset.sdiff_empty, bigSep_singleton, payload_d]

theorem wait_d (c : Dev nD) (i : DIx) (hi : dDuties c i = {0}) (n : ℕ)
    (hl : ∀ j, n ≤ j → j < 90 → dLev i < (if j < 15 then 1 else if j < 30 then 2 else 3 + (j - 30) / 4))
    {sp sp' : Space} {s s' : Shape} {e e' : EltTy} {sm : DmaSem sig} (hsm : sm = dSem i)
    {src : Memref sig .tc sp' s' e'} {dst : Memref sig .tc sp s e}
    {hsrc : src.view.WordExact} {hdst : dst.view.WordExact} (hN : dst.view.dmaCredit = dAmt i)
    {α : Type} {Q : α → sProp 𝕄} {k : PUnit → Prog (TpuEff nD τ sig (Elt F) Λ₀ .tc) α} :
    iprop(OW m ρ K c n ∗ cred (tallyAt (dCell c i) () (dAmt i)) ∗ atPos ER (dCell c i) 0 ∅ 0)
      ⊢ iprop(((OW m ρ K c n ∗ atPos ER (dCell c i) 1 ∅ 0 ∗ dPay m ρ c i)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sm src dst hsrc hdst) k) Q) := by
  subst hsm
  iintro ⟨HOW, Hc, Hat⟩ Hk
  unfold OW; icases HOW with ⟨#HR, %W, HO⟩
  ihave #HI := (rec_inv m ρ K (c, .inr i)) $$ HR
  rw [kcell_d]
  iapply (Rounds.wp_wait_rest_token 𝒱₀ ER (Rd m ρ) (c : Thread nD τ) none (κ := K (c, .inr i))
      (wpE_waitDma2_eq 𝒱₀ (c : Thread nD τ) none Set.univ) (Set.mem_univ _) () (O := owed c n) (W := W) (R := 0) (m := 0) (T := ∅)
      (by rw [Nat.zero_add, hN]; exact (expect_d m ρ c i hi).symm)) $$ [Hc HO Hat]
  · isplitr; · iexact HI
    isplitl [Hc]; · rw [hN]; iexact Hc
    isplitl [HO]; · iexact HO
    isplitr
    · iapply (rec_wait m ρ K c (osem i) n (fun j h1 h2 => lt_of_eq_of_lt (lv_d c i) (hl j h1 h2))); iexact HR
    iexact Hat
  iintro ⟨HO, Hat, -, Hpay⟩
  iapply Hk
  isplitl [HO]
  · isplitr; · iexact HR
    iexists _; iexact HO
  isplitl [Hat]; · iexact Hat
  iapply (Entails.of_eq (rest_d m ρ c i hi)); iexact Hpay

/-! ## The barrier -/

/-- What a barrier signal needs: the duty's token, and what it hands over. -/
def sigRes (c : Dev nD) (k : Fin 15) : sProp 𝕄 :=
  iprop(dutyTok ER (barCell (peer c k)) 0 c ∗ barPay c (peer c k))

omit [FloatOps F] in
theorem mem_barDuties (c : Dev nD) (k : Fin 15) : c ∈ barDuties (peer c k) :=
  Finset.mem_map.mpr ⟨k.rev, Finset.mem_univ _, peer_rev c k⟩

theorem bar_pay (c : Dev nD) (k : Fin 15) :
    barPay (F := F) c (peer c k) ⊢ (Rd m ρ).payload ((peer c k : Thread nD τ), .reg barS) 0 c := Entails.of_eq rfl

theorem sig_step (c : Dev nD) (k : Fin 15) {a a' : ℕ} (ha : a = k.val) (ha' : a' = k.val + 1) {p : Dev nD} (hp : p = peer c k)
    {α : Type} {Q : α → sProp 𝕄} {k' : PUnit → Prog (TpuEff nD τ sig (Elt F) Λ₀ .tc) α} :
    iprop(OW m ρ K c a ∗ rem a (sigRes c))
      ⊢ iprop(((OW m ρ K c a' ∗ rem a' (sigRes c))
            -∗ wp frame (wpE (defs₀ (F := F)) 𝒱₀ (c : Thread nD τ) none) Set.univ (k' ⟨⟩) Q)
          -∗ wp frame (wpE (defs₀ (F := F)) 𝒱₀ (c : Thread nD τ) none) Set.univ (.op (.semSignal (p : Thread nD τ) barS 1) k') Q) := by
  subst ha ha'
  subst hp
  iintro ⟨HOW, Hrem⟩ Hk
  unfold OW; icases HOW with ⟨#HR, %W, HO⟩
  ihave #HI := (rec_inv m ρ K (peer c k, .inl ())) $$ HR
  ihave #Hre := (rec_reached m ρ K (peer c k, .inl ())) $$ HR
  rw [kcell_bar]
  ihave H := (rem_take k (sigRes (F := F) c)) $$ Hrem
  icases H with ⟨Hs, Hrem⟩
  unfold sigRes; icases Hs with ⟨Ht, Hp⟩
  iapply (Rounds.wp_signal 𝒱₀ ER (Rd m ρ) (c : Thread nD τ) none (dst := (peer c k : Thread nD τ)) (κ := K (peer c k, .inl ())) (d := c) (r := 0)
    (by have h := mem_barDuties c k; rw [← duties_bar m ρ] at h; exact h) (amount_bar m ρ (peer c k) 0 c) () (owed c (k.val + 1))
    ((owed_step c (n := k.val) (by have := k.isLt; omega)).trans (by rw [obl_bar]; rfl)) (W := W)) $$ [HO Ht Hp]
  · isplitr; · iexact HI
    isplitl [HO]; · iexact HO
    isplitl [Ht]; · iexact Ht
    isplitl [Hp]; · iapply (bar_pay m ρ c k); iexact Hp
    iexact Hre
  iintro HO
  iapply Hk
  isplitl [HO]
  · isplitr; · iexact HR
    iexists _; iexact HO
  iexact Hrem

theorem bar_step (c : Dev nD)
    {α : Type} {Q : α → sProp 𝕄} {k' : PUnit → Prog (TpuEff nD τ sig (Elt F) Λ₀ .tc) α} :
    iprop(OW m ρ K c 15 ∗ cred (tallyAt (barCell c) () 15) ∗ atPos ER (barCell c) 0 ∅ 0)
      ⊢ iprop(((OW m ρ K c 15 ∗ atPos ER (barCell c) 1 ∅ 0 ∗ bigSep Finset.univ fun k => barPay (F := F) (peer c k) c)
            -∗ wp frame (wpE (defs₀ (F := F)) 𝒱₀ (c : Thread nD τ) none) Set.univ (k' ⟨⟩) Q)
          -∗ wp frame (wpE (defs₀ (F := F)) 𝒱₀ (c : Thread nD τ) none) Set.univ (.op (.semWait barS 15) k') Q) := by
  iintro ⟨HOW, Hc, Hat⟩ Hk
  unfold OW; icases HOW with ⟨#HR, %W, HO⟩
  ihave #HI := (rec_inv m ρ K (c, .inl ())) $$ HR
  rw [kcell_bar]
  iapply (Rounds.wp_wait_rest_token 𝒱₀ ER (Rd m ρ) (c : Thread nD τ) none (κ := K (c, .inl ()))
      (wpE_semWait_eq 𝒱₀ (c : Thread nD τ) none Set.univ) (Set.mem_univ _) () (O := owed c 15) (W := W) (R := 0) (m := 0) (T := ∅)
      (by rw [Nat.zero_add]; exact (expect_bar m ρ c).symm)) $$ [Hc HO Hat]
  · isplitr; · iexact HI
    isplitl [Hc]; · iexact Hc
    isplitl [HO]; · iexact HO
    isplitr
    · iapply (rec_wait m ρ K c (.reg barS) 15 (fun j h1 h2 => lt_of_eq_of_lt (lv_bar c) (by split_ifs <;> omega))); iexact HR
    iexact Hat
  iintro ⟨HO, Hat, -, Hpay⟩
  iapply Hk
  isplitl [HO]
  · isplitr; · iexact HR
    iexists _; iexact HO
  isplitl [Hat]; · iexact Hat
  iapply (Entails.of_eq (show bigSep ((Rd m ρ).duties (barCell c) 0 \ ∅) (fun d => (Rd m ρ).payload (barCell c) 0 d)
      = bigSep Finset.univ fun k => barPay (F := F) (peer c k) c from by
    rw [duties_bar, Finset.sdiff_empty]; unfold barDuties; rw [bigSep_map]; rfl))
  iexact Hpay

/-! ## The exchange of statistics -/

/-- What sending the row to the `k`-th peer needs. -/
def msSend (c : Dev nD) (k : Fin 15) : sProp 𝕄 :=
  iprop(dutyTok ER (dCell (peer c k) (dMsR c)) 0 0 ∗ dutyTok ER (dCell c (dMsS k)) 0 0
    ∗ (∃ f, rowPts (F := F) (peer c k) c fullShare f) ∗ rowPts c c (shareTok fullShare 15 k) (MS m ρ))
/-- What it leaves: the claim on its own departure. -/
def msSent (c : Dev nD) (k : Fin 15) : sProp 𝕄 := cred (tallyAt (dCell c (dMsS k)) () Nms)

theorem dDuties_msR {c j : Dev nD} (h : j ≠ c) : dDuties c (dMsR j) = {0} := if_neg h

theorem ms_step (c : Dev nD) (k : Fin 15) {a a' : ℕ} (ha : a = k.val) (ha' : a' = k.val + 1) {n n' : ℕ} (hn : n = 15 + k.val) (hn' : n' = 15 + k.val + 1) {p : Dev nD} (hp : p = peer c k) {src dst : Memref sig .tc .vmem S256x128 .f32}
    (hsrc : src = rowV c) (hdst : dst = rowV c) {sS rS : DmaSem sig} (hsS : sS = dSem (dMsS k)) (hrS : rS = dSem (dMsR c))
    {hsc : (dst : Memref sig (Dev.tc p : Thread nD τ).2.kind .vmem S256x128 .f32).view.ref.isScScratch = false}
    {w1 : src.view.WordExact} {w2 : dst.view.WordExact}
    {hty : DmaTarget.Typed .vmem (.dma rS) (.remote (Dev.tc p : Thread nD τ) dst (.dma sS) hsc)}
    {α : Type} {Q : α → sProp 𝕄} {k' : PUnit → Prog (TpuEff nD τ sig (Elt F) Λ₀ .tc) α} :
    iprop(OW m ρ K c n ∗ rem a (msSend m ρ c) ∗ don a (msSent (F := F) c))
      ⊢ iprop(((OW m ρ K c n' ∗ rem a' (msSend m ρ c) ∗ don a' (msSent (F := F) c))
            -∗ wp frame (wpE (defs₀ (F := F)) 𝒱₀ (c : Thread nD τ) none) Set.univ (k' ⟨⟩) Q)
          -∗ wp frame (wpE (defs₀ (F := F)) 𝒱₀ (c : Thread nD τ) none) Set.univ
              (.op (.enqueueDma src (.remote (Dev.tc p : Thread nD τ) dst (.dma sS) hsc) (.dma rS) w1 w2 hty) k') Q) := by
  subst ha ha' hn hn'
  subst hp hsrc hdst hsS hrS
  iintro ⟨HOW, Hrem, Hdon⟩ Hk
  unfold OW; icases HOW with ⟨#HR, %W, HO⟩
  ihave #HI1 := (rec_inv m ρ K (c, .inr (dMsS k))) $$ HR
  ihave #HI2 := (rec_inv m ρ K (peer c k, .inr (dMsR c))) $$ HR
  ihave #Hr1 := (rec_reached m ρ K (c, .inr (dMsS k))) $$ HR
  ihave #Hr2 := (rec_reached m ρ K (peer c k, .inr (dMsR c))) $$ HR
  simp only [kcell_d]
  ihave H := (rem_take k (msSend m ρ c)) $$ Hrem
  icases H with ⟨Hs, Hrem⟩
  unfold msSend; icases Hs with ⟨Ht2, Ht1, ⟨%fn, Hd⟩, Hsrc⟩
  unfold rowPts
  iapply (Rounds.wp_send_pointsTo 𝒱₀ ER (Rd m ρ) (c : Thread nD τ) none (κ₁ := K (c, .inr (dMsS k))) (κ₂ := K (peer c k, .inr (dMsR c)))
    (r₁ := 0) (r₂ := 0) (d₁ := 0) (d₂ := 0) (fd := fn)
    (by have h : (0 : Fin 16) ∈ dDuties c (dMsS k) := Finset.mem_singleton_self _
        rw [← duties_d m ρ] at h; exact h)
    (by have h : (0 : Fin 16) ∈ dDuties (peer c k) (dMsR c) := by rw [dDuties_msR (peer_ne c k).symm]; exact Finset.mem_singleton_self _
        rw [← duties_d m ρ] at h; exact h)
    () () Nms (show (rowV c).view.amount (.dma (dSem (dMsR c))) = Nms from rfl) (amount_d m ρ c (dMsS k) 0 0) (amount_d m ρ (peer c k) (dMsR c) 0 0) (owed c (15 + k.val + 1))
    ((owed_step c (n := 15 + k.val) (by have := k.isLt; omega)).trans (by rw [obl_ms]; rfl)) (W := W)
    (by refine Entails.of_eq ?_; refine Eq.trans ?_ (payload_d m ρ c (dMsS k) 0 0).symm; rfl)
    (by refine Entails.of_eq ?_; refine Eq.trans ?_ (payload_d m ρ (peer c k) (dMsR c) 0 0).symm
        exact pointsTo_congr (row_written c fn (MS m ρ)))) $$ [Hsrc Hd HO Ht1 Ht2]
  · isplitr; · iexact HI1
    isplitr; · iexact HI2
    isplitl [Hsrc]; · iexact Hsrc
    isplitl [Hd]; · iexact Hd
    isplitl [HO]; · iexact HO
    isplitl [Ht1]; · iexact Ht1
    isplitr; · iexact Hr1
    isplitl [Ht2]; · iexact Ht2
    iexact Hr2
  iintro ⟨Hc, HO⟩
  iapply Hk
  isplitl [HO]
  · isplitr; · iexact HR
    iexists _; iexact HO
  isplitl [Hrem]; · iexact Hrem
  iapply (don_put k (msSent (F := F) c))
  isplitl [Hc]; · unfold msSent; iexact Hc
  iexact Hdon

/-- The device whose row arrives `r`-th. -/
def frm (c : Dev nD) (r : Fin 15) : Dev nD := (c - r.succ : Fin 16)
omit [FloatOps F] in
theorem frm_ne (c : Dev nD) (r : Fin 15) : frm c r ≠ c := by revert c r; decide +kernel
omit [FloatOps F] in
theorem frm_val (c : Dev nD) (r : Fin 15) : (frm c r).val = ((c.val + 15) - r.val) % 16 := by revert c r; decide +kernel

def msGet (c : Dev nD) (r : Fin 15) : sProp 𝕄 :=
  iprop(cred (tallyAt (dCell c (dMsR (frm c r))) () Nms) ∗ atPos ER (dCell c (dMsR (frm c r))) 0 ∅ 0)
def msGot (c : Dev nD) (r : Fin 15) : sProp 𝕄 :=
  iprop(atPos ER (dCell c (dMsR (frm c r))) 1 ∅ 0 ∗ rowPts c (frm c r) fullShare (MS m ρ))
def msOut (c : Dev nD) (k : Fin 15) : sProp 𝕄 :=
  iprop(cred (tallyAt (dCell c (dMsS k)) () Nms) ∗ atPos ER (dCell c (dMsS k)) 0 ∅ 0)
def msBack (c : Dev nD) (k : Fin 15) : sProp 𝕄 :=
  iprop(atPos ER (dCell c (dMsS k)) 1 ∅ 0 ∗ rowPts c c (shareTok fullShare 15 k) (MS m ρ))

/-- A wait that turns the `k`-th of a list into its outcome. -/
theorem list_wait (c : Dev nD) (i : DIx) (hi : dDuties c i = {0}) (n : ℕ)
    (hl : ∀ j, n ≤ j → j < 90 → dLev i < (if j < 15 then 1 else if j < 30 then 2 else 3 + (j - 30) / 4))
    (Φ Ψ : Fin 15 → sProp 𝕄) (k : Fin 15)
    (hΦ : Φ k = iprop(cred (tallyAt (dCell c i) () (dAmt i)) ∗ atPos ER (dCell c i) 0 ∅ 0))
    (hΨ : Ψ k = iprop(atPos ER (dCell c i) 1 ∅ 0 ∗ dPay m ρ c i))
    {sp sp' : Space} {s s' : Shape} {e e' : EltTy} {sm : DmaSem sig} (hsm : sm = dSem i)
    {src : Memref sig .tc sp' s' e'} {dst : Memref sig .tc sp s e}
    {hsrc : src.view.WordExact} {hdst : dst.view.WordExact} (hN : dst.view.dmaCredit = dAmt i)
    {α : Type} {Q : α → sProp 𝕄} {k' : PUnit → Prog (TpuEff nD τ sig (Elt F) Λ₀ .tc) α} :
    iprop(OW m ρ K c n ∗ rem k.val Φ ∗ don k.val Ψ)
      ⊢ iprop(((OW m ρ K c n ∗ rem (k.val + 1) Φ ∗ don (k.val + 1) Ψ)
            -∗ wp frame (wpE (defs₀ (F := F)) 𝒱₀ (c : Thread nD τ) none) Set.univ (k' ⟨⟩) Q)
          -∗ wp frame (wpE (defs₀ (F := F)) 𝒱₀ (c : Thread nD τ) none) Set.univ (.op (.waitDma2 sm src dst hsrc hdst) k') Q) := by
  iintro ⟨HOW, Hrem, Hdon⟩ Hk
  ihave H := (rem_take k Φ) $$ Hrem
  icases H with ⟨Hs, Hrem⟩
  ihave Hs := (Entails.of_eq hΦ) $$ Hs
  icases Hs with ⟨Hc, Hat⟩
  iapply (wait_d m ρ K c i hi n hl hsm hN) $$ [HOW Hc Hat]
  · isplitl [HOW]; · iexact HOW
    isplitl [Hc]; · iexact Hc
    iexact Hat
  iintro ⟨HOW, Hat, Hp⟩
  iapply Hk
  isplitl [HOW]; · iexact HOW
  isplitl [Hrem]; · iexact Hrem
  iapply (don_put k Ψ)
  isplitl [Hat Hp]
  · iapply (Entails.of_eq hΨ.symm)
    isplitl [Hat]; · iexact Hat
    iexact Hp
  iexact Hdon

theorem msGet_step (c : Dev nD) (r : Fin 15) {a a' : ℕ} (ha : a = r.val) (ha' : a' = r.val + 1) {sm : DmaSem sig} (hsm : sm = dSem (dMsR (frm c r)))
    {src dst : Memref sig .tc .vmem S256x128 .f32} {hsrc : src.view.WordExact} {hdst : dst.view.WordExact} (hN : dst.view.dmaCredit = Nms)
    {α : Type} {Q : α → sProp 𝕄} {k' : PUnit → Prog (TpuEff nD τ sig (Elt F) Λ₀ .tc) α} :
    iprop(OW m ρ K c 30 ∗ rem a (msGet (F := F) c) ∗ don a (msGot m ρ c))
      ⊢ iprop(((OW m ρ K c 30 ∗ rem a' (msGet (F := F) c) ∗ don a' (msGot m ρ c))
            -∗ wp frame (wpE (defs₀ (F := F)) 𝒱₀ (c : Thread nD τ) none) Set.univ (k' ⟨⟩) Q)
          -∗ wp frame (wpE (defs₀ (F := F)) 𝒱₀ (c : Thread nD τ) none) Set.univ (.op (.waitDma2 sm src dst hsrc hdst) k') Q) := by
  subst ha ha'
  exact list_wait m ρ K c (dMsR (frm c r)) (dDuties_msR (frm_ne c r)) 30 (fun j h1 h2 => by show 2 < _; split_ifs <;> omega)
    (msGet c) (msGot m ρ c) r rfl rfl hsm hN

theorem msOut_step (c : Dev nD) (k : Fin 15) {a a' : ℕ} (ha : a = k.val) (ha' : a' = k.val + 1) {sm : DmaSem sig} (hsm : sm = dSem (dMsS k))
    {src dst : Memref sig .tc .vmem S256x128 .f32} {hsrc : src.view.WordExact} {hdst : dst.view.WordExact} (hN : dst.view.dmaCredit = Nms)
    {α : Type} {Q : α → sProp 𝕄} {k' : PUnit → Prog (TpuEff nD τ sig (Elt F) Λ₀ .tc) α} :
    iprop(OW m ρ K c 30 ∗ rem a (msOut (F := F) c) ∗ don a (msBack m ρ c))
      ⊢ iprop(((OW m ρ K c 30 ∗ rem a' (msOut (F := F) c) ∗ don a' (msBack m ρ c))
            -∗ wp frame (wpE (defs₀ (F := F)) 𝒱₀ (c : Thread nD τ) none) Set.univ (k' ⟨⟩) Q)
          -∗ wp frame (wpE (defs₀ (F := F)) 𝒱₀ (c : Thread nD τ) none) Set.univ (.op (.waitDma2 sm src dst hsrc hdst) k') Q) := by
  subst ha ha'
  exact list_wait m ρ K c (dMsS k) rfl 30 (fun j h1 h2 => by show 0 < _; split_ifs <;> omega)
    (msOut c) (msBack m ρ c) k rfl rfl hsm hN

/-! ## The local copy -/

theorem copy_step (c : Dev nD) {src : Memref sig .tc .vmem S256x4096 .f32} {dst : Memref sig (c : Thread nD τ).2.kind .hbm S256x4096 .f32}
    (hsrc : src = cV) (hdst : dst = bV c) {sm : DmaSem sig} (hsm : sm = dSem dCs) (n : ℕ)
    {w1 : src.view.WordExact} {w2 : dst.view.WordExact} {hty : DmaTarget.Typed .vmem (.dma sm) (DmaTarget.here (p := (c : Thread nD τ).2) dst)}
    {α : Type} {Q : α → sProp 𝕄} {k' : PUnit → Prog (TpuEff nD τ sig (Elt F) Λ₀ .tc) α} :
    iprop(OW m ρ K c n ∗ dutyTok ER (dCell c dCs) 0 0 ∗ cPts c fullShare.left (cf m ρ c) ∗ ∃ f, bPts (F := F) c c f)
      ⊢ iprop(((OW m ρ K c n ∗ cred (tallyAt (dCell c dCs) () Nb))
            -∗ wp frame (wpE (defs₀ (F := F)) 𝒱₀ (c : Thread nD τ) none) Set.univ (k' ⟨⟩) Q)
          -∗ wp frame (wpE (defs₀ (F := F)) 𝒱₀ (c : Thread nD τ) none) Set.univ
              (.op (.enqueueDma src (.here dst) (.dma sm) w1 w2 hty) k') Q) := by
  subst hsrc hdst hsm
  iintro ⟨HOW, Ht, Hs, ⟨%fd, Hd⟩⟩ Hk
  unfold OW; icases HOW with ⟨#HR, %W, HO⟩
  ihave #HI := (rec_inv m ρ K (c, .inr dCs)) $$ HR
  ihave #Hr := (rec_reached m ρ K (c, .inr dCs)) $$ HR
  rw [kcell_d]
  unfold cPts bPts
  iapply (Rounds.wp_copy_pointsTo 𝒱₀ ER (Rd m ρ) (c : Thread nD τ) none (κ := K (c, .inr dCs)) (r := 0) (d := 0) (fd := fd)
    (by have h : (0 : Fin 16) ∈ dDuties c dCs := Finset.mem_singleton_self _
        rw [← duties_d m ρ] at h; exact h) () Nb (show (bV c).view.amount (.dma (dSem dCs)) = Nb from rfl) (amount_d m ρ c dCs 0 0)
    (by refine Entails.of_eq ?_; refine Eq.trans ?_ (payload_d m ρ c dCs 0 0).symm
        rw [pointsTo_congr (copy_written m ρ c fd)]; rfl)) $$ [Hs Hd Ht]
  · isplitr; · iexact HI
    isplitl [Hs]; · iexact Hs
    isplitl [Hd]; · iexact Hd
    isplitl [Ht]; · iexact Ht
    iexact Hr
  iintro Hc
  iapply Hk
  isplitl [HO]
  · isplitr; · iexact HR
    iexists _; iexact HO
  iexact Hc

/-! ## The ring -/

/-- What the `h`-th send of a stream needs, and leaves; what its `h`-th wait needs, and leaves. -/
def rSend (d q : Fin 2) (c : Dev nD) (h : Fin 15) : sProp 𝕄 :=
  iprop(dutyTok ER (dCell (nb d c) (dRR (d, q, h))) 0 0 ∗ dutyTok ER (dCell c (dRS (d, q, h))) 0 0
    ∗ ∃ f, qPts (F := F) (nb d c) (org d c h.val) (tq d q) f)
def rSent (d q : Fin 2) (c : Dev nD) (h : Fin 15) : sProp 𝕄 := cred (tallyAt (dCell c (dRS (d, q, h))) () Nq)
def rGet (d q : Fin 2) (c : Dev nD) (h : Fin 15) : sProp 𝕄 :=
  iprop(cred (tallyAt (dCell c (dRR (d, q, h))) () Nq) ∗ atPos ER (dCell c (dRR (d, q, h))) 0 ∅ 0)
def rGot (d q : Fin 2) (c : Dev nD) (h : Fin 15) : sProp 𝕄 := atPos ER (dCell c (dRR (d, q, h))) 1 ∅ 0

/-- A stream when `a` quarters are sent and `b` received: what came last is here unless it is being passed on. -/
def Str (d q : Fin 2) (c : Dev nD) (a b : ℕ) : sProp 𝕄 :=
  iprop(rem a (rSend (F := F) d q c) ∗ don a (rSent (F := F) d q c) ∗ rem b (rGet (F := F) d q c) ∗ don b (rGot (F := F) d q c)
    ∗ if a = b then held m ρ d q c b else iprop(emp))

theorem str_same (d q : Fin 2) (c : Dev nD) (a : ℕ) : Str m ρ d q c a a
    ⊢ iprop(rem a (rSend (F := F) d q c) ∗ don a (rSent (F := F) d q c) ∗ rem a (rGet (F := F) d q c) ∗ don a (rGot (F := F) d q c) ∗ held m ρ d q c a) := by
  unfold Str; rw [if_pos rfl]
theorem str_mid (d q : Fin 2) (c : Dev nD) (a : ℕ) :
    iprop(rem (a + 1) (rSend (F := F) d q c) ∗ don (a + 1) (rSent (F := F) d q c) ∗ rem a (rGet (F := F) d q c) ∗ don a (rGot (F := F) d q c))
      ⊢ Str m ρ d q c (a + 1) a := by
  unfold Str; rw [if_neg (by omega)]; iintro ⟨H1, H2, H3, H4⟩
  isplitl [H1]; · iexact H1
  isplitl [H2]; · iexact H2
  isplitl [H3]; · iexact H3
  isplitl [H4]; · iexact H4
  iempintro

theorem ring_get (c : Dev nD) (d q : Fin 2) (h : Fin 15) {a a' : ℕ} (ha : a = h.val) (ha' : a' = h.val + 1) (n : ℕ) (hn : 34 + 4 * h.val ≤ n)
    {sp sp' : Space} {s s' : Shape} {e e' : EltTy} {sm : DmaSem sig} (hsm : sm = dSem (dRR (d, q, h)))
    {src : Memref sig .tc sp' s' e'} {dst : Memref sig .tc sp s e}
    {hsrc : src.view.WordExact} {hdst : dst.view.WordExact} (hN : dst.view.dmaCredit = Nq)
    {α : Type} {Q : α → sProp 𝕄} {k' : PUnit → Prog (TpuEff nD τ sig (Elt F) Λ₀ .tc) α} :
    iprop(OW m ρ K c n ∗ Str m ρ d q c a' a)
      ⊢ iprop(((OW m ρ K c n ∗ Str m ρ d q c a' a')
            -∗ wp frame (wpE (defs₀ (F := F)) 𝒱₀ (c : Thread nD τ) none) Set.univ (k' ⟨⟩) Q)
          -∗ wp frame (wpE (defs₀ (F := F)) 𝒱₀ (c : Thread nD τ) none) Set.univ (.op (.waitDma2 sm src dst hsrc hdst) k') Q) := by
  subst ha ha'
  iintro ⟨HOW, HS⟩ Hk
  unfold Str; icases HS with ⟨H1, H2, Hrem, Hdon, -⟩
  ihave H := (rem_take h (rGet (F := F) d q c)) $$ Hrem
  icases H with ⟨Hs, Hrem⟩
  unfold rGet; icases Hs with ⟨Hc, Hat⟩
  iapply (wait_d m ρ K c (dRR (d, q, h)) rfl n (fun j h1 h2 => by show 3 + h.val < _; split_ifs <;> omega) hsm hN) $$ [HOW Hc Hat]
  · isplitl [HOW]; · iexact HOW
    isplitl [Hc]; · iexact Hc
    iexact Hat
  iintro ⟨HOW, Hat, Hp⟩
  iapply Hk
  isplitl [HOW]; · iexact HOW
  isplitl [H1]; · iexact H1
  isplitl [H2]; · iexact H2
  isplitl [Hrem]; · iexact Hrem
  isplitl [Hdon Hat]
  · iapply (don_put h (rGot (F := F) d q c))
    isplitl [Hat]; · unfold rGot; iexact Hat
    iexact Hdon
  rw [if_pos rfl]
  iapply (Entails.of_eq (show dPay m ρ c (dRR (d, q, h)) = held m ρ d q c (h.val + 1) from rfl)); iexact Hp

theorem rSend_zero (d q : Fin 2) (c : Dev nD) : rSend (F := F) d q c 0 = iprop(dutyTok ER (dCell (nb d c) (dRR (d, q, 0))) 0 0
    ∗ dutyTok ER (dCell c (dRS (d, q, 0))) 0 0 ∗ ∃ f, qPts (F := F) (nb d c) c (tq d q) f) := by
  unfold rSend; rw [show org d c ((0 : Fin 15).val) = c from org_zero d c]

/-- The first send of a stream: from the buffer of the device's own columns. -/
theorem ring_first (c : Dev nD) (d q : Fin 2) (n : ℕ) (hn : n = 30 + 2 * q.val + d.val) {n' : ℕ} (hn' : n' = n + 1) {p : Dev nD} (hp : p = nb d c)
    {src : Memref sig .tc .vmem S256x1024 .f32} {dst : Memref sig .tc .hbm S256x1024 .f32}
    (hsrc : src = cqV (tq d q)) (hdst : dst = qV c (tq d q)) {sS rS : DmaSem sig} (hsS : sS = dSem (dRS (d, q, 0))) (hrS : rS = dSem (dRR (d, q, 0)))
    {hsc : (dst : Memref sig (Dev.tc p : Thread nD τ).2.kind .hbm S256x1024 .f32).view.ref.isScScratch = false}
    {w1 : src.view.WordExact} {w2 : dst.view.WordExact}
    {hty : DmaTarget.Typed .vmem (.dma rS) (.remote (Dev.tc p : Thread nD τ) dst (.dma sS) hsc)}
    {α : Type} {Q : α → sProp 𝕄} {k' : PUnit → Prog (TpuEff nD τ sig (Elt F) Λ₀ .tc) α} :
    iprop(OW m ρ K c n ∗ Str m ρ d q c 0 0)
      ⊢ iprop(((OW m ρ K c n' ∗ Str m ρ d q c 1 0)
            -∗ wp frame (wpE (defs₀ (F := F)) 𝒱₀ (c : Thread nD τ) none) Set.univ (k' ⟨⟩) Q)
          -∗ wp frame (wpE (defs₀ (F := F)) 𝒱₀ (c : Thread nD τ) none) Set.univ
              (.op (.enqueueDma src (.remote (Dev.tc p : Thread nD τ) dst (.dma sS) hsc) (.dma rS) w1 w2 hty) k') Q) := by
  subst hn'
  subst hp hsrc hdst hsS hrS
  iintro ⟨HOW, HS⟩ Hk
  unfold OW; icases HOW with ⟨#HR, %W, HO⟩
  ihave #HI1 := (rec_inv m ρ K (c, .inr (dRS (d, q, 0)))) $$ HR
  ihave #HI2 := (rec_inv m ρ K (nb d c, .inr (dRR (d, q, 0)))) $$ HR
  ihave #Hr1 := (rec_reached m ρ K (c, .inr (dRS (d, q, 0)))) $$ HR
  ihave #Hr2 := (rec_reached m ρ K (nb d c, .inr (dRR (d, q, 0)))) $$ HR
  simp only [kcell_d]
  ihave HS := (str_same m ρ d q c 0) $$ HS
  icases HS with ⟨Hrem, Hdon, H3, H4, Hh⟩
  ihave H := (rem_take_zero (rSend (F := F) d q c)) $$ Hrem
  icases H with ⟨Hs, Hrem⟩
  ihave Hs := (Entails.of_eq (rSend_zero (F := F) d q c)) $$ Hs
  icases Hs with ⟨Ht2, Ht1, ⟨%fn, Hd⟩⟩
  ihave Hh := (Entails.of_eq (show held m ρ d q c 0 = cqPts c (tq d q) fullShare.right (cf m ρ c) from rfl)) $$ Hh
  unfold qPts cqPts
  iapply (Rounds.wp_send_pointsTo 𝒱₀ ER (Rd m ρ) (c : Thread nD τ) none (κ₁ := K (c, .inr (dRS (d, q, 0)))) (κ₂ := K (nb d c, .inr (dRR (d, q, 0))))
    (r₁ := 0) (r₂ := 0) (d₁ := 0) (d₂ := 0) (fd := fn)
    (by have h : (0 : Fin 16) ∈ dDuties c (dRS (d, q, 0)) := Finset.mem_singleton_self _
        rw [← duties_d m ρ] at h; exact h)
    (by have h : (0 : Fin 16) ∈ dDuties (nb d c) (dRR (d, q, 0)) := Finset.mem_singleton_self _
        rw [← duties_d m ρ] at h; exact h)
    () () Nq (show (qV c (tq d q)).view.amount (.dma (dSem (dRR (d, q, 0)))) = Nq from rfl) (amount_d m ρ c (dRS (d, q, 0)) 0 0) (amount_d m ρ (nb d c) (dRR (d, q, 0)) 0 0) (owed c (n + 1))
    ((owed_step c (n := n) (by have := d.isLt; have := q.isLt; omega)).trans (by
      rw [show n = 30 + 4 * (0 : Fin 15).val + 2 * q.val + d.val from by rw [hn]; rfl, obl_ring]; rfl)) (W := W)
    (by refine Entails.of_eq ?_; refine Eq.trans ?_ (payload_d m ρ c (dRS (d, q, 0)) 0 0).symm; rfl)
    (by refine Entails.of_eq ?_; refine Eq.trans ?_ (payload_d m ρ (nb d c) (dRR (d, q, 0)) 0 0).symm
        refine (pointsTo_congr (first_written m ρ c (tq d q) fn)).trans ?_
        show _ = qPts (nb d c) (org d (nb d c) ((0 : Fin 15).val + 1)) (tq d q) (G m ρ)
        rw [org_nb, show org d c ((0 : Fin 15).val) = c from org_zero d c]; rfl)) $$ [Hh Hd HO Ht1 Ht2]
  · isplitr; · iexact HI1
    isplitr; · iexact HI2
    isplitl [Hh]; · iexact Hh
    isplitl [Hd]; · iexact Hd
    isplitl [HO]; · iexact HO
    isplitl [Ht1]; · iexact Ht1
    isplitr; · iexact Hr1
    isplitl [Ht2]; · iexact Ht2
    iexact Hr2
  iintro ⟨Hc, HO⟩
  iapply Hk
  isplitl [HO]
  · isplitr; · iexact HR
    iexists _; iexact HO
  iapply (str_mid m ρ d q c 0)
  isplitl [Hrem]; · iexact Hrem
  isplitl [Hc Hdon]
  · iapply (don_put_zero (rSent (F := F) d q c))
    isplitl [Hc]; · unfold rSent; iexact Hc
    iexact Hdon
  isplitl [H3]; · iexact H3
  iexact H4

/-- A later send: the quarter that came last, passed on. -/
theorem ring_next (c : Dev nD) (d q : Fin 2) (h : Fin 15) (e : ℕ) (he : h.val = e + 1) (n : ℕ) (hn : n = 30 + 4 * h.val + 2 * q.val + d.val) {a a' : ℕ} (ha : a = h.val) (ha' : a' = h.val + 1) {n' : ℕ} (hn' : n' = n + 1)
    {p : Dev nD} (hp : p = nb d c)
    {src dst : Memref sig .tc .hbm S256x1024 .f32}
    (hsrc : src = qV (org d c h.val) (tq d q)) (hdst : dst = qV (org d c h.val) (tq d q)) {sS rS : DmaSem sig}
    (hsS : sS = dSem (dRS (d, q, h))) (hrS : rS = dSem (dRR (d, q, h)))
    {hsc : (dst : Memref sig (Dev.tc p : Thread nD τ).2.kind .hbm S256x1024 .f32).view.ref.isScScratch = false}
    {w1 : src.view.WordExact} {w2 : dst.view.WordExact}
    {hty : DmaTarget.Typed .hbm (.dma rS) (.remote (Dev.tc p : Thread nD τ) dst (.dma sS) hsc)}
    {α : Type} {Q : α → sProp 𝕄} {k' : PUnit → Prog (TpuEff nD τ sig (Elt F) Λ₀ .tc) α} :
    iprop(OW m ρ K c n ∗ Str m ρ d q c a a)
      ⊢ iprop(((OW m ρ K c n' ∗ Str m ρ d q c a' a)
            -∗ wp frame (wpE (defs₀ (F := F)) 𝒱₀ (c : Thread nD τ) none) Set.univ (k' ⟨⟩) Q)
          -∗ wp frame (wpE (defs₀ (F := F)) 𝒱₀ (c : Thread nD τ) none) Set.univ
              (.op (.enqueueDma src (.remote (Dev.tc p : Thread nD τ) dst (.dma sS) hsc) (.dma rS) w1 w2 hty) k') Q) := by
  subst ha ha' hn'
  subst hp hsrc hdst hsS hrS
  have hh : held m ρ d q c h.val = qPts c (org d c h.val) (tq d q) (G m ρ) := by rw [he]; rfl
  iintro ⟨HOW, HS⟩ Hk
  unfold OW; icases HOW with ⟨#HR, %W, HO⟩
  ihave #HI1 := (rec_inv m ρ K (c, .inr (dRS (d, q, h)))) $$ HR
  ihave #HI2 := (rec_inv m ρ K (nb d c, .inr (dRR (d, q, h)))) $$ HR
  ihave #Hr1 := (rec_reached m ρ K (c, .inr (dRS (d, q, h)))) $$ HR
  ihave #Hr2 := (rec_reached m ρ K (nb d c, .inr (dRR (d, q, h)))) $$ HR
  simp only [kcell_d]
  ihave HS := (str_same m ρ d q c h.val) $$ HS
  icases HS with ⟨Hrem, Hdon, H3, H4, Hh⟩
  ihave H := (rem_take h (rSend (F := F) d q c)) $$ Hrem
  icases H with ⟨Hs, Hrem⟩
  ihave Hs := (Entails.of_eq (show rSend (F := F) d q c h = iprop(dutyTok ER (dCell (nb d c) (dRR (d, q, h))) 0 0
    ∗ dutyTok ER (dCell c (dRS (d, q, h))) 0 0 ∗ ∃ f, qPts (F := F) (nb d c) (org d c h.val) (tq d q) f) from rfl)) $$ Hs
  icases Hs with ⟨Ht2, Ht1, ⟨%fn, Hd⟩⟩
  ihave Hh := (Entails.of_eq hh) $$ Hh
  unfold qPts
  iapply (Rounds.wp_send_pointsTo 𝒱₀ ER (Rd m ρ) (c : Thread nD τ) none (κ₁ := K (c, .inr (dRS (d, q, h)))) (κ₂ := K (nb d c, .inr (dRR (d, q, h))))
    (r₁ := 0) (r₂ := 0) (d₁ := 0) (d₂ := 0) (fd := fn)
    (by have h' : (0 : Fin 16) ∈ dDuties c (dRS (d, q, h)) := Finset.mem_singleton_self _
        rw [← duties_d m ρ] at h'; exact h')
    (by have h' : (0 : Fin 16) ∈ dDuties (nb d c) (dRR (d, q, h)) := Finset.mem_singleton_self _
        rw [← duties_d m ρ] at h'; exact h')
    () () Nq (show (qV (org d c h.val) (tq d q)).view.amount (.dma (dSem (dRR (d, q, h)))) = Nq from rfl) (amount_d m ρ c (dRS (d, q, h)) 0 0) (amount_d m ρ (nb d c) (dRR (d, q, h)) 0 0) (owed c (n + 1))
    ((owed_step c (n := n) (by have := d.isLt; have := q.isLt; have := h.isLt; omega)).trans (by rw [hn, obl_ring]; rfl)) (W := W)
    (by refine Entails.of_eq ?_; refine Eq.trans ?_ (payload_d m ρ c (dRS (d, q, h)) 0 0).symm; exact hh.symm)
    (by refine Entails.of_eq ?_; refine Eq.trans ?_ (payload_d m ρ (nb d c) (dRR (d, q, h)) 0 0).symm
        refine (pointsTo_congr (q_written (org d c h.val) (tq d q) fn (G m ρ))).trans ?_
        show _ = qPts (nb d c) (org d (nb d c) (h.val + 1)) (tq d q) (G m ρ)
        rw [org_nb]; rfl)) $$ [Hh Hd HO Ht1 Ht2]
  · isplitr; · iexact HI1
    isplitr; · iexact HI2
    isplitl [Hh]; · iexact Hh
    isplitl [Hd]; · iexact Hd
    isplitl [HO]; · iexact HO
    isplitl [Ht1]; · iexact Ht1
    isplitr; · iexact Hr1
    isplitl [Ht2]; · iexact Ht2
    iexact Hr2
  iintro ⟨Hc, HO⟩
  iapply Hk
  isplitl [HO]
  · isplitr; · iexact HR
    iexists _; iexact HO
  iapply (str_mid m ρ d q c h.val)
  isplitl [Hrem]; · iexact Hrem
  isplitl [Hc Hdon]
  · iapply (don_put h (rSent (F := F) d q c))
    isplitl [Hc]; · unfold rSent; iexact Hc
    iexact Hdon
  isplitl [H3]; · iexact H3
  iexact H4

/-- What waiting for a send to have left needs, and leaves. -/
def rOut (d q : Fin 2) (c : Dev nD) (h : Fin 15) : sProp 𝕄 :=
  iprop(cred (tallyAt (dCell c (dRS (d, q, h))) () Nq) ∗ atPos ER (dCell c (dRS (d, q, h))) 0 ∅ 0)
def rBack (d q : Fin 2) (c : Dev nD) (h : Fin 15) : sProp 𝕄 :=
  iprop(atPos ER (dCell c (dRS (d, q, h))) 1 ∅ 0 ∗ held m ρ d q c h.val)

theorem ring_out (c : Dev nD) (d q : Fin 2) (h : Fin 15) {a a' : ℕ} (ha : a = h.val) (ha' : a' = h.val + 1) {sm : DmaSem sig} (hsm : sm = dSem (dRS (d, q, h)))
    {sp sp' : Space} {s s' : Shape} {e e' : EltTy}
    {src : Memref sig .tc sp' s' e'} {dst : Memref sig .tc sp s e} {hsrc : src.view.WordExact} {hdst : dst.view.WordExact}
    (hN : dst.view.dmaCredit = Nq)
    {α : Type} {Q : α → sProp 𝕄} {k' : PUnit → Prog (TpuEff nD τ sig (Elt F) Λ₀ .tc) α} :
    iprop(OW m ρ K c 90 ∗ rem a (rOut (F := F) d q c) ∗ don a (rBack m ρ d q c))
      ⊢ iprop(((OW m ρ K c 90 ∗ rem a' (rOut (F := F) d q c) ∗ don a' (rBack m ρ d q c))
            -∗ wp frame (wpE (defs₀ (F := F)) 𝒱₀ (c : Thread nD τ) none) Set.univ (k' ⟨⟩) Q)
          -∗ wp frame (wpE (defs₀ (F := F)) 𝒱₀ (c : Thread nD τ) none) Set.univ (.op (.waitDma2 sm src dst hsrc hdst) k') Q) := by
  subst ha ha'
  exact list_wait m ρ K c (dRS (d, q, h)) rfl 90 (fun j h1 h2 => absurd h2 (by omega))
    (rOut d q c) (rBack m ρ d q c) h rfl rfl hsm hN

end Cert.SoftmaxIdeal
-- ==== Proof.CodeIdeal.lean ====
/-
  What the code names: its semaphores, devices and places, and its loads and stores.
-/
module
public import proofs.«01_k».proof.Proof.StepsIdeal
@[expose] public section
set_option maxRecDepth 4000
noncomputable section
namespace Cert.SoftmaxIdeal
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers (shareTok shareDrop pointsTo_toks_split pointsTo_toks_join)
variable {F : FTy → Type} [FloatOps F]
local notation "𝕄" => MT nD τ sig Unit (Elt F) ℕ UU ℕ
variable (m : (ℓ : Loc nD τ sig) → Buf (Elt F) ℓ) (ρ : Dev nD → PrngReg)

/-! ## The semaphores the code names -/

/-- A remote row copy is counted by its shape alone. -/
theorem credit_ms {sp : Space} (v : Memref sig .tc sp S256x128 .f32) : v.view.dmaCredit = Nms := rfl

/-- A remote quarter copy is counted by its shape alone. -/
theorem credit_q {sp : Space} (v : Memref sig .tc sp S256x1024 .f32) : v.view.dmaCredit = Nq := rfl

/-- The copy of a block is counted by its shape alone. -/
theorem credit_b {sp : Space} (v : Memref sig .tc sp S256x4096 .f32) : v.view.dmaCredit = dAmt dCs := rfl

theorem s15_inb (k : Fin 15) : ∀ a, (![k.val] : Fin 1 → ℕ) a + S1.size a ≤ S15.size a := by revert k; decide +kernel
theorem s16_inb (j : Fin 16) : ∀ a, (![j.val] : Fin 1 → ℕ) a + S1.size a ≤ S16.size a := by revert j; decide +kernel
theorem s2_inb (h : Fin 15) (q : Fin 2) : ∀ a, (![h.val, q.val] : Fin 2 → ℕ) a + S1x1.size a ≤ S15x2.size a := by revert h q; decide +kernel
theorem sem2 (k : Fin 15) : ((cc0_scratch2.slice (Rect.unit (s := S15) ![k.val] S1.size (s15_inb k))).squeeze S_ squeezes_S1_S_).sem = dSem (dMsS k) := by
  revert k; decide +kernel
theorem sem3_at (j : Fin 16) : ((cc0_scratch3.slice (Rect.unit (s := S16) ![j.val] S1.size (s16_inb j))).squeeze S_ squeezes_S1_S_).sem = dSem (dMsR j) := by
  revert j; decide +kernel
theorem sem3 {off : Fin 1 → ℕ} {inb} (j : Fin 16) (e : off = ![j.val]) :
    ((cc0_scratch3.slice (Rect.unit (s := S16) off S1.size inb)).squeeze S_ squeezes_S1_S_).sem = dSem (dMsR j) := by
  subst e; exact sem3_at j
theorem sem4 (h : Fin 15) (q : Fin 2) : ((cc0_scratch4.slice (Rect.unit (s := S15x2) ![h.val, q.val] S1x1.size (s2_inb h q))).squeeze S_ squeezes_S1x1_S_).sem = dSem (dRS (0, q, h)) := by
  revert h q; decide +kernel
theorem sem5 (h : Fin 15) (q : Fin 2) : ((cc0_scratch5.slice (Rect.unit (s := S15x2) ![h.val, q.val] S1x1.size (s2_inb h q))).squeeze S_ squeezes_S1x1_S_).sem = dSem (dRR (0, q, h)) := by
  revert h q; decide +kernel
theorem sem6 (h : Fin 15) (q : Fin 2) : ((cc0_scratch6.slice (Rect.unit (s := S15x2) ![h.val, q.val] S1x1.size (s2_inb h q))).squeeze S_ squeezes_S1x1_S_).sem = dSem (dRS (1, q, h)) := by
  revert h q; decide +kernel
theorem sem7 (h : Fin 15) (q : Fin 2) : ((cc0_scratch7.slice (Rect.unit (s := S15x2) ![h.val, q.val] S1x1.size (s2_inb h q))).squeeze S_ squeezes_S1x1_S_).sem = dSem (dRR (1, q, h)) := by
  revert h q; decide +kernel
theorem sem8 : cc0_scratch8.sem = dSem dCs := by decide +kernel

/-! ## The devices and places it names -/

theorem dev_peer {v : ℕ} {hv : v < 16} (c : Dev nD) (k : Fin 15) (e : v = (c.val + (k.val + 1)) % 16) : (⟨v, hv⟩ : Dev nD) = peer c k :=
  Fin.ext (e.trans (peer_val c k).symm)
theorem nb_zero_val (c : Dev nD) : (nb 0 c).val = (c.val + 1) % 16 := by revert c; decide +kernel
theorem nb_one_val (c : Dev nD) : (nb 1 c).val = (c.val + 15) % 16 := by revert c; decide +kernel
theorem dev_right {v : ℕ} {hv : v < 16} (c : Dev nD) (e : v = (c.val + 1) % 16) : (⟨v, hv⟩ : Dev nD) = nb 0 c :=
  Fin.ext (e.trans (nb_zero_val c).symm)
theorem dev_left {v : ℕ} {hv : v < 16} (c : Dev nD) (e : v = (c.val + 15) % 16) : (⟨v, hv⟩ : Dev nD) = nb 1 c :=
  Fin.ext (e.trans (nb_one_val c).symm)
theorem frm_off (c : Dev nD) (r : Fin 15) : k0_off4 c (BitVec.ofNat 32 (1 + r.val)) = ![(frm c r).val] := by
  rw [k0_off4_eq, frm_val]
theorem org_zero_val (c : Dev nD) (h : Fin 15) : (org 0 c h.val).val = (c.val + 32 - h.val) % 16 := by revert c h; decide +kernel
theorem org_one_val (c : Dev nD) (h : Fin 15) : (org 1 c h.val).val = (c.val + h.val) % 16 := by revert c h; decide +kernel
theorem off_right (c : Dev nD) (h : Fin 15) (q : Fin 2) : k0_off7 c (BitVec.ofNat 32 h.val) (BitVec.ofNat 32 (1024 * q.val))
    = ![0, 4096 * (org 0 c h.val).val + 1024 * (tq 0 q).val] := by
  rw [k0_off7_eq, org_zero_val, show (tq 0 q).val = q.val from by unfold tq; simp]
theorem off_left (c : Dev nD) (h : Fin 15) (q : Fin 2) : k0_off8 c (BitVec.ofNat 32 h.val) (BitVec.ofNat 32 (2048 + 1024 * q.val))
    = ![0, 4096 * (org 1 c h.val).val + 1024 * (tq 1 q).val] := by
  rw [k0_off8_eq, org_one_val, show (tq 1 q).val = 2 + q.val from by unfold tq; simp,
    show 4096 * ((c.val + h.val) % 16) + 1024 * q.val + 2048 = 4096 * ((c.val + h.val) % 16) + 1024 * (2 + q.val) from by omega]
theorem off_right_zero (c : Dev nD) (q : Fin 2) : k0_off7 c (BitVec.ofNat 32 0) (BitVec.ofNat 32 (1024 * q.val))
    = ![0, 4096 * c.val + 1024 * (tq 0 q).val] := by
  have h := off_right c 0 q
  rwa [show org 0 c ((0 : Fin 15).val) = c from org_zero 0 c] at h
theorem off_left_zero (c : Dev nD) (q : Fin 2) : k0_off8 c (BitVec.ofNat 32 0) (BitVec.ofNat 32 (2048 + 1024 * q.val))
    = ![0, 4096 * c.val + 1024 * (tq 1 q).val] := by
  have h := off_left c 0 q
  rwa [show org 1 c ((0 : Fin 15).val) = c from org_zero 1 c] at h

/-! ## Loads and stores -/

section Access
theorem hz2 : (![0, 0] : Fin 2 → ℕ) = fun _ => 0 := by funext a; fin_cases a <;> rfl
theorem hz3 : (![0, 0, 0] : Fin 3 → ℕ) = fun _ => 0 := by funext a; fin_cases a <;> rfl

theorem read_x (f : S256x512.Idx → F .f32) {inb} :
    View.readAt (Elt F) (Memref.whole cc0_stg0_0 : Memref sig .tc .vmem S256x512 .f32).view (Rect.unit (s := S256x512) ![0, 0] S256x512.size inb).toLoadRect f = f :=
  Memref.readAt_unit_zero (Elt F) cc0_stg0_0 hz2 _ _
theorem read_w (f : S512x4096.Idx → F .f32) {inb} :
    View.readAt (Elt F) (Memref.whole cc0_stg1_0 : Memref sig .tc .vmem S512x4096 .f32).view (Rect.unit (s := S512x4096) ![0, 0] S512x4096.size inb).toLoadRect f = f :=
  Memref.readAt_unit_zero (Elt F) cc0_stg1_0 hz2 _ _
theorem read_c (f : S1x256x4096.Idx → F .f32) {inb} :
    View.readAt (Elt F) (Memref.whole cc0_scratch0 : Memref sig .tc .vmem S1x256x4096 .f32).view (Rect.unit (s := S1x256x4096) ![0, 0, 0] S1x256x4096.size inb).toLoadRect f = f :=
  Memref.readAt_unit_zero (Elt F) cc0_scratch0 hz3 _ _
theorem write_c (f w : S1x256x4096.Idx → F .f32) {inb} :
    ((Memref.whole cc0_scratch0 : Memref sig .tc .vmem S1x256x4096 .f32).access (Rect.unit (s := S1x256x4096) ![0, 0, 0] S1x256x4096.size inb)).write (Elt F) f w Finset.univ = w :=
  Memref.write_access_unit_zero_univ (Elt F) cc0_scratch0 hz3 _ f w

theorem load_x (c : Dev nD) (f : S256x512.Idx → F .f32) {inb} {hl}
    {α : Type} {Q : α → sProp 𝕄} {k : ((Rect.unit (s := S256x512) ![0, 0] S256x512.size inb).shape.Idx → Elt F .f32) → Prog (TpuEff nD τ sig (Elt F) Λ₀ .tc) α} :
    ((c : Thread nD τ).loc cc0_stg0_0 ↦{fullShare} f : sProp 𝕄)
      ⊢ iprop((((c : Thread nD τ).loc cc0_stg0_0 ↦{fullShare} f) -∗ wp frame (wpE (defs₀ (F := F)) 𝒱₀ (c : Thread nD τ) none) Set.univ (k f) Q)
        -∗ wp frame (wpE (defs₀ (F := F)) 𝒱₀ (c : Thread nD τ) none) Set.univ
            (.op (.load (Memref.whole cc0_stg0_0) (Rect.unit (s := S256x512) ![0, 0] S256x512.size inb).toLoadRect hl) k) Q) := by
  iintro H Hk
  iapply (wp_load 𝒱₀ (c : Thread nD τ) none Set.univ (m := Memref.whole cc0_stg0_0) (Finset.subset_univ _)) $$ H; iintro H
  rw [read_x f]
  iapply Hk; iexact H
theorem load_w (c : Dev nD) (f : S512x4096.Idx → F .f32) {inb} {hl}
    {α : Type} {Q : α → sProp 𝕄} {k : ((Rect.unit (s := S512x4096) ![0, 0] S512x4096.size inb).shape.Idx → Elt F .f32) → Prog (TpuEff nD τ sig (Elt F) Λ₀ .tc) α} :
    ((c : Thread nD τ).loc cc0_stg1_0 ↦{fullShare} f : sProp 𝕄)
      ⊢ iprop((((c : Thread nD τ).loc cc0_stg1_0 ↦{fullShare} f) -∗ wp frame (wpE (defs₀ (F := F)) 𝒱₀ (c : Thread nD τ) none) Set.univ (k f) Q)
        -∗ wp frame (wpE (defs₀ (F := F)) 𝒱₀ (c : Thread nD τ) none) Set.univ
            (.op (.load (Memref.whole cc0_stg1_0) (Rect.unit (s := S512x4096) ![0, 0] S512x4096.size inb).toLoadRect hl) k) Q) := by
  iintro H Hk
  iapply (wp_load 𝒱₀ (c : Thread nD τ) none Set.univ (m := Memref.whole cc0_stg1_0) (Finset.subset_univ _)) $$ H; iintro H
  rw [read_w f]
  iapply Hk; iexact H
theorem load_c (c : Dev nD) (f : S1x256x4096.Idx → F .f32) {inb} {hl}
    {α : Type} {Q : α → sProp 𝕄} {k : ((Rect.unit (s := S1x256x4096) ![0, 0, 0] S1x256x4096.size inb).shape.Idx → Elt F .f32) → Prog (TpuEff nD τ sig (Elt F) Λ₀ .tc) α} :
    ((c : Thread nD τ).loc cc0_scratch0 ↦{fullShare} f : sProp 𝕄)
      ⊢ iprop((((c : Thread nD τ).loc cc0_scratch0 ↦{fullShare} f) -∗ wp frame (wpE (defs₀ (F := F)) 𝒱₀ (c : Thread nD τ) none) Set.univ (k f) Q)
        -∗ wp frame (wpE (defs₀ (F := F)) 𝒱₀ (c : Thread nD τ) none) Set.univ
            (.op (.load (Memref.whole cc0_scratch0) (Rect.unit (s := S1x256x4096) ![0, 0, 0] S1x256x4096.size inb).toLoadRect hl) k) Q) := by
  iintro H Hk
  iapply (wp_load 𝒱₀ (c : Thread nD τ) none Set.univ (m := Memref.whole cc0_scratch0) (Finset.subset_univ _)) $$ H; iintro H
  rw [read_c f]
  iapply Hk; iexact H
theorem store_c (c : Dev nD) (f w : S1x256x4096.Idx → F .f32) {inb} {hx} {hm}
    {α : Type} {Q : α → sProp 𝕄} {k : PUnit → Prog (TpuEff nD τ sig (Elt F) Λ₀ .tc) α} :
    ((c : Thread nD τ).loc cc0_scratch0 ↦{fullShare} f : sProp 𝕄)
      ⊢ iprop((((c : Thread nD τ).loc cc0_scratch0 ↦{fullShare} w) -∗ wp frame (wpE (defs₀ (F := F)) 𝒱₀ (c : Thread nD τ) none) Set.univ (k ⟨⟩) Q)
        -∗ wp frame (wpE (defs₀ (F := F)) 𝒱₀ (c : Thread nD τ) none) Set.univ
            (.op (.store (Memref.whole cc0_scratch0) (Rect.unit (s := S1x256x4096) ![0, 0, 0] S1x256x4096.size inb) w Finset.univ hx hm) k) Q) := by
  iintro H Hk
  iapply (wp_store 𝒱₀ (c : Thread nD τ) none Set.univ (m := Memref.whole cc0_scratch0) (r := Rect.unit (s := S1x256x4096) ![0, 0, 0] S1x256x4096.size inb)
    (Mk := Finset.univ) (Finset.subset_univ _)) $$ H; iintro H
  rw [write_c f w]
  iapply Hk; iexact H
theorem load_t (c : Dev nD) (off : Fin 3 → ℕ) (inb : ∀ a, off a + S1x256x1.size a ≤ S16x256x128.size a) {hl}
    {α : Type} {Q : α → sProp 𝕄} {k : ((Rect.unit (s := S16x256x128) off S1x256x1.size inb).shape.Idx → Elt F .f32) → Prog (TpuEff nD τ sig (Elt F) Λ₀ .tc) α} :
    ((c : Thread nD τ).loc cc0_scratch1 ↦{fullShare} MS m ρ : sProp 𝕄)
      ⊢ iprop((((c : Thread nD τ).loc cc0_scratch1 ↦{fullShare} MS m ρ) -∗ wp frame (wpE (defs₀ (F := F)) 𝒱₀ (c : Thread nD τ) none) Set.univ (k (ld m ρ off inb)) Q)
        -∗ wp frame (wpE (defs₀ (F := F)) 𝒱₀ (c : Thread nD τ) none) Set.univ
            (.op (.load (Memref.whole cc0_scratch1) (Rect.unit (s := S16x256x128) off S1x256x1.size inb).toLoadRect hl) k) Q) := by
  iintro H Hk
  iapply (wp_load 𝒱₀ (c : Thread nD τ) none Set.univ (m := Memref.whole cc0_scratch1) (Finset.subset_univ _)) $$ H; iintro H
  iapply Hk; iexact H

theorem row_access (c : Dev nD) {inb} : ((Memref.whole cc0_scratch1 : Memref sig .tc .vmem S16x256x128 .f32).access
    (Rect.unit (s := S16x256x128) ![c.val, 0, 0] S1x256x128.size inb)).set = (rowV c).view.set :=
  (View.set_slice_whole _ _).trans (rowV_set c).symm
theorem row_sub (c : Dev nD) {inb} : ((Memref.whole cc0_scratch1 : Memref sig .tc .vmem S16x256x128 .f32).access
    (Rect.unit (s := S16x256x128) ![c.val, 0, 0] S1x256x128.size inb)).set ⊆ (rowV c).view.set := by
  exact (row_access c).subset
theorem rowPts_eq (c : Dev nD) (j : Fin 16) (q : PosShare TreeShare) (f : S16x256x128.Idx → F .f32) :
    rowPts c j q f = ((c : Thread nD τ).loc cc0_scratch1 ↦[(rowV j).view.set]{q} f) := rfl
/-- A load of the device's own row: what it reads is not used. -/
theorem load_row (c : Dev nD) (f : S16x256x128.Idx → F .f32) {off : Fin 3 → ℕ} (ho : off = ![c.val, 0, 0]) {inb} {hl}
    {α : Type} {Q : α → sProp 𝕄} {k : ((Rect.unit (s := S16x256x128) off S1x256x128.size inb).shape.Idx → Elt F .f32) → Prog (TpuEff nD τ sig (Elt F) Λ₀ .tc) α} :
    rowPts c c fullShare f
      ⊢ iprop((∀ v, rowPts c c fullShare f -∗ wp frame (wpE (defs₀ (F := F)) 𝒱₀ (c : Thread nD τ) none) Set.univ (k v) Q)
        -∗ wp frame (wpE (defs₀ (F := F)) 𝒱₀ (c : Thread nD τ) none) Set.univ
            (.op (.load (Memref.whole cc0_scratch1) (Rect.unit (s := S16x256x128) off S1x256x128.size inb).toLoadRect hl) k) Q) := by
  subst ho
  simp only [rowPts_eq]
  iintro H Hk
  iapply (wp_load_rect 𝒱₀ (c : Thread nD τ) none Set.univ (m := Memref.whole cc0_scratch1)
    (r := Rect.unit (s := S16x256x128) ![c.val, 0, 0] S1x256x128.size inb) (q := fullShare) (f := f) (row_sub c)) $$ H
  iintro H
  iapply Hk; iexact H

theorem sq_row (x : S256x128.Idx) : Shape.reshapeEquiv (s' := S256x128) (s := S1x256x128) squeezes_S1x256x128_S256x128.numel_eq x
    = ix3 (⟨0, Nat.one_pos⟩ : Fin 1) (x 0) (x 1) := by
  have h := ValueIdx.reshapeEquiv_ix2_1ab (a := 256) (b := 128) squeezes_S1x256x128_S256x128.numel_eq (x 0) (x 1)
  refine Eq.trans (congrArg _ ?_) h
  funext a; fin_cases a <;> rfl
/-- The table at a place. -/
theorem MS_at (j : Fin 16) (x : Fin 256) (y : Fin 128) (i : S16x256x128.Idx) (h0 : (i 0).val = j.val) (h1 : (i 1).val = x.val)
    (h2 : (i 2).val = y.val) : MS m ρ i = k0_pay5 (lg m ρ j) (mx m ρ j) (ix3 (0 : Fin 1) x y) := by
  obtain rfl : i 0 = j := Fin.ext h0
  obtain rfl : i 1 = x := Fin.ext h1
  obtain rfl : i 2 = y := Fin.ext h2
  rfl
theorem row_stored (c : Dev nD) (f : S16x256x128.Idx → F .f32) {inb} :
    ∀ i ∈ (rowV c).view.set, ((Memref.whole cc0_scratch1 : Memref sig .tc .vmem S16x256x128 .f32).access
      (Rect.unit (s := S16x256x128) ![c.val, 0, 0] S1x256x128.size inb)).write (Elt F) f (k0_pay5 (lg m ρ c) (mx m ρ c)) Finset.univ i = MS m ρ i := by
  intro i hi
  have hi' : i ∈ ((Memref.whole cc0_scratch1 : Memref sig .tc .vmem S16x256x128 .f32).access
      (Rect.unit (s := S16x256x128) ![c.val, 0, 0] S1x256x128.size inb)).set := by
    rw [row_access c]; exact hi
  obtain ⟨x, -, rfl⟩ := Finset.mem_map.mp hi'
  refine (View.write_emb_of_mem _ _ (Finset.mem_univ _)).trans ?_
  have e0 : (x 0).val = 0 := by have h : (x 0).val < 1 := (x 0).isLt; omega
  refine Eq.trans (congrArg (k0_pay5 (lg m ρ c) (mx m ρ c)) ?_) (MS_at m ρ c (x 1) (x 2) _ ?_ ?_ ?_).symm
  · funext a; refine Fin.ext ?_
    fin_cases a
    · exact e0
    · rfl
    · rfl
  · show c.val + 1 * (x 0).val = c.val; omega
  · show 0 + 1 * (x 1).val = (x 1).val; omega
  · show 0 + 1 * (x 2).val = (x 2).val; omega
theorem row_pts (c : Dev nD) (f : S16x256x128.Idx → F .f32) {inb} :
    ((c : Thread nD τ).loc cc0_scratch1 ↦[(rowV c).view.set]{fullShare} (((Memref.whole cc0_scratch1 : Memref sig .tc .vmem S16x256x128 .f32).access
    (Rect.unit (s := S16x256x128) ![c.val, 0, 0] S1x256x128.size inb)).write (Elt F) f (k0_pay5 (lg m ρ c) (mx m ρ c)) Finset.univ) : sProp 𝕄)
      = ((c : Thread nD τ).loc cc0_scratch1 ↦[(rowV c).view.set]{fullShare} MS m ρ) :=
  pointsTo_congr (row_stored m ρ c f)
theorem store_row (c : Dev nD) (f : S16x256x128.Idx → F .f32) {off : Fin 3 → ℕ} (ho : off = ![c.val, 0, 0]) {inb} {hx} {hm}
    {α : Type} {Q : α → sProp 𝕄} {k : PUnit → Prog (TpuEff nD τ sig (Elt F) Λ₀ .tc) α} :
    rowPts c c fullShare f
      ⊢ iprop((rowPts c c fullShare (MS m ρ) -∗ wp frame (wpE (defs₀ (F := F)) 𝒱₀ (c : Thread nD τ) none) Set.univ (k ⟨⟩) Q)
        -∗ wp frame (wpE (defs₀ (F := F)) 𝒱₀ (c : Thread nD τ) none) Set.univ
            (.op (.store (Memref.whole cc0_scratch1) (Rect.unit (s := S16x256x128) off S1x256x128.size inb)
              (k0_pay5 (lg m ρ c) (mx m ρ c)) Finset.univ hx hm) k) Q) := by
  subst ho
  simp only [rowPts_eq]
  iintro H Hk
  iapply (wp_store 𝒱₀ (c : Thread nD τ) none Set.univ (m := Memref.whole cc0_scratch1)
    (r := Rect.unit (s := S16x256x128) ![c.val, 0, 0] S1x256x128.size inb) (w := k0_pay5 (lg m ρ c) (mx m ρ c)) (Mk := Finset.univ) (f := f)
    (row_sub c)) $$ H
  iintro H
  iapply Hk
  iapply (Entails.of_eq (row_pts m ρ c f))
  iexact H
end Access

end Cert.SoftmaxIdeal
-- ==== Proof.RunAIdeal.lean ====
/-
  The stretches of the body that only signal, send table rows or await them, each as one step between the states of the protocol.
-/
module
public import proofs.«01_k».proof.Proof.CodeIdeal
@[expose] public section
set_option maxHeartbeats 1000000
set_option maxRecDepth 4000
noncomputable section
namespace Cert.SoftmaxIdeal
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers (shareTok shareDrop pointsTo_toks_split pointsTo_toks_join)
variable {F : FTy → Type} [FloatOps F]
local notation "𝕄" => MT nD τ sig Unit (Elt F) ℕ UU ℕ
variable (m : (ℓ : Loc nD τ sig) → Buf (Elt F) ℓ) (ρ : Dev nD → PrngReg)

variable (K : Dev nD × KIx → ℕ)

theorem part1 (c : Dev nD)  {Q : _ → sProp 𝕄} :
    iprop(OW m ρ K c 0 ∗ rem 0 (sigRes (F := F) c))
      ⊢ iprop((∀ v2 v4 v7 v25 w, (OW m ρ K c 4 ∗ rem 4 (sigRes (F := F) c)) -∗ Q ⟨c, v2, v4, v7, (SemArray.scalar (sig.barrier 0 rfl)), v25, w⟩)
        -∗ wp frame (wpE (defs₀ (F := F)) 𝒱₀ (c : Thread nD τ) none) Set.univ
          (k0_part1 (F := F) (Memref.whole cc0_stg0_0) (Memref.isWhole_whole _) (Memref.whole cc0_stg1_0) (Memref.isWhole_whole _) (Memref.whole main_v1) (Memref.isWhole_whole _)
          (Memref.whole cc0_scratch0) (Memref.isWhole_whole _) (Memref.whole cc0_scratch1) (Memref.isWhole_whole _)
          cc0_scratch2 cc0_scratch3 cc0_scratch4 cc0_scratch5 cc0_scratch6 cc0_scratch7 cc0_scratch8) Q) := by
  rw [k0_part1_eq_skeleton]; unfold k0_part1_skel
  simp only [semSignalWord, semWaitWord, Prog.lift, Prog.bind_op, Prog.bind_ret, Prog.pure_eq_ret, Prog.bind_assoc, wp_deviceId]
  iintro ⟨HO, H0⟩ Hk
  iapply (sig_step m ρ K c 0 rfl rfl (dev_peer c 0 (k0_dev1_eq c))) $$ [HO H0]
  · isplitl [HO]; · iexact HO
    iexact H0
  iintro ⟨HO, H0⟩
  iapply (sig_step m ρ K c 1 rfl rfl (dev_peer c 1 (k0_dev2_eq c))) $$ [HO H0]
  · isplitl [HO]; · iexact HO
    iexact H0
  iintro ⟨HO, H0⟩
  iapply (sig_step m ρ K c 2 rfl rfl (dev_peer c 2 (k0_dev3_eq c))) $$ [HO H0]
  · isplitl [HO]; · iexact HO
    iexact H0
  iintro ⟨HO, H0⟩
  iapply (sig_step m ρ K c 3 rfl rfl (dev_peer c 3 (k0_dev4_eq c))) $$ [HO H0]
  · isplitl [HO]; · iexact HO
    iexact H0
  iintro ⟨HO, H0⟩
  rw [wp_ret]; imodintro
  iapply Hk
  isplitl [HO]; · iexact HO
  iexact H0

theorem part2 (c : Dev nD) (v2 : BitVec 32) (v25 : BitVec 32) (c16_i32_21 : BitVec 32) {Q : _ → sProp 𝕄} :
    iprop(OW m ρ K c 4 ∗ rem 4 (sigRes (F := F) c))
      ⊢ iprop((∀ r, (OW m ρ K c 10 ∗ rem 10 (sigRes (F := F) c)) -∗ Q r)
        -∗ wp frame (wpE (defs₀ (F := F)) 𝒱₀ (c : Thread nD τ) none) Set.univ
          (k0_part2 (F := F) (Memref.whole cc0_stg0_0) (Memref.isWhole_whole _) (Memref.whole cc0_stg1_0) (Memref.isWhole_whole _) (Memref.whole main_v1) (Memref.isWhole_whole _)
          (Memref.whole cc0_scratch0) (Memref.isWhole_whole _) (Memref.whole cc0_scratch1) (Memref.isWhole_whole _)
          cc0_scratch2 cc0_scratch3 cc0_scratch4 cc0_scratch5 cc0_scratch6 cc0_scratch7 cc0_scratch8 c v2 (SemArray.scalar (sig.barrier 0 rfl)) v25 c16_i32_21) Q) := by
  rw [k0_part2_eq_skeleton]; unfold k0_part2_skel
  simp only [semSignalWord, semWaitWord, Prog.lift, Prog.bind_op, Prog.bind_ret, Prog.pure_eq_ret, Prog.bind_assoc, wp_deviceId]
  iintro ⟨HO, H0⟩ Hk
  iapply (sig_step m ρ K c 4 rfl rfl (dev_peer c 4 (k0_dev5_eq c))) $$ [HO H0]
  · isplitl [HO]; · iexact HO
    iexact H0
  iintro ⟨HO, H0⟩
  iapply (sig_step m ρ K c 5 rfl rfl (dev_peer c 5 (k0_dev6_eq c))) $$ [HO H0]
  · isplitl [HO]; · iexact HO
    iexact H0
  iintro ⟨HO, H0⟩
  iapply (sig_step m ρ K c 6 rfl rfl (dev_peer c 6 (k0_dev7_eq c))) $$ [HO H0]
  · isplitl [HO]; · iexact HO
    iexact H0
  iintro ⟨HO, H0⟩
  iapply (sig_step m ρ K c 7 rfl rfl (dev_peer c 7 (k0_dev8_eq c))) $$ [HO H0]
  · isplitl [HO]; · iexact HO
    iexact H0
  iintro ⟨HO, H0⟩
  iapply (sig_step m ρ K c 8 rfl rfl (dev_peer c 8 (k0_dev9_eq c))) $$ [HO H0]
  · isplitl [HO]; · iexact HO
    iexact H0
  iintro ⟨HO, H0⟩
  iapply (sig_step m ρ K c 9 rfl rfl (dev_peer c 9 (k0_dev10_eq c))) $$ [HO H0]
  · isplitl [HO]; · iexact HO
    iexact H0
  iintro ⟨HO, H0⟩
  rw [wp_ret]; imodintro
  iapply Hk
  isplitl [HO]; · iexact HO
  iexact H0

theorem part5 (c : Dev nD) (v2 : BitVec 32) {Q : _ → sProp 𝕄} :
    iprop(OW m ρ K c 16 ∗ (rem 1 (msSend m ρ c) ∗ don 1 (msSent (F := F) c)))
      ⊢ iprop((∀ r, (OW m ρ K c 19 ∗ (rem 4 (msSend m ρ c) ∗ don 4 (msSent (F := F) c))) -∗ Q r)
        -∗ wp frame (wpE (defs₀ (F := F)) 𝒱₀ (c : Thread nD τ) none) Set.univ
          (k0_part5 (F := F) (Memref.whole cc0_stg0_0) (Memref.isWhole_whole _) (Memref.whole cc0_stg1_0) (Memref.isWhole_whole _) (Memref.whole main_v1) (Memref.isWhole_whole _)
          (Memref.whole cc0_scratch0) (Memref.isWhole_whole _) (Memref.whole cc0_scratch1) (Memref.isWhole_whole _)
          cc0_scratch2 cc0_scratch3 cc0_scratch4 cc0_scratch5 cc0_scratch6 cc0_scratch7 cc0_scratch8 c v2) Q) := by
  rw [k0_part5_eq_skeleton]; unfold k0_part5_skel
  simp only [semSignalWord, semWaitWord, Prog.lift, Prog.bind_op, Prog.bind_ret, Prog.pure_eq_ret, Prog.bind_assoc, wp_deviceId]
  iintro ⟨HO, H0⟩ Hk
  iapply (ms_step m ρ K c 1 rfl rfl rfl rfl (dev_peer c 1 (k0_dev17_eq c)) (rowV_of c (k0_off3_eq c)) (rowV_of c (k0_off3_eq c)) (sem2 1) (sem3 c (k0_off2_eq c))) $$ [HO H0]
  · isplitl [HO]; · iexact HO
    iexact H0
  iintro ⟨HO, H0⟩
  iapply (ms_step m ρ K c 2 rfl rfl rfl rfl (dev_peer c 2 (k0_dev18_eq c)) (rowV_of c (k0_off3_eq c)) (rowV_of c (k0_off3_eq c)) (sem2 2) (sem3 c (k0_off2_eq c))) $$ [HO H0]
  · isplitl [HO]; · iexact HO
    iexact H0
  iintro ⟨HO, H0⟩
  iapply (ms_step m ρ K c 3 rfl rfl rfl rfl (dev_peer c 3 (k0_dev19_eq c)) (rowV_of c (k0_off3_eq c)) (rowV_of c (k0_off3_eq c)) (sem2 3) (sem3 c (k0_off2_eq c))) $$ [HO H0]
  · isplitl [HO]; · iexact HO
    iexact H0
  iintro ⟨HO, H0⟩
  rw [wp_ret]; imodintro
  iapply Hk
  isplitl [HO]; · iexact HO
  iexact H0

theorem part6 (c : Dev nD) (v2 : BitVec 32) (v139 : BitVec 32) (c1_i32_116 : BitVec 32) {Q : _ → sProp 𝕄} :
    iprop(OW m ρ K c 19 ∗ (rem 4 (msSend m ρ c) ∗ don 4 (msSent (F := F) c)))
      ⊢ iprop(((OW m ρ K c 22 ∗ (rem 7 (msSend m ρ c) ∗ don 7 (msSent (F := F) c))) -∗ Q ⟨⟩)
        -∗ wp frame (wpE (defs₀ (F := F)) 𝒱₀ (c : Thread nD τ) none) Set.univ
          (k0_part6 (F := F) (Memref.whole cc0_stg0_0) (Memref.isWhole_whole _) (Memref.whole cc0_stg1_0) (Memref.isWhole_whole _) (Memref.whole main_v1) (Memref.isWhole_whole _)
          (Memref.whole cc0_scratch0) (Memref.isWhole_whole _) (Memref.whole cc0_scratch1) (Memref.isWhole_whole _)
          cc0_scratch2 cc0_scratch3 cc0_scratch4 cc0_scratch5 cc0_scratch6 cc0_scratch7 cc0_scratch8 c v2 v139 c1_i32_116) Q) := by
  rw [k0_part6_eq_skeleton]; unfold k0_part6_skel
  simp only [semSignalWord, semWaitWord, Prog.lift, Prog.bind_op, Prog.bind_ret, Prog.pure_eq_ret, Prog.bind_assoc, wp_deviceId]
  iintro ⟨HO, H0⟩ Hk
  iapply (ms_step m ρ K c 4 rfl rfl rfl rfl (dev_peer c 4 (k0_dev20_eq c)) (rowV_of c (k0_off3_eq c)) (rowV_of c (k0_off3_eq c)) (sem2 4) (sem3 c (k0_off2_eq c))) $$ [HO H0]
  · isplitl [HO]; · iexact HO
    iexact H0
  iintro ⟨HO, H0⟩
  iapply (ms_step m ρ K c 5 rfl rfl rfl rfl (dev_peer c 5 (k0_dev21_eq c)) (rowV_of c (k0_off3_eq c)) (rowV_of c (k0_off3_eq c)) (sem2 5) (sem3 c (k0_off2_eq c))) $$ [HO H0]
  · isplitl [HO]; · iexact HO
    iexact H0
  iintro ⟨HO, H0⟩
  iapply (ms_step m ρ K c 6 rfl rfl rfl rfl (dev_peer c 6 (k0_dev22_eq c)) (rowV_of c (k0_off3_eq c)) (rowV_of c (k0_off3_eq c)) (sem2 6) (sem3 c (k0_off2_eq c))) $$ [HO H0]
  · isplitl [HO]; · iexact HO
    iexact H0
  iintro ⟨HO, H0⟩
  rw [wp_ret]; imodintro
  iapply Hk
  isplitl [HO]; · iexact HO
  iexact H0

theorem part7 (c : Dev nD) (v2 : BitVec 32) {Q : _ → sProp 𝕄} :
    iprop(OW m ρ K c 22 ∗ (rem 7 (msSend m ρ c) ∗ don 7 (msSent (F := F) c)))
      ⊢ iprop(((OW m ρ K c 24 ∗ (rem 9 (msSend m ρ c) ∗ don 9 (msSent (F := F) c))) -∗ Q ⟨⟩)
        -∗ wp frame (wpE (defs₀ (F := F)) 𝒱₀ (c : Thread nD τ) none) Set.univ
          (k0_part7 (F := F) (Memref.whole cc0_stg0_0) (Memref.isWhole_whole _) (Memref.whole cc0_stg1_0) (Memref.isWhole_whole _) (Memref.whole main_v1) (Memref.isWhole_whole _)
          (Memref.whole cc0_scratch0) (Memref.isWhole_whole _) (Memref.whole cc0_scratch1) (Memref.isWhole_whole _)
          cc0_scratch2 cc0_scratch3 cc0_scratch4 cc0_scratch5 cc0_scratch6 cc0_scratch7 cc0_scratch8 c v2) Q) := by
  rw [k0_part7_eq_skeleton]; unfold k0_part7_skel
  simp only [semSignalWord, semWaitWord, Prog.lift, Prog.bind_op, Prog.bind_ret, Prog.pure_eq_ret, Prog.bind_assoc, wp_deviceId]
  iintro ⟨HO, H0⟩ Hk
  iapply (ms_step m ρ K c 7 rfl rfl rfl rfl (dev_peer c 7 (k0_dev23_eq c)) (rowV_of c (k0_off3_eq c)) (rowV_of c (k0_off3_eq c)) (sem2 7) (sem3 c (k0_off2_eq c))) $$ [HO H0]
  · isplitl [HO]; · iexact HO
    iexact H0
  iintro ⟨HO, H0⟩
  iapply (ms_step m ρ K c 8 rfl rfl rfl rfl (dev_peer c 8 (k0_dev24_eq c)) (rowV_of c (k0_off3_eq c)) (rowV_of c (k0_off3_eq c)) (sem2 8) (sem3 c (k0_off2_eq c))) $$ [HO H0]
  · isplitl [HO]; · iexact HO
    iexact H0
  iintro ⟨HO, H0⟩
  rw [wp_ret]; imodintro
  iapply Hk
  isplitl [HO]; · iexact HO
  iexact H0

theorem part8 (c : Dev nD) (v2 : BitVec 32) {Q : _ → sProp 𝕄} :
    iprop(OW m ρ K c 24 ∗ (rem 9 (msSend m ρ c) ∗ don 9 (msSent (F := F) c)))
      ⊢ iprop(((OW m ρ K c 27 ∗ (rem 12 (msSend m ρ c) ∗ don 12 (msSent (F := F) c))) -∗ Q ⟨⟩)
        -∗ wp frame (wpE (defs₀ (F := F)) 𝒱₀ (c : Thread nD τ) none) Set.univ
          (k0_part8 (F := F) (Memref.whole cc0_stg0_0) (Memref.isWhole_whole _) (Memref.whole cc0_stg1_0) (Memref.isWhole_whole _) (Memref.whole main_v1) (Memref.isWhole_whole _)
          (Memref.whole cc0_scratch0) (Memref.isWhole_whole _) (Memref.whole cc0_scratch1) (Memref.isWhole_whole _)
          cc0_scratch2 cc0_scratch3 cc0_scratch4 cc0_scratch5 cc0_scratch6 cc0_scratch7 cc0_scratch8 c v2) Q) := by
  rw [k0_part8_eq_skeleton]; unfold k0_part8_skel
  simp only [semSignalWord, semWaitWord, Prog.lift, Prog.bind_op, Prog.bind_ret, Prog.pure_eq_ret, Prog.bind_assoc, wp_deviceId]
  iintro ⟨HO, H0⟩ Hk
  iapply (ms_step m ρ K c 9 rfl rfl rfl rfl (dev_peer c 9 (k0_dev25_eq c)) (rowV_of c (k0_off3_eq c)) (rowV_of c (k0_off3_eq c)) (sem2 9) (sem3 c (k0_off2_eq c))) $$ [HO H0]
  · isplitl [HO]; · iexact HO
    iexact H0
  iintro ⟨HO, H0⟩
  iapply (ms_step m ρ K c 10 rfl rfl rfl rfl (dev_peer c 10 (k0_dev26_eq c)) (rowV_of c (k0_off3_eq c)) (rowV_of c (k0_off3_eq c)) (sem2 10) (sem3 c (k0_off2_eq c))) $$ [HO H0]
  · isplitl [HO]; · iexact HO
    iexact H0
  iintro ⟨HO, H0⟩
  iapply (ms_step m ρ K c 11 rfl rfl rfl rfl (dev_peer c 11 (k0_dev27_eq c)) (rowV_of c (k0_off3_eq c)) (rowV_of c (k0_off3_eq c)) (sem2 11) (sem3 c (k0_off2_eq c))) $$ [HO H0]
  · isplitl [HO]; · iexact HO
    iexact H0
  iintro ⟨HO, H0⟩
  rw [wp_ret]; imodintro
  iapply Hk
  isplitl [HO]; · iexact HO
  iexact H0

theorem part9 (c : Dev nD) (v2 : BitVec 32) {Q : _ → sProp 𝕄} :
    iprop(OW m ρ K c 27 ∗ (rem 12 (msSend m ρ c) ∗ don 12 (msSent (F := F) c)))
      ⊢ iprop((∀ r, (OW m ρ K c 30 ∗ (rem 15 (msSend m ρ c) ∗ don 15 (msSent (F := F) c))) -∗ Q r)
        -∗ wp frame (wpE (defs₀ (F := F)) 𝒱₀ (c : Thread nD τ) none) Set.univ
          (k0_part9 (F := F) (Memref.whole cc0_stg0_0) (Memref.isWhole_whole _) (Memref.whole cc0_stg1_0) (Memref.isWhole_whole _) (Memref.whole main_v1) (Memref.isWhole_whole _)
          (Memref.whole cc0_scratch0) (Memref.isWhole_whole _) (Memref.whole cc0_scratch1) (Memref.isWhole_whole _)
          cc0_scratch2 cc0_scratch3 cc0_scratch4 cc0_scratch5 cc0_scratch6 cc0_scratch7 cc0_scratch8 c v2) Q) := by
  rw [k0_part9_eq_skeleton]; unfold k0_part9_skel
  simp only [semSignalWord, semWaitWord, Prog.lift, Prog.bind_op, Prog.bind_ret, Prog.pure_eq_ret, Prog.bind_assoc, wp_deviceId]
  iintro ⟨HO, H0⟩ Hk
  iapply (ms_step m ρ K c 12 rfl rfl rfl rfl (dev_peer c 12 (k0_dev28_eq c)) (rowV_of c (k0_off3_eq c)) (rowV_of c (k0_off3_eq c)) (sem2 12) (sem3 c (k0_off2_eq c))) $$ [HO H0]
  · isplitl [HO]; · iexact HO
    iexact H0
  iintro ⟨HO, H0⟩
  iapply (ms_step m ρ K c 13 rfl rfl rfl rfl (dev_peer c 13 (k0_dev29_eq c)) (rowV_of c (k0_off3_eq c)) (rowV_of c (k0_off3_eq c)) (sem2 13) (sem3 c (k0_off2_eq c))) $$ [HO H0]
  · isplitl [HO]; · iexact HO
    iexact H0
  iintro ⟨HO, H0⟩
  iapply (ms_step m ρ K c 14 rfl rfl rfl rfl (dev_peer c 14 (k0_dev30_eq c)) (rowV_of c (k0_off3_eq c)) (rowV_of c (k0_off3_eq c)) (sem2 14) (sem3 c (k0_off2_eq c))) $$ [HO H0]
  · isplitl [HO]; · iexact HO
    iexact H0
  iintro ⟨HO, H0⟩
  rw [wp_ret]; imodintro
  iapply Hk
  isplitl [HO]; · iexact HO
  iexact H0

theorem part10 (c : Dev nD) (v2 : BitVec 32) (v271 : BitVec 32) {Q : _ → sProp 𝕄} :
    iprop(OW m ρ K c 30 ∗ (rem 0 (msGet (F := F) c) ∗ don 0 (msGot m ρ c)))
      ⊢ iprop(((OW m ρ K c 30 ∗ (rem 2 (msGet (F := F) c) ∗ don 2 (msGot m ρ c))) -∗ Q ⟨⟩)
        -∗ wp frame (wpE (defs₀ (F := F)) 𝒱₀ (c : Thread nD τ) none) Set.univ
          (k0_part10 (F := F) (Memref.whole cc0_stg0_0) (Memref.isWhole_whole _) (Memref.whole cc0_stg1_0) (Memref.isWhole_whole _) (Memref.whole main_v1) (Memref.isWhole_whole _)
          (Memref.whole cc0_scratch0) (Memref.isWhole_whole _) (Memref.whole cc0_scratch1) (Memref.isWhole_whole _)
          cc0_scratch2 cc0_scratch3 cc0_scratch4 cc0_scratch5 cc0_scratch6 cc0_scratch7 cc0_scratch8 c v2 v271) Q) := by
  rw [k0_part10_eq_skeleton]; unfold k0_part10_skel
  simp only [semSignalWord, semWaitWord, Prog.lift, Prog.bind_op, Prog.bind_ret, Prog.pure_eq_ret, Prog.bind_assoc, wp_deviceId]
  iintro ⟨HO, H0⟩ Hk
  iapply (msGet_step m ρ K c 0 rfl rfl (sem3 (frm c 0) (frm_off c 0)) (credit_ms _)) $$ [HO H0]
  · isplitl [HO]; · iexact HO
    iexact H0
  iintro ⟨HO, H0⟩
  iapply (msGet_step m ρ K c 1 rfl rfl (sem3 (frm c 1) (frm_off c 1)) (credit_ms _)) $$ [HO H0]
  · isplitl [HO]; · iexact HO
    iexact H0
  iintro ⟨HO, H0⟩
  rw [wp_ret]; imodintro
  iapply Hk
  isplitl [HO]; · iexact HO
  iexact H0

theorem part11 (c : Dev nD) (v2 : BitVec 32) {Q : _ → sProp 𝕄} :
    iprop(OW m ρ K c 30 ∗ (rem 2 (msGet (F := F) c) ∗ don 2 (msGot m ρ c)))
      ⊢ iprop(((OW m ρ K c 30 ∗ (rem 5 (msGet (F := F) c) ∗ don 5 (msGot m ρ c))) -∗ Q ⟨⟩)
        -∗ wp frame (wpE (defs₀ (F := F)) 𝒱₀ (c : Thread nD τ) none) Set.univ
          (k0_part11 (F := F) (Memref.whole cc0_stg0_0) (Memref.isWhole_whole _) (Memref.whole cc0_stg1_0) (Memref.isWhole_whole _) (Memref.whole main_v1) (Memref.isWhole_whole _)
          (Memref.whole cc0_scratch0) (Memref.isWhole_whole _) (Memref.whole cc0_scratch1) (Memref.isWhole_whole _)
          cc0_scratch2 cc0_scratch3 cc0_scratch4 cc0_scratch5 cc0_scratch6 cc0_scratch7 cc0_scratch8 c v2) Q) := by
  rw [k0_part11_eq_skeleton]; unfold k0_part11_skel
  simp only [semSignalWord, semWaitWord, Prog.lift, Prog.bind_op, Prog.bind_ret, Prog.pure_eq_ret, Prog.bind_assoc, wp_deviceId]
  iintro ⟨HO, H0⟩ Hk
  iapply (msGet_step m ρ K c 2 rfl rfl (sem3 (frm c 2) (frm_off c 2)) (credit_ms _)) $$ [HO H0]
  · isplitl [HO]; · iexact HO
    iexact H0
  iintro ⟨HO, H0⟩
  iapply (msGet_step m ρ K c 3 rfl rfl (sem3 (frm c 3) (frm_off c 3)) (credit_ms _)) $$ [HO H0]
  · isplitl [HO]; · iexact HO
    iexact H0
  iintro ⟨HO, H0⟩
  iapply (msGet_step m ρ K c 4 rfl rfl (sem3 (frm c 4) (frm_off c 4)) (credit_ms _)) $$ [HO H0]
  · isplitl [HO]; · iexact HO
    iexact H0
  iintro ⟨HO, H0⟩
  rw [wp_ret]; imodintro
  iapply Hk
  isplitl [HO]; · iexact HO
  iexact H0

theorem part12 (c : Dev nD) (v2 : BitVec 32) {Q : _ → sProp 𝕄} :
    iprop(OW m ρ K c 30 ∗ (rem 5 (msGet (F := F) c) ∗ don 5 (msGot m ρ c)))
      ⊢ iprop((∀ r, (OW m ρ K c 30 ∗ (rem 8 (msGet (F := F) c) ∗ don 8 (msGot m ρ c))) -∗ Q r)
        -∗ wp frame (wpE (defs₀ (F := F)) 𝒱₀ (c : Thread nD τ) none) Set.univ
          (k0_part12 (F := F) (Memref.whole cc0_stg0_0) (Memref.isWhole_whole _) (Memref.whole cc0_stg1_0) (Memref.isWhole_whole _) (Memref.whole main_v1) (Memref.isWhole_whole _)
          (Memref.whole cc0_scratch0) (Memref.isWhole_whole _) (Memref.whole cc0_scratch1) (Memref.isWhole_whole _)
          cc0_scratch2 cc0_scratch3 cc0_scratch4 cc0_scratch5 cc0_scratch6 cc0_scratch7 cc0_scratch8 c v2) Q) := by
  rw [k0_part12_eq_skeleton]; unfold k0_part12_skel
  simp only [semSignalWord, semWaitWord, Prog.lift, Prog.bind_op, Prog.bind_ret, Prog.pure_eq_ret, Prog.bind_assoc, wp_deviceId]
  iintro ⟨HO, H0⟩ Hk
  iapply (msGet_step m ρ K c 5 rfl rfl (sem3 (frm c 5) (frm_off c 5)) (credit_ms _)) $$ [HO H0]
  · isplitl [HO]; · iexact HO
    iexact H0
  iintro ⟨HO, H0⟩
  iapply (msGet_step m ρ K c 6 rfl rfl (sem3 (frm c 6) (frm_off c 6)) (credit_ms _)) $$ [HO H0]
  · isplitl [HO]; · iexact HO
    iexact H0
  iintro ⟨HO, H0⟩
  iapply (msGet_step m ρ K c 7 rfl rfl (sem3 (frm c 7) (frm_off c 7)) (credit_ms _)) $$ [HO H0]
  · isplitl [HO]; · iexact HO
    iexact H0
  iintro ⟨HO, H0⟩
  rw [wp_ret]; imodintro
  iapply Hk
  isplitl [HO]; · iexact HO
  iexact H0

theorem part13 (c : Dev nD) (v2 : BitVec 32) (c1_i32_296 : BitVec 32) {Q : _ → sProp 𝕄} :
    iprop(OW m ρ K c 30 ∗ (rem 8 (msGet (F := F) c) ∗ don 8 (msGot m ρ c)))
      ⊢ iprop((∀ r, (OW m ρ K c 30 ∗ (rem 11 (msGet (F := F) c) ∗ don 11 (msGot m ρ c))) -∗ Q r)
        -∗ wp frame (wpE (defs₀ (F := F)) 𝒱₀ (c : Thread nD τ) none) Set.univ
          (k0_part13 (F := F) (Memref.whole cc0_stg0_0) (Memref.isWhole_whole _) (Memref.whole cc0_stg1_0) (Memref.isWhole_whole _) (Memref.whole main_v1) (Memref.isWhole_whole _)
          (Memref.whole cc0_scratch0) (Memref.isWhole_whole _) (Memref.whole cc0_scratch1) (Memref.isWhole_whole _)
          cc0_scratch2 cc0_scratch3 cc0_scratch4 cc0_scratch5 cc0_scratch6 cc0_scratch7 cc0_scratch8 c v2 c1_i32_296) Q) := by
  rw [k0_part13_eq_skeleton]; unfold k0_part13_skel
  simp only [semSignalWord, semWaitWord, Prog.lift, Prog.bind_op, Prog.bind_ret, Prog.pure_eq_ret, Prog.bind_assoc, wp_deviceId]
  iintro ⟨HO, H0⟩ Hk
  iapply (msGet_step m ρ K c 8 rfl rfl (sem3 (frm c 8) (frm_off c 8)) (credit_ms _)) $$ [HO H0]
  · isplitl [HO]; · iexact HO
    iexact H0
  iintro ⟨HO, H0⟩
  iapply (msGet_step m ρ K c 9 rfl rfl (sem3 (frm c 9) (frm_off c 9)) (credit_ms _)) $$ [HO H0]
  · isplitl [HO]; · iexact HO
    iexact H0
  iintro ⟨HO, H0⟩
  iapply (msGet_step m ρ K c 10 rfl rfl (sem3 (frm c 10) (frm_off c 10)) (credit_ms _)) $$ [HO H0]
  · isplitl [HO]; · iexact HO
    iexact H0
  iintro ⟨HO, H0⟩
  rw [wp_ret]; imodintro
  iapply Hk
  isplitl [HO]; · iexact HO
  iexact H0

theorem part14 (c : Dev nD) (v2 : BitVec 32) (v391 : BitVec 32) {Q : _ → sProp 𝕄} :
    iprop(OW m ρ K c 30 ∗ (rem 11 (msGet (F := F) c) ∗ don 11 (msGot m ρ c)))
      ⊢ iprop(((OW m ρ K c 30 ∗ (rem 13 (msGet (F := F) c) ∗ don 13 (msGot m ρ c))) -∗ Q ⟨⟩)
        -∗ wp frame (wpE (defs₀ (F := F)) 𝒱₀ (c : Thread nD τ) none) Set.univ
          (k0_part14 (F := F) (Memref.whole cc0_stg0_0) (Memref.isWhole_whole _) (Memref.whole cc0_stg1_0) (Memref.isWhole_whole _) (Memref.whole main_v1) (Memref.isWhole_whole _)
          (Memref.whole cc0_scratch0) (Memref.isWhole_whole _) (Memref.whole cc0_scratch1) (Memref.isWhole_whole _)
          cc0_scratch2 cc0_scratch3 cc0_scratch4 cc0_scratch5 cc0_scratch6 cc0_scratch7 cc0_scratch8 c v2 v391) Q) := by
  rw [k0_part14_eq_skeleton]; unfold k0_part14_skel
  simp only [semSignalWord, semWaitWord, Prog.lift, Prog.bind_op, Prog.bind_ret, Prog.pure_eq_ret, Prog.bind_assoc, wp_deviceId]
  iintro ⟨HO, H0⟩ Hk
  iapply (msGet_step m ρ K c 11 rfl rfl (sem3 (frm c 11) (frm_off c 11)) (credit_ms _)) $$ [HO H0]
  · isplitl [HO]; · iexact HO
    iexact H0
  iintro ⟨HO, H0⟩
  iapply (msGet_step m ρ K c 12 rfl rfl (sem3 (frm c 12) (frm_off c 12)) (credit_ms _)) $$ [HO H0]
  · isplitl [HO]; · iexact HO
    iexact H0
  iintro ⟨HO, H0⟩
  rw [wp_ret]; imodintro
  iapply Hk
  isplitl [HO]; · iexact HO
  iexact H0

theorem part15 (c : Dev nD) (v2 : BitVec 32) {Q : _ → sProp 𝕄} :
    iprop(OW m ρ K c 30 ∗ (rem 13 (msGet (F := F) c) ∗ don 13 (msGot m ρ c)) ∗ (rem 0 (msOut (F := F) c) ∗ don 0 (msBack m ρ c)))
      ⊢ iprop(((OW m ρ K c 30 ∗ (rem 15 (msGet (F := F) c) ∗ don 15 (msGot m ρ c)) ∗ (rem 2 (msOut (F := F) c) ∗ don 2 (msBack m ρ c))) -∗ Q ⟨⟩)
        -∗ wp frame (wpE (defs₀ (F := F)) 𝒱₀ (c : Thread nD τ) none) Set.univ
          (k0_part15 (F := F) (Memref.whole cc0_stg0_0) (Memref.isWhole_whole _) (Memref.whole cc0_stg1_0) (Memref.isWhole_whole _) (Memref.whole main_v1) (Memref.isWhole_whole _)
          (Memref.whole cc0_scratch0) (Memref.isWhole_whole _) (Memref.whole cc0_scratch1) (Memref.isWhole_whole _)
          cc0_scratch2 cc0_scratch3 cc0_scratch4 cc0_scratch5 cc0_scratch6 cc0_scratch7 cc0_scratch8 c v2) Q) := by
  rw [k0_part15_eq_skeleton]; unfold k0_part15_skel
  simp only [semSignalWord, semWaitWord, Prog.lift, Prog.bind_op, Prog.bind_ret, Prog.pure_eq_ret, Prog.bind_assoc, wp_deviceId]
  iintro ⟨HO, H0, H1⟩ Hk
  iapply (msGet_step m ρ K c 13 rfl rfl (sem3 (frm c 13) (frm_off c 13)) (credit_ms _)) $$ [HO H0]
  · isplitl [HO]; · iexact HO
    iexact H0
  iintro ⟨HO, H0⟩
  iapply (msGet_step m ρ K c 14 rfl rfl (sem3 (frm c 14) (frm_off c 14)) (credit_ms _)) $$ [HO H0]
  · isplitl [HO]; · iexact HO
    iexact H0
  iintro ⟨HO, H0⟩
  iapply (msOut_step m ρ K c 0 rfl rfl (sem2 0) (credit_ms _)) $$ [HO H1]
  · isplitl [HO]; · iexact HO
    iexact H1
  iintro ⟨HO, H1⟩
  iapply (msOut_step m ρ K c 1 rfl rfl (sem2 1) (credit_ms _)) $$ [HO H1]
  · isplitl [HO]; · iexact HO
    iexact H1
  iintro ⟨HO, H1⟩
  rw [wp_ret]; imodintro
  iapply Hk
  isplitl [HO]; · iexact HO
  isplitl [H0]; · iexact H0
  iexact H1

theorem part16 (c : Dev nD)  {Q : _ → sProp 𝕄} :
    iprop(OW m ρ K c 30 ∗ (rem 2 (msOut (F := F) c) ∗ don 2 (msBack m ρ c)))
      ⊢ iprop(((OW m ρ K c 30 ∗ (rem 7 (msOut (F := F) c) ∗ don 7 (msBack m ρ c))) -∗ Q ⟨⟩)
        -∗ wp frame (wpE (defs₀ (F := F)) 𝒱₀ (c : Thread nD τ) none) Set.univ
          (k0_part16 (F := F) (Memref.whole cc0_stg0_0) (Memref.isWhole_whole _) (Memref.whole cc0_stg1_0) (Memref.isWhole_whole _) (Memref.whole main_v1) (Memref.isWhole_whole _)
          (Memref.whole cc0_scratch0) (Memref.isWhole_whole _) (Memref.whole cc0_scratch1) (Memref.isWhole_whole _)
          cc0_scratch2 cc0_scratch3 cc0_scratch4 cc0_scratch5 cc0_scratch6 cc0_scratch7 cc0_scratch8 c) Q) := by
  rw [k0_part16_eq_skeleton]; unfold k0_part16_skel
  simp only [semSignalWord, semWaitWord, Prog.lift, Prog.bind_op, Prog.bind_ret, Prog.pure_eq_ret, Prog.bind_assoc, wp_deviceId]
  iintro ⟨HO, H0⟩ Hk
  iapply (msOut_step m ρ K c 2 rfl rfl (sem2 2) (credit_ms _)) $$ [HO H0]
  · isplitl [HO]; · iexact HO
    iexact H0
  iintro ⟨HO, H0⟩
  iapply (msOut_step m ρ K c 3 rfl rfl (sem2 3) (credit_ms _)) $$ [HO H0]
  · isplitl [HO]; · iexact HO
    iexact H0
  iintro ⟨HO, H0⟩
  iapply (msOut_step m ρ K c 4 rfl rfl (sem2 4) (credit_ms _)) $$ [HO H0]
  · isplitl [HO]; · iexact HO
    iexact H0
  iintro ⟨HO, H0⟩
  iapply (msOut_step m ρ K c 5 rfl rfl (sem2 5) (credit_ms _)) $$ [HO H0]
  · isplitl [HO]; · iexact HO
    iexact H0
  iintro ⟨HO, H0⟩
  iapply (msOut_step m ρ K c 6 rfl rfl (sem2 6) (credit_ms _)) $$ [HO H0]
  · isplitl [HO]; · iexact HO
    iexact H0
  iintro ⟨HO, H0⟩
  rw [wp_ret]; imodintro
  iapply Hk
  isplitl [HO]; · iexact HO
  iexact H0

theorem part17 (c : Dev nD)  {Q : _ → sProp 𝕄} :
    iprop(OW m ρ K c 30 ∗ (rem 7 (msOut (F := F) c) ∗ don 7 (msBack m ρ c)))
      ⊢ iprop(((OW m ρ K c 30 ∗ (rem 11 (msOut (F := F) c) ∗ don 11 (msBack m ρ c))) -∗ Q ⟨⟩)
        -∗ wp frame (wpE (defs₀ (F := F)) 𝒱₀ (c : Thread nD τ) none) Set.univ
          (k0_part17 (F := F) (Memref.whole cc0_stg0_0) (Memref.isWhole_whole _) (Memref.whole cc0_stg1_0) (Memref.isWhole_whole _) (Memref.whole main_v1) (Memref.isWhole_whole _)
          (Memref.whole cc0_scratch0) (Memref.isWhole_whole _) (Memref.whole cc0_scratch1) (Memref.isWhole_whole _)
          cc0_scratch2 cc0_scratch3 cc0_scratch4 cc0_scratch5 cc0_scratch6 cc0_scratch7 cc0_scratch8 c) Q) := by
  rw [k0_part17_eq_skeleton]; unfold k0_part17_skel
  simp only [semSignalWord, semWaitWord, Prog.lift, Prog.bind_op, Prog.bind_ret, Prog.pure_eq_ret, Prog.bind_assoc, wp_deviceId]
  iintro ⟨HO, H0⟩ Hk
  iapply (msOut_step m ρ K c 7 rfl rfl (sem2 7) (credit_ms _)) $$ [HO H0]
  · isplitl [HO]; · iexact HO
    iexact H0
  iintro ⟨HO, H0⟩
  iapply (msOut_step m ρ K c 8 rfl rfl (sem2 8) (credit_ms _)) $$ [HO H0]
  · isplitl [HO]; · iexact HO
    iexact H0
  iintro ⟨HO, H0⟩
  iapply (msOut_step m ρ K c 9 rfl rfl (sem2 9) (credit_ms _)) $$ [HO H0]
  · isplitl [HO]; · iexact HO
    iexact H0
  iintro ⟨HO, H0⟩
  iapply (msOut_step m ρ K c 10 rfl rfl (sem2 10) (credit_ms _)) $$ [HO H0]
  · isplitl [HO]; · iexact HO
    iexact H0
  iintro ⟨HO, H0⟩
  rw [wp_ret]; imodintro
  iapply Hk
  isplitl [HO]; · iexact HO
  iexact H0

end Cert.SoftmaxIdeal
-- ==== Proof.RunBIdeal.lean ====
/-
  The stretches of the body that run the ring, first half.
-/
module
public import proofs.«01_k».proof.Proof.CodeIdeal
@[expose] public section
set_option maxHeartbeats 1000000
set_option maxRecDepth 4000
noncomputable section
namespace Cert.SoftmaxIdeal
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers (shareTok shareDrop pointsTo_toks_split pointsTo_toks_join)
variable {F : FTy → Type} [FloatOps F]
local notation "𝕄" => MT nD τ sig Unit (Elt F) ℕ UU ℕ
variable (m : (ℓ : Loc nD τ sig) → Buf (Elt F) ℓ) (ρ : Dev nD → PrngReg)

variable (K : Dev nD × KIx → ℕ)

theorem part25 (c : Dev nD) (v2 : BitVec 32) (v4 : BitVec 32) (v7 : BitVec 32) {Q : _ → sProp 𝕄} :
    iprop(OW m ρ K c 30 ∗ Str m ρ 0 0 c 0 0 ∗ Str m ρ 1 0 c 0 0 ∗ Str m ρ 0 1 c 0 0)
      ⊢ iprop(((OW m ρ K c 33 ∗ Str m ρ 0 0 c 1 0 ∗ Str m ρ 1 0 c 1 0 ∗ Str m ρ 0 1 c 1 0) -∗ Q ⟨⟩)
        -∗ wp frame (wpE (defs₀ (F := F)) 𝒱₀ (c : Thread nD τ) none) Set.univ
          (k0_part25 (F := F) (Memref.whole cc0_stg0_0) (Memref.isWhole_whole _) (Memref.whole cc0_stg1_0) (Memref.isWhole_whole _) (Memref.whole main_v1) (Memref.isWhole_whole _)
          (Memref.whole cc0_scratch0) (Memref.isWhole_whole _) (Memref.whole cc0_scratch1) (Memref.isWhole_whole _)
          cc0_scratch2 cc0_scratch3 cc0_scratch4 cc0_scratch5 cc0_scratch6 cc0_scratch7 cc0_scratch8 c v2 v4 v7) Q) := by
  rw [k0_part25_eq_skeleton]; unfold k0_part25_skel
  simp only [semSignalWord, semWaitWord, Prog.lift, Prog.bind_op, Prog.bind_ret, Prog.pure_eq_ret, Prog.bind_assoc, wp_deviceId]
  iintro ⟨HO, H0, H1, H2⟩ Hk
  iapply (ring_first m ρ K c 0 0 30 rfl rfl (dev_right c (k0_dev31_eq c)) rfl (qV_of c (tq 0 0) (off_right_zero c 0)) (sem4 0 0) (sem5 0 0)) $$ [HO H0]
  · isplitl [HO]; · iexact HO
    iexact H0
  iintro ⟨HO, H0⟩
  iapply (ring_first m ρ K c 1 0 31 rfl rfl (dev_left c (k0_dev32_eq c)) rfl (qV_of c (tq 1 0) (off_left_zero c 0)) (sem6 0 0) (sem7 0 0)) $$ [HO H1]
  · isplitl [HO]; · iexact HO
    iexact H1
  iintro ⟨HO, H1⟩
  iapply (ring_first m ρ K c 0 1 32 rfl rfl (dev_right c (k0_dev33_eq c)) rfl (qV_of c (tq 0 1) (off_right_zero c 1)) (sem4 0 1) (sem5 0 1)) $$ [HO H2]
  · isplitl [HO]; · iexact HO
    iexact H2
  iintro ⟨HO, H2⟩
  rw [wp_ret]; imodintro
  iapply Hk
  isplitl [HO]; · iexact HO
  isplitl [H0]; · iexact H0
  isplitl [H1]; · iexact H1
  iexact H2

theorem part26 (c : Dev nD) (v2 : BitVec 32) (v4 : BitVec 32) (v7 : BitVec 32) {Q : _ → sProp 𝕄} :
    iprop(OW m ρ K c 33 ∗ Str m ρ 1 1 c 0 0 ∗ Str m ρ 0 0 c 1 0)
      ⊢ iprop(((OW m ρ K c 34 ∗ Str m ρ 1 1 c 1 0 ∗ Str m ρ 0 0 c 1 1) -∗ Q ⟨⟩)
        -∗ wp frame (wpE (defs₀ (F := F)) 𝒱₀ (c : Thread nD τ) none) Set.univ
          (k0_part26 (F := F) (Memref.whole cc0_stg0_0) (Memref.isWhole_whole _) (Memref.whole cc0_stg1_0) (Memref.isWhole_whole _) (Memref.whole main_v1) (Memref.isWhole_whole _)
          (Memref.whole cc0_scratch0) (Memref.isWhole_whole _) (Memref.whole cc0_scratch1) (Memref.isWhole_whole _)
          cc0_scratch2 cc0_scratch3 cc0_scratch4 cc0_scratch5 cc0_scratch6 cc0_scratch7 cc0_scratch8 c v2 v4 v7) Q) := by
  rw [k0_part26_eq_skeleton]; unfold k0_part26_skel
  simp only [semSignalWord, semWaitWord, Prog.lift, Prog.bind_op, Prog.bind_ret, Prog.pure_eq_ret, Prog.bind_assoc, wp_deviceId]
  iintro ⟨HO, H0, H1⟩ Hk
  iapply (ring_first m ρ K c 1 1 33 rfl rfl (dev_left c (k0_dev34_eq c)) rfl (qV_of c (tq 1 1) (off_left_zero c 1)) (sem6 0 1) (sem7 0 1)) $$ [HO H0]
  · isplitl [HO]; · iexact HO
    iexact H0
  iintro ⟨HO, H0⟩
  iapply (ring_get m ρ K c 0 0 0 rfl rfl 34 (by decide) (sem5 0 0) (credit_q _)) $$ [HO H1]
  · isplitl [HO]; · iexact HO
    iexact H1
  iintro ⟨HO, H1⟩
  rw [wp_ret]; imodintro
  iapply Hk
  isplitl [HO]; · iexact HO
  isplitl [H0]; · iexact H0
  iexact H1

theorem part27 (c : Dev nD) (v2 : BitVec 32) (v4 : BitVec 32) (v7 : BitVec 32) {Q : _ → sProp 𝕄} :
    iprop(OW m ρ K c 34 ∗ Str m ρ 0 0 c 1 1 ∗ Str m ρ 1 0 c 1 0)
      ⊢ iprop(((OW m ρ K c 36 ∗ Str m ρ 0 0 c 2 1 ∗ Str m ρ 1 0 c 2 1) -∗ Q ⟨⟩)
        -∗ wp frame (wpE (defs₀ (F := F)) 𝒱₀ (c : Thread nD τ) none) Set.univ
          (k0_part27 (F := F) (Memref.whole cc0_stg0_0) (Memref.isWhole_whole _) (Memref.whole cc0_stg1_0) (Memref.isWhole_whole _) (Memref.whole main_v1) (Memref.isWhole_whole _)
          (Memref.whole cc0_scratch0) (Memref.isWhole_whole _) (Memref.whole cc0_scratch1) (Memref.isWhole_whole _)
          cc0_scratch2 cc0_scratch3 cc0_scratch4 cc0_scratch5 cc0_scratch6 cc0_scratch7 cc0_scratch8 c v2 v4 v7) Q) := by
  rw [k0_part27_eq_skeleton]; unfold k0_part27_skel
  simp only [semSignalWord, semWaitWord, Prog.lift, Prog.bind_op, Prog.bind_ret, Prog.pure_eq_ret, Prog.bind_assoc, wp_deviceId]
  iintro ⟨HO, H0, H1⟩ Hk
  iapply (ring_next m ρ K c 0 0 1 0 rfl 34 rfl rfl rfl rfl (dev_right c (k0_dev35_eq c)) (qV_of (org 0 c (1 : Fin 15).val) (tq 0 0) (off_right c 1 0)) (qV_of (org 0 c (1 : Fin 15).val) (tq 0 0) (off_right c 1 0)) (sem4 1 0) (sem5 1 0)) $$ [HO H0]
  · isplitl [HO]; · iexact HO
    iexact H0
  iintro ⟨HO, H0⟩
  iapply (ring_get m ρ K c 1 0 0 rfl rfl 35 (by decide) (sem7 0 0) (credit_q _)) $$ [HO H1]
  · isplitl [HO]; · iexact HO
    iexact H1
  iintro ⟨HO, H1⟩
  iapply (ring_next m ρ K c 1 0 1 0 rfl 35 rfl rfl rfl rfl (dev_left c (k0_dev36_eq c)) (qV_of (org 1 c (1 : Fin 15).val) (tq 1 0) (off_left c 1 0)) (qV_of (org 1 c (1 : Fin 15).val) (tq 1 0) (off_left c 1 0)) (sem6 1 0) (sem7 1 0)) $$ [HO H1]
  · isplitl [HO]; · iexact HO
    iexact H1
  iintro ⟨HO, H1⟩
  rw [wp_ret]; imodintro
  iapply Hk
  isplitl [HO]; · iexact HO
  isplitl [H0]; · iexact H0
  iexact H1

theorem part28 (c : Dev nD) (v2 : BitVec 32) (v4 : BitVec 32) (v7 : BitVec 32) {Q : _ → sProp 𝕄} :
    iprop(OW m ρ K c 36 ∗ Str m ρ 0 1 c 1 0 ∗ Str m ρ 1 1 c 1 0)
      ⊢ iprop((∀ r, (OW m ρ K c 37 ∗ Str m ρ 0 1 c 2 1 ∗ Str m ρ 1 1 c 1 1) -∗ Q r)
        -∗ wp frame (wpE (defs₀ (F := F)) 𝒱₀ (c : Thread nD τ) none) Set.univ
          (k0_part28 (F := F) (Memref.whole cc0_stg0_0) (Memref.isWhole_whole _) (Memref.whole cc0_stg1_0) (Memref.isWhole_whole _) (Memref.whole main_v1) (Memref.isWhole_whole _)
          (Memref.whole cc0_scratch0) (Memref.isWhole_whole _) (Memref.whole cc0_scratch1) (Memref.isWhole_whole _)
          cc0_scratch2 cc0_scratch3 cc0_scratch4 cc0_scratch5 cc0_scratch6 cc0_scratch7 cc0_scratch8 c v2 v4 v7) Q) := by
  rw [k0_part28_eq_skeleton]; unfold k0_part28_skel
  simp only [semSignalWord, semWaitWord, Prog.lift, Prog.bind_op, Prog.bind_ret, Prog.pure_eq_ret, Prog.bind_assoc, wp_deviceId]
  iintro ⟨HO, H0, H1⟩ Hk
  iapply (ring_get m ρ K c 0 1 0 rfl rfl 36 (by decide) (sem5 0 1) (credit_q _)) $$ [HO H0]
  · isplitl [HO]; · iexact HO
    iexact H0
  iintro ⟨HO, H0⟩
  iapply (ring_next m ρ K c 0 1 1 0 rfl 36 rfl rfl rfl rfl (dev_right c (k0_dev37_eq c)) (qV_of (org 0 c (1 : Fin 15).val) (tq 0 1) (off_right c 1 1)) (qV_of (org 0 c (1 : Fin 15).val) (tq 0 1) (off_right c 1 1)) (sem4 1 1) (sem5 1 1)) $$ [HO H0]
  · isplitl [HO]; · iexact HO
    iexact H0
  iintro ⟨HO, H0⟩
  iapply (ring_get m ρ K c 1 1 0 rfl rfl 37 (by decide) (sem7 0 1) (credit_q _)) $$ [HO H1]
  · isplitl [HO]; · iexact HO
    iexact H1
  iintro ⟨HO, H1⟩
  rw [wp_ret]; imodintro
  iapply Hk
  isplitl [HO]; · iexact HO
  isplitl [H0]; · iexact H0
  iexact H1

theorem part29 (c : Dev nD) (v2 : BitVec 32) (v4 : BitVec 32) (v7 : BitVec 32) (c1_i32_725 : BitVec 32) {Q : _ → sProp 𝕄} :
    iprop(OW m ρ K c 37 ∗ Str m ρ 1 1 c 1 1 ∗ Str m ρ 0 0 c 2 1)
      ⊢ iprop(((OW m ρ K c 38 ∗ Str m ρ 1 1 c 2 1 ∗ Str m ρ 0 0 c 2 2) -∗ Q ⟨⟩)
        -∗ wp frame (wpE (defs₀ (F := F)) 𝒱₀ (c : Thread nD τ) none) Set.univ
          (k0_part29 (F := F) (Memref.whole cc0_stg0_0) (Memref.isWhole_whole _) (Memref.whole cc0_stg1_0) (Memref.isWhole_whole _) (Memref.whole main_v1) (Memref.isWhole_whole _)
          (Memref.whole cc0_scratch0) (Memref.isWhole_whole _) (Memref.whole cc0_scratch1) (Memref.isWhole_whole _)
          cc0_scratch2 cc0_scratch3 cc0_scratch4 cc0_scratch5 cc0_scratch6 cc0_scratch7 cc0_scratch8 c v2 v4 v7 c1_i32_725) Q) := by
  rw [k0_part29_eq_skeleton]; unfold k0_part29_skel
  simp only [semSignalWord, semWaitWord, Prog.lift, Prog.bind_op, Prog.bind_ret, Prog.pure_eq_ret, Prog.bind_assoc, wp_deviceId]
  iintro ⟨HO, H0, H1⟩ Hk
  iapply (ring_next m ρ K c 1 1 1 0 rfl 37 rfl rfl rfl rfl (dev_left c (k0_dev38_eq c)) (qV_of (org 1 c (1 : Fin 15).val) (tq 1 1) (off_left c 1 1)) (qV_of (org 1 c (1 : Fin 15).val) (tq 1 1) (off_left c 1 1)) (sem6 1 1) (sem7 1 1)) $$ [HO H0]
  · isplitl [HO]; · iexact HO
    iexact H0
  iintro ⟨HO, H0⟩
  iapply (ring_get m ρ K c 0 0 1 rfl rfl 38 (by decide) (sem5 1 0) (credit_q _)) $$ [HO H1]
  · isplitl [HO]; · iexact HO
    iexact H1
  iintro ⟨HO, H1⟩
  rw [wp_ret]; imodintro
  iapply Hk
  isplitl [HO]; · iexact HO
  isplitl [H0]; · iexact H0
  iexact H1

theorem part30 (c : Dev nD) (v2 : BitVec 32) (v4 : BitVec 32) (v7 : BitVec 32) {Q : _ → sProp 𝕄} :
    iprop(OW m ρ K c 38 ∗ Str m ρ 0 0 c 2 2 ∗ Str m ρ 1 0 c 2 1)
      ⊢ iprop(((OW m ρ K c 40 ∗ Str m ρ 0 0 c 3 2 ∗ Str m ρ 1 0 c 3 2) -∗ Q ⟨⟩)
        -∗ wp frame (wpE (defs₀ (F := F)) 𝒱₀ (c : Thread nD τ) none) Set.univ
          (k0_part30 (F := F) (Memref.whole cc0_stg0_0) (Memref.isWhole_whole _) (Memref.whole cc0_stg1_0) (Memref.isWhole_whole _) (Memref.whole main_v1) (Memref.isWhole_whole _)
          (Memref.whole cc0_scratch0) (Memref.isWhole_whole _) (Memref.whole cc0_scratch1) (Memref.isWhole_whole _)
          cc0_scratch2 cc0_scratch3 cc0_scratch4 cc0_scratch5 cc0_scratch6 cc0_scratch7 cc0_scratch8 c v2 v4 v7) Q) := by
  rw [k0_part30_eq_skeleton]; unfold k0_part30_skel
  simp only [semSignalWord, semWaitWord, Prog.lift, Prog.bind_op, Prog.bind_ret, Prog.pure_eq_ret, Prog.bind_assoc, wp_deviceId]
  iintro ⟨HO, H0, H1⟩ Hk
  iapply (ring_next m ρ K c 0 0 2 1 rfl 38 rfl rfl rfl rfl (dev_right c (k0_dev39_eq c)) (qV_of (org 0 c (2 : Fin 15).val) (tq 0 0) (off_right c 2 0)) (qV_of (org 0 c (2 : Fin 15).val) (tq 0 0) (off_right c 2 0)) (sem4 2 0) (sem5 2 0)) $$ [HO H0]
  · isplitl [HO]; · iexact HO
    iexact H0
  iintro ⟨HO, H0⟩
  iapply (ring_get m ρ K c 1 0 1 rfl rfl 39 (by decide) (sem7 1 0) (credit_q _)) $$ [HO H1]
  · isplitl [HO]; · iexact HO
    iexact H1
  iintro ⟨HO, H1⟩
  iapply (ring_next m ρ K c 1 0 2 1 rfl 39 rfl rfl rfl rfl (dev_left c (k0_dev40_eq c)) (qV_of (org 1 c (2 : Fin 15).val) (tq 1 0) (off_left c 2 0)) (qV_of (org 1 c (2 : Fin 15).val) (tq 1 0) (off_left c 2 0)) (sem6 2 0) (sem7 2 0)) $$ [HO H1]
  · isplitl [HO]; · iexact HO
    iexact H1
  iintro ⟨HO, H1⟩
  rw [wp_ret]; imodintro
  iapply Hk
  isplitl [HO]; · iexact HO
  isplitl [H0]; · iexact H0
  iexact H1

theorem part31 (c : Dev nD) (v2 : BitVec 32) (v4 : BitVec 32) (v7 : BitVec 32) {Q : _ → sProp 𝕄} :
    iprop(OW m ρ K c 40 ∗ Str m ρ 0 1 c 2 1 ∗ Str m ρ 1 1 c 2 1)
      ⊢ iprop(((OW m ρ K c 41 ∗ Str m ρ 0 1 c 3 2 ∗ Str m ρ 1 1 c 2 2) -∗ Q ⟨⟩)
        -∗ wp frame (wpE (defs₀ (F := F)) 𝒱₀ (c : Thread nD τ) none) Set.univ
          (k0_part31 (F := F) (Memref.whole cc0_stg0_0) (Memref.isWhole_whole _) (Memref.whole cc0_stg1_0) (Memref.isWhole_whole _) (Memref.whole main_v1) (Memref.isWhole_whole _)
          (Memref.whole cc0_scratch0) (Memref.isWhole_whole _) (Memref.whole cc0_scratch1) (Memref.isWhole_whole _)
          cc0_scratch2 cc0_scratch3 cc0_scratch4 cc0_scratch5 cc0_scratch6 cc0_scratch7 cc0_scratch8 c v2 v4 v7) Q) := by
  rw [k0_part31_eq_skeleton]; unfold k0_part31_skel
  simp only [semSignalWord, semWaitWord, Prog.lift, Prog.bind_op, Prog.bind_ret, Prog.pure_eq_ret, Prog.bind_assoc, wp_deviceId]
  iintro ⟨HO, H0, H1⟩ Hk
  iapply (ring_get m ρ K c 0 1 1 rfl rfl 40 (by decide) (sem5 1 1) (credit_q _)) $$ [HO H0]
  · isplitl [HO]; · iexact HO
    iexact H0
  iintro ⟨HO, H0⟩
  iapply (ring_next m ρ K c 0 1 2 1 rfl 40 rfl rfl rfl rfl (dev_right c (k0_dev41_eq c)) (qV_of (org 0 c (2 : Fin 15).val) (tq 0 1) (off_right c 2 1)) (qV_of (org 0 c (2 : Fin 15).val) (tq 0 1) (off_right c 2 1)) (sem4 2 1) (sem5 2 1)) $$ [HO H0]
  · isplitl [HO]; · iexact HO
    iexact H0
  iintro ⟨HO, H0⟩
  iapply (ring_get m ρ K c 1 1 1 rfl rfl 41 (by decide) (sem7 1 1) (credit_q _)) $$ [HO H1]
  · isplitl [HO]; · iexact HO
    iexact H1
  iintro ⟨HO, H1⟩
  rw [wp_ret]; imodintro
  iapply Hk
  isplitl [HO]; · iexact HO
  isplitl [H0]; · iexact H0
  iexact H1

theorem part32 (c : Dev nD) (v2 : BitVec 32) (v4 : BitVec 32) (v7 : BitVec 32) {Q : _ → sProp 𝕄} :
    iprop(OW m ρ K c 41 ∗ Str m ρ 1 1 c 2 2 ∗ Str m ρ 0 0 c 3 2)
      ⊢ iprop(((OW m ρ K c 43 ∗ Str m ρ 1 1 c 3 2 ∗ Str m ρ 0 0 c 4 3) -∗ Q ⟨⟩)
        -∗ wp frame (wpE (defs₀ (F := F)) 𝒱₀ (c : Thread nD τ) none) Set.univ
          (k0_part32 (F := F) (Memref.whole cc0_stg0_0) (Memref.isWhole_whole _) (Memref.whole cc0_stg1_0) (Memref.isWhole_whole _) (Memref.whole main_v1) (Memref.isWhole_whole _)
          (Memref.whole cc0_scratch0) (Memref.isWhole_whole _) (Memref.whole cc0_scratch1) (Memref.isWhole_whole _)
          cc0_scratch2 cc0_scratch3 cc0_scratch4 cc0_scratch5 cc0_scratch6 cc0_scratch7 cc0_scratch8 c v2 v4 v7) Q) := by
  rw [k0_part32_eq_skeleton]; unfold k0_part32_skel
  simp only [semSignalWord, semWaitWord, Prog.lift, Prog.bind_op, Prog.bind_ret, Prog.pure_eq_ret, Prog.bind_assoc, wp_deviceId]
  iintro ⟨HO, H0, H1⟩ Hk
  iapply (ring_next m ρ K c 1 1 2 1 rfl 41 rfl rfl rfl rfl (dev_left c (k0_dev42_eq c)) (qV_of (org 1 c (2 : Fin 15).val) (tq 1 1) (off_left c 2 1)) (qV_of (org 1 c (2 : Fin 15).val) (tq 1 1) (off_left c 2 1)) (sem6 2 1) (sem7 2 1)) $$ [HO H0]
  · isplitl [HO]; · iexact HO
    iexact H0
  iintro ⟨HO, H0⟩
  iapply (ring_get m ρ K c 0 0 2 rfl rfl 42 (by decide) (sem5 2 0) (credit_q _)) $$ [HO H1]
  · isplitl [HO]; · iexact HO
    iexact H1
  iintro ⟨HO, H1⟩
  iapply (ring_next m ρ K c 0 0 3 2 rfl 42 rfl rfl rfl rfl (dev_right c (k0_dev43_eq c)) (qV_of (org 0 c (3 : Fin 15).val) (tq 0 0) (off_right c 3 0)) (qV_of (org 0 c (3 : Fin 15).val) (tq 0 0) (off_right c 3 0)) (sem4 3 0) (sem5 3 0)) $$ [HO H1]
  · isplitl [HO]; · iexact HO
    iexact H1
  iintro ⟨HO, H1⟩
  rw [wp_ret]; imodintro
  iapply Hk
  isplitl [HO]; · iexact HO
  isplitl [H0]; · iexact H0
  iexact H1

theorem part33 (c : Dev nD) (v2 : BitVec 32) (v4 : BitVec 32) (v7 : BitVec 32) {Q : _ → sProp 𝕄} :
    iprop(OW m ρ K c 43 ∗ Str m ρ 1 0 c 3 2 ∗ Str m ρ 0 1 c 3 2)
      ⊢ iprop((∀ r, (OW m ρ K c 44 ∗ Str m ρ 1 0 c 4 3 ∗ Str m ρ 0 1 c 3 3) -∗ Q r)
        -∗ wp frame (wpE (defs₀ (F := F)) 𝒱₀ (c : Thread nD τ) none) Set.univ
          (k0_part33 (F := F) (Memref.whole cc0_stg0_0) (Memref.isWhole_whole _) (Memref.whole cc0_stg1_0) (Memref.isWhole_whole _) (Memref.whole main_v1) (Memref.isWhole_whole _)
          (Memref.whole cc0_scratch0) (Memref.isWhole_whole _) (Memref.whole cc0_scratch1) (Memref.isWhole_whole _)
          cc0_scratch2 cc0_scratch3 cc0_scratch4 cc0_scratch5 cc0_scratch6 cc0_scratch7 cc0_scratch8 c v2 v4 v7) Q) := by
  rw [k0_part33_eq_skeleton]; unfold k0_part33_skel
  simp only [semSignalWord, semWaitWord, Prog.lift, Prog.bind_op, Prog.bind_ret, Prog.pure_eq_ret, Prog.bind_assoc, wp_deviceId]
  iintro ⟨HO, H0, H1⟩ Hk
  iapply (ring_get m ρ K c 1 0 2 rfl rfl 43 (by decide) (sem7 2 0) (credit_q _)) $$ [HO H0]
  · isplitl [HO]; · iexact HO
    iexact H0
  iintro ⟨HO, H0⟩
  iapply (ring_next m ρ K c 1 0 3 2 rfl 43 rfl rfl rfl rfl (dev_left c (k0_dev44_eq c)) (qV_of (org 1 c (3 : Fin 15).val) (tq 1 0) (off_left c 3 0)) (qV_of (org 1 c (3 : Fin 15).val) (tq 1 0) (off_left c 3 0)) (sem6 3 0) (sem7 3 0)) $$ [HO H0]
  · isplitl [HO]; · iexact HO
    iexact H0
  iintro ⟨HO, H0⟩
  iapply (ring_get m ρ K c 0 1 2 rfl rfl 44 (by decide) (sem5 2 1) (credit_q _)) $$ [HO H1]
  · isplitl [HO]; · iexact HO
    iexact H1
  iintro ⟨HO, H1⟩
  rw [wp_ret]; imodintro
  iapply Hk
  isplitl [HO]; · iexact HO
  isplitl [H0]; · iexact H0
  iexact H1

theorem part34 (c : Dev nD) (v2 : BitVec 32) (v4 : BitVec 32) (v7 : BitVec 32) (c1_i32_877 : BitVec 32) {Q : _ → sProp 𝕄} :
    iprop(OW m ρ K c 44 ∗ Str m ρ 0 1 c 3 3 ∗ Str m ρ 1 1 c 3 2)
      ⊢ iprop(((OW m ρ K c 46 ∗ Str m ρ 0 1 c 4 3 ∗ Str m ρ 1 1 c 4 3) -∗ Q ⟨⟩)
        -∗ wp frame (wpE (defs₀ (F := F)) 𝒱₀ (c : Thread nD τ) none) Set.univ
          (k0_part34 (F := F) (Memref.whole cc0_stg0_0) (Memref.isWhole_whole _) (Memref.whole cc0_stg1_0) (Memref.isWhole_whole _) (Memref.whole main_v1) (Memref.isWhole_whole _)
          (Memref.whole cc0_scratch0) (Memref.isWhole_whole _) (Memref.whole cc0_scratch1) (Memref.isWhole_whole _)
          cc0_scratch2 cc0_scratch3 cc0_scratch4 cc0_scratch5 cc0_scratch6 cc0_scratch7 cc0_scratch8 c v2 v4 v7 c1_i32_877) Q) := by
  rw [k0_part34_eq_skeleton]; unfold k0_part34_skel
  simp only [semSignalWord, semWaitWord, Prog.lift, Prog.bind_op, Prog.bind_ret, Prog.pure_eq_ret, Prog.bind_assoc, wp_deviceId]
  iintro ⟨HO, H0, H1⟩ Hk
  iapply (ring_next m ρ K c 0 1 3 2 rfl 44 rfl rfl rfl rfl (dev_right c (k0_dev45_eq c)) (qV_of (org 0 c (3 : Fin 15).val) (tq 0 1) (off_right c 3 1)) (qV_of (org 0 c (3 : Fin 15).val) (tq 0 1) (off_right c 3 1)) (sem4 3 1) (sem5 3 1)) $$ [HO H0]
  · isplitl [HO]; · iexact HO
    iexact H0
  iintro ⟨HO, H0⟩
  iapply (ring_get m ρ K c 1 1 2 rfl rfl 45 (by decide) (sem7 2 1) (credit_q _)) $$ [HO H1]
  · isplitl [HO]; · iexact HO
    iexact H1
  iintro ⟨HO, H1⟩
  iapply (ring_next m ρ K c 1 1 3 2 rfl 45 rfl rfl rfl rfl (dev_left c (k0_dev46_eq c)) (qV_of (org 1 c (3 : Fin 15).val) (tq 1 1) (off_left c 3 1)) (qV_of (org 1 c (3 : Fin 15).val) (tq 1 1) (off_left c 3 1)) (sem6 3 1) (sem7 3 1)) $$ [HO H1]
  · isplitl [HO]; · iexact HO
    iexact H1
  iintro ⟨HO, H1⟩
  rw [wp_ret]; imodintro
  iapply Hk
  isplitl [HO]; · iexact HO
  isplitl [H0]; · iexact H0
  iexact H1

theorem part35 (c : Dev nD) (v2 : BitVec 32) (v4 : BitVec 32) (v7 : BitVec 32) {Q : _ → sProp 𝕄} :
    iprop(OW m ρ K c 46 ∗ Str m ρ 0 0 c 4 3 ∗ Str m ρ 1 0 c 4 3)
      ⊢ iprop(((OW m ρ K c 47 ∗ Str m ρ 0 0 c 5 4 ∗ Str m ρ 1 0 c 4 4) -∗ Q ⟨⟩)
        -∗ wp frame (wpE (defs₀ (F := F)) 𝒱₀ (c : Thread nD τ) none) Set.univ
          (k0_part35 (F := F) (Memref.whole cc0_stg0_0) (Memref.isWhole_whole _) (Memref.whole cc0_stg1_0) (Memref.isWhole_whole _) (Memref.whole main_v1) (Memref.isWhole_whole _)
          (Memref.whole cc0_scratch0) (Memref.isWhole_whole _) (Memref.whole cc0_scratch1) (Memref.isWhole_whole _)
          cc0_scratch2 cc0_scratch3 cc0_scratch4 cc0_scratch5 cc0_scratch6 cc0_scratch7 cc0_scratch8 c v2 v4 v7) Q) := by
  rw [k0_part35_eq_skeleton]; unfold k0_part35_skel
  simp only [semSignalWord, semWaitWord, Prog.lift, Prog.bind_op, Prog.bind_ret, Prog.pure_eq_ret, Prog.bind_assoc, wp_deviceId]
  iintro ⟨HO, H0, H1⟩ Hk
  iapply (ring_get m ρ K c 0 0 3 rfl rfl 46 (by decide) (sem5 3 0) (credit_q _)) $$ [HO H0]
  · isplitl [HO]; · iexact HO
    iexact H0
  iintro ⟨HO, H0⟩
  iapply (ring_next m ρ K c 0 0 4 3 rfl 46 rfl rfl rfl rfl (dev_right c (k0_dev47_eq c)) (qV_of (org 0 c (4 : Fin 15).val) (tq 0 0) (off_right c 4 0)) (qV_of (org 0 c (4 : Fin 15).val) (tq 0 0) (off_right c 4 0)) (sem4 4 0) (sem5 4 0)) $$ [HO H0]
  · isplitl [HO]; · iexact HO
    iexact H0
  iintro ⟨HO, H0⟩
  iapply (ring_get m ρ K c 1 0 3 rfl rfl 47 (by decide) (sem7 3 0) (credit_q _)) $$ [HO H1]
  · isplitl [HO]; · iexact HO
    iexact H1
  iintro ⟨HO, H1⟩
  rw [wp_ret]; imodintro
  iapply Hk
  isplitl [HO]; · iexact HO
  isplitl [H0]; · iexact H0
  iexact H1

theorem part36 (c : Dev nD) (v2 : BitVec 32) (v4 : BitVec 32) (v7 : BitVec 32) {Q : _ → sProp 𝕄} :
    iprop(OW m ρ K c 47 ∗ Str m ρ 1 0 c 4 4 ∗ Str m ρ 0 1 c 4 3)
      ⊢ iprop(((OW m ρ K c 49 ∗ Str m ρ 1 0 c 5 4 ∗ Str m ρ 0 1 c 5 4) -∗ Q ⟨⟩)
        -∗ wp frame (wpE (defs₀ (F := F)) 𝒱₀ (c : Thread nD τ) none) Set.univ
          (k0_part36 (F := F) (Memref.whole cc0_stg0_0) (Memref.isWhole_whole _) (Memref.whole cc0_stg1_0) (Memref.isWhole_whole _) (Memref.whole main_v1) (Memref.isWhole_whole _)
          (Memref.whole cc0_scratch0) (Memref.isWhole_whole _) (Memref.whole cc0_scratch1) (Memref.isWhole_whole _)
          cc0_scratch2 cc0_scratch3 cc0_scratch4 cc0_scratch5 cc0_scratch6 cc0_scratch7 cc0_scratch8 c v2 v4 v7) Q) := by
  rw [k0_part36_eq_skeleton]; unfold k0_part36_skel
  simp only [semSignalWord, semWaitWord, Prog.lift, Prog.bind_op, Prog.bind_ret, Prog.pure_eq_ret, Prog.bind_assoc, wp_deviceId]
  iintro ⟨HO, H0, H1⟩ Hk
  iapply (ring_next m ρ K c 1 0 4 3 rfl 47 rfl rfl rfl rfl (dev_left c (k0_dev48_eq c)) (qV_of (org 1 c (4 : Fin 15).val) (tq 1 0) (off_left c 4 0)) (qV_of (org 1 c (4 : Fin 15).val) (tq 1 0) (off_left c 4 0)) (sem6 4 0) (sem7 4 0)) $$ [HO H0]
  · isplitl [HO]; · iexact HO
    iexact H0
  iintro ⟨HO, H0⟩
  iapply (ring_get m ρ K c 0 1 3 rfl rfl 48 (by decide) (sem5 3 1) (credit_q _)) $$ [HO H1]
  · isplitl [HO]; · iexact HO
    iexact H1
  iintro ⟨HO, H1⟩
  iapply (ring_next m ρ K c 0 1 4 3 rfl 48 rfl rfl rfl rfl (dev_right c (k0_dev49_eq c)) (qV_of (org 0 c (4 : Fin 15).val) (tq 0 1) (off_right c 4 1)) (qV_of (org 0 c (4 : Fin 15).val) (tq 0 1) (off_right c 4 1)) (sem4 4 1) (sem5 4 1)) $$ [HO H1]
  · isplitl [HO]; · iexact HO
    iexact H1
  iintro ⟨HO, H1⟩
  rw [wp_ret]; imodintro
  iapply Hk
  isplitl [HO]; · iexact HO
  isplitl [H0]; · iexact H0
  iexact H1

theorem part37 (c : Dev nD) (v2 : BitVec 32) (v4 : BitVec 32) (v7 : BitVec 32) {Q : _ → sProp 𝕄} :
    iprop(OW m ρ K c 49 ∗ Str m ρ 1 1 c 4 3 ∗ Str m ρ 0 0 c 5 4)
      ⊢ iprop((∀ r, (OW m ρ K c 50 ∗ Str m ρ 1 1 c 5 4 ∗ Str m ρ 0 0 c 5 5) -∗ Q r)
        -∗ wp frame (wpE (defs₀ (F := F)) 𝒱₀ (c : Thread nD τ) none) Set.univ
          (k0_part37 (F := F) (Memref.whole cc0_stg0_0) (Memref.isWhole_whole _) (Memref.whole cc0_stg1_0) (Memref.isWhole_whole _) (Memref.whole main_v1) (Memref.isWhole_whole _)
          (Memref.whole cc0_scratch0) (Memref.isWhole_whole _) (Memref.whole cc0_scratch1) (Memref.isWhole_whole _)
          cc0_scratch2 cc0_scratch3 cc0_scratch4 cc0_scratch5 cc0_scratch6 cc0_scratch7 cc0_scratch8 c v2 v4 v7) Q) := by
  rw [k0_part37_eq_skeleton]; unfold k0_part37_skel
  simp only [semSignalWord, semWaitWord, Prog.lift, Prog.bind_op, Prog.bind_ret, Prog.pure_eq_ret, Prog.bind_assoc, wp_deviceId]
  iintro ⟨HO, H0, H1⟩ Hk
  iapply (ring_get m ρ K c 1 1 3 rfl rfl 49 (by decide) (sem7 3 1) (credit_q _)) $$ [HO H0]
  · isplitl [HO]; · iexact HO
    iexact H0
  iintro ⟨HO, H0⟩
  iapply (ring_next m ρ K c 1 1 4 3 rfl 49 rfl rfl rfl rfl (dev_left c (k0_dev50_eq c)) (qV_of (org 1 c (4 : Fin 15).val) (tq 1 1) (off_left c 4 1)) (qV_of (org 1 c (4 : Fin 15).val) (tq 1 1) (off_left c 4 1)) (sem6 4 1) (sem7 4 1)) $$ [HO H0]
  · isplitl [HO]; · iexact HO
    iexact H0
  iintro ⟨HO, H0⟩
  iapply (ring_get m ρ K c 0 0 4 rfl rfl 50 (by decide) (sem5 4 0) (credit_q _)) $$ [HO H1]
  · isplitl [HO]; · iexact HO
    iexact H1
  iintro ⟨HO, H1⟩
  rw [wp_ret]; imodintro
  iapply Hk
  isplitl [HO]; · iexact HO
  isplitl [H0]; · iexact H0
  iexact H1

theorem part38 (c : Dev nD) (v2 : BitVec 32) (v4 : BitVec 32) (v7 : BitVec 32) (v1080 : BitVec 32) (c0_i32_995 : BitVec 32) {Q : _ → sProp 𝕄} :
    iprop(OW m ρ K c 50 ∗ Str m ρ 0 0 c 5 5 ∗ Str m ρ 1 0 c 5 4)
      ⊢ iprop(((OW m ρ K c 52 ∗ Str m ρ 0 0 c 6 5 ∗ Str m ρ 1 0 c 6 5) -∗ Q ⟨⟩)
        -∗ wp frame (wpE (defs₀ (F := F)) 𝒱₀ (c : Thread nD τ) none) Set.univ
          (k0_part38 (F := F) (Memref.whole cc0_stg0_0) (Memref.isWhole_whole _) (Memref.whole cc0_stg1_0) (Memref.isWhole_whole _) (Memref.whole main_v1) (Memref.isWhole_whole _)
          (Memref.whole cc0_scratch0) (Memref.isWhole_whole _) (Memref.whole cc0_scratch1) (Memref.isWhole_whole _)
          cc0_scratch2 cc0_scratch3 cc0_scratch4 cc0_scratch5 cc0_scratch6 cc0_scratch7 cc0_scratch8 c v2 v4 v7 v1080 c0_i32_995) Q) := by
  rw [k0_part38_eq_skeleton]; unfold k0_part38_skel
  simp only [semSignalWord, semWaitWord, Prog.lift, Prog.bind_op, Prog.bind_ret, Prog.pure_eq_ret, Prog.bind_assoc, wp_deviceId]
  iintro ⟨HO, H0, H1⟩ Hk
  iapply (ring_next m ρ K c 0 0 5 4 rfl 50 rfl rfl rfl rfl (dev_right c (k0_dev51_eq c)) (qV_of (org 0 c (5 : Fin 15).val) (tq 0 0) (off_right c 5 0)) (qV_of (org 0 c (5 : Fin 15).val) (tq 0 0) (off_right c 5 0)) (sem4 5 0) (sem5 5 0)) $$ [HO H0]
  · isplitl [HO]; · iexact HO
    iexact H0
  iintro ⟨HO, H0⟩
  iapply (ring_get m ρ K c 1 0 4 rfl rfl 51 (by decide) (sem7 4 0) (credit_q _)) $$ [HO H1]
  · isplitl [HO]; · iexact HO
    iexact H1
  iintro ⟨HO, H1⟩
  iapply (ring_next m ρ K c 1 0 5 4 rfl 51 rfl rfl rfl rfl (dev_left c (k0_dev52_eq c)) (qV_of (org 1 c (5 : Fin 15).val) (tq 1 0) (off_left c 5 0)) (qV_of (org 1 c (5 : Fin 15).val) (tq 1 0) (off_left c 5 0)) (sem6 5 0) (sem7 5 0)) $$ [HO H1]
  · isplitl [HO]; · iexact HO
    iexact H1
  iintro ⟨HO, H1⟩
  rw [wp_ret]; imodintro
  iapply Hk
  isplitl [HO]; · iexact HO
  isplitl [H0]; · iexact H0
  iexact H1

theorem part39 (c : Dev nD) (v2 : BitVec 32) (v4 : BitVec 32) (v7 : BitVec 32) {Q : _ → sProp 𝕄} :
    iprop(OW m ρ K c 52 ∗ Str m ρ 0 1 c 5 4 ∗ Str m ρ 1 1 c 5 4)
      ⊢ iprop((∀ r, (OW m ρ K c 53 ∗ Str m ρ 0 1 c 6 5 ∗ Str m ρ 1 1 c 5 5) -∗ Q r)
        -∗ wp frame (wpE (defs₀ (F := F)) 𝒱₀ (c : Thread nD τ) none) Set.univ
          (k0_part39 (F := F) (Memref.whole cc0_stg0_0) (Memref.isWhole_whole _) (Memref.whole cc0_stg1_0) (Memref.isWhole_whole _) (Memref.whole main_v1) (Memref.isWhole_whole _)
          (Memref.whole cc0_scratch0) (Memref.isWhole_whole _) (Memref.whole cc0_scratch1) (Memref.isWhole_whole _)
          cc0_scratch2 cc0_scratch3 cc0_scratch4 cc0_scratch5 cc0_scratch6 cc0_scratch7 cc0_scratch8 c v2 v4 v7) Q) := by
  rw [k0_part39_eq_skeleton]; unfold k0_part39_skel
  simp only [semSignalWord, semWaitWord, Prog.lift, Prog.bind_op, Prog.bind_ret, Prog.pure_eq_ret, Prog.bind_assoc, wp_deviceId]
  iintro ⟨HO, H0, H1⟩ Hk
  iapply (ring_get m ρ K c 0 1 4 rfl rfl 52 (by decide) (sem5 4 1) (credit_q _)) $$ [HO H0]
  · isplitl [HO]; · iexact HO
    iexact H0
  iintro ⟨HO, H0⟩
  iapply (ring_next m ρ K c 0 1 5 4 rfl 52 rfl rfl rfl rfl (dev_right c (k0_dev53_eq c)) (qV_of (org 0 c (5 : Fin 15).val) (tq 0 1) (off_right c 5 1)) (qV_of (org 0 c (5 : Fin 15).val) (tq 0 1) (off_right c 5 1)) (sem4 5 1) (sem5 5 1)) $$ [HO H0]
  · isplitl [HO]; · iexact HO
    iexact H0
  iintro ⟨HO, H0⟩
  iapply (ring_get m ρ K c 1 1 4 rfl rfl 53 (by decide) (sem7 4 1) (credit_q _)) $$ [HO H1]
  · isplitl [HO]; · iexact HO
    iexact H1
  iintro ⟨HO, H1⟩
  rw [wp_ret]; imodintro
  iapply Hk
  isplitl [HO]; · iexact HO
  isplitl [H0]; · iexact H0
  iexact H1

theorem part40 (c : Dev nD) (v2 : BitVec 32) (v4 : BitVec 32) (v7 : BitVec 32) (v1134 : BitVec 32) (c4096_i32_1055 : BitVec 32) {Q : _ → sProp 𝕄} :
    iprop(OW m ρ K c 53 ∗ Str m ρ 1 1 c 5 5 ∗ Str m ρ 0 0 c 6 5)
      ⊢ iprop(((OW m ρ K c 54 ∗ Str m ρ 1 1 c 6 5 ∗ Str m ρ 0 0 c 6 6) -∗ Q ⟨⟩)
        -∗ wp frame (wpE (defs₀ (F := F)) 𝒱₀ (c : Thread nD τ) none) Set.univ
          (k0_part40 (F := F) (Memref.whole cc0_stg0_0) (Memref.isWhole_whole _) (Memref.whole cc0_stg1_0) (Memref.isWhole_whole _) (Memref.whole main_v1) (Memref.isWhole_whole _)
          (Memref.whole cc0_scratch0) (Memref.isWhole_whole _) (Memref.whole cc0_scratch1) (Memref.isWhole_whole _)
          cc0_scratch2 cc0_scratch3 cc0_scratch4 cc0_scratch5 cc0_scratch6 cc0_scratch7 cc0_scratch8 c v2 v4 v7 v1134 c4096_i32_1055) Q) := by
  rw [k0_part40_eq_skeleton]; unfold k0_part40_skel
  simp only [semSignalWord, semWaitWord, Prog.lift, Prog.bind_op, Prog.bind_ret, Prog.pure_eq_ret, Prog.bind_assoc, wp_deviceId]
  iintro ⟨HO, H0, H1⟩ Hk
  iapply (ring_next m ρ K c 1 1 5 4 rfl 53 rfl rfl rfl rfl (dev_left c (k0_dev54_eq c)) (qV_of (org 1 c (5 : Fin 15).val) (tq 1 1) (off_left c 5 1)) (qV_of (org 1 c (5 : Fin 15).val) (tq 1 1) (off_left c 5 1)) (sem6 5 1) (sem7 5 1)) $$ [HO H0]
  · isplitl [HO]; · iexact HO
    iexact H0
  iintro ⟨HO, H0⟩
  iapply (ring_get m ρ K c 0 0 5 rfl rfl 54 (by decide) (sem5 5 0) (credit_q _)) $$ [HO H1]
  · isplitl [HO]; · iexact HO
    iexact H1
  iintro ⟨HO, H1⟩
  rw [wp_ret]; imodintro
  iapply Hk
  isplitl [HO]; · iexact HO
  isplitl [H0]; · iexact H0
  iexact H1

theorem part41 (c : Dev nD) (v2 : BitVec 32) (v4 : BitVec 32) (v7 : BitVec 32) {Q : _ → sProp 𝕄} :
    iprop(OW m ρ K c 54 ∗ Str m ρ 0 0 c 6 6 ∗ Str m ρ 1 0 c 6 5 ∗ Str m ρ 0 1 c 6 5)
      ⊢ iprop((∀ r, (OW m ρ K c 56 ∗ Str m ρ 0 0 c 7 6 ∗ Str m ρ 1 0 c 7 6 ∗ Str m ρ 0 1 c 6 6) -∗ Q r)
        -∗ wp frame (wpE (defs₀ (F := F)) 𝒱₀ (c : Thread nD τ) none) Set.univ
          (k0_part41 (F := F) (Memref.whole cc0_stg0_0) (Memref.isWhole_whole _) (Memref.whole cc0_stg1_0) (Memref.isWhole_whole _) (Memref.whole main_v1) (Memref.isWhole_whole _)
          (Memref.whole cc0_scratch0) (Memref.isWhole_whole _) (Memref.whole cc0_scratch1) (Memref.isWhole_whole _)
          cc0_scratch2 cc0_scratch3 cc0_scratch4 cc0_scratch5 cc0_scratch6 cc0_scratch7 cc0_scratch8 c v2 v4 v7) Q) := by
  rw [k0_part41_eq_skeleton]; unfold k0_part41_skel
  simp only [semSignalWord, semWaitWord, Prog.lift, Prog.bind_op, Prog.bind_ret, Prog.pure_eq_ret, Prog.bind_assoc, wp_deviceId]
  iintro ⟨HO, H0, H1, H2⟩ Hk
  iapply (ring_next m ρ K c 0 0 6 5 rfl 54 rfl rfl rfl rfl (dev_right c (k0_dev55_eq c)) (qV_of (org 0 c (6 : Fin 15).val) (tq 0 0) (off_right c 6 0)) (qV_of (org 0 c (6 : Fin 15).val) (tq 0 0) (off_right c 6 0)) (sem4 6 0) (sem5 6 0)) $$ [HO H0]
  · isplitl [HO]; · iexact HO
    iexact H0
  iintro ⟨HO, H0⟩
  iapply (ring_get m ρ K c 1 0 5 rfl rfl 55 (by decide) (sem7 5 0) (credit_q _)) $$ [HO H1]
  · isplitl [HO]; · iexact HO
    iexact H1
  iintro ⟨HO, H1⟩
  iapply (ring_next m ρ K c 1 0 6 5 rfl 55 rfl rfl rfl rfl (dev_left c (k0_dev56_eq c)) (qV_of (org 1 c (6 : Fin 15).val) (tq 1 0) (off_left c 6 0)) (qV_of (org 1 c (6 : Fin 15).val) (tq 1 0) (off_left c 6 0)) (sem6 6 0) (sem7 6 0)) $$ [HO H1]
  · isplitl [HO]; · iexact HO
    iexact H1
  iintro ⟨HO, H1⟩
  iapply (ring_get m ρ K c 0 1 5 rfl rfl 56 (by decide) (sem5 5 1) (credit_q _)) $$ [HO H2]
  · isplitl [HO]; · iexact HO
    iexact H2
  iintro ⟨HO, H2⟩
  rw [wp_ret]; imodintro
  iapply Hk
  isplitl [HO]; · iexact HO
  isplitl [H0]; · iexact H0
  isplitl [H1]; · iexact H1
  iexact H2

theorem part42 (c : Dev nD) (v2 : BitVec 32) (v4 : BitVec 32) (v7 : BitVec 32) (v1188 : BitVec 32) (c32_i32_1115 : BitVec 32) {Q : _ → sProp 𝕄} :
    iprop(OW m ρ K c 56 ∗ Str m ρ 0 1 c 6 6 ∗ Str m ρ 1 1 c 6 5)
      ⊢ iprop(((OW m ρ K c 57 ∗ Str m ρ 0 1 c 7 6 ∗ Str m ρ 1 1 c 6 6) -∗ Q ⟨⟩)
        -∗ wp frame (wpE (defs₀ (F := F)) 𝒱₀ (c : Thread nD τ) none) Set.univ
          (k0_part42 (F := F) (Memref.whole cc0_stg0_0) (Memref.isWhole_whole _) (Memref.whole cc0_stg1_0) (Memref.isWhole_whole _) (Memref.whole main_v1) (Memref.isWhole_whole _)
          (Memref.whole cc0_scratch0) (Memref.isWhole_whole _) (Memref.whole cc0_scratch1) (Memref.isWhole_whole _)
          cc0_scratch2 cc0_scratch3 cc0_scratch4 cc0_scratch5 cc0_scratch6 cc0_scratch7 cc0_scratch8 c v2 v4 v7 v1188 c32_i32_1115) Q) := by
  rw [k0_part42_eq_skeleton]; unfold k0_part42_skel
  simp only [semSignalWord, semWaitWord, Prog.lift, Prog.bind_op, Prog.bind_ret, Prog.pure_eq_ret, Prog.bind_assoc, wp_deviceId]
  iintro ⟨HO, H0, H1⟩ Hk
  iapply (ring_next m ρ K c 0 1 6 5 rfl 56 rfl rfl rfl rfl (dev_right c (k0_dev57_eq c)) (qV_of (org 0 c (6 : Fin 15).val) (tq 0 1) (off_right c 6 1)) (qV_of (org 0 c (6 : Fin 15).val) (tq 0 1) (off_right c 6 1)) (sem4 6 1) (sem5 6 1)) $$ [HO H0]
  · isplitl [HO]; · iexact HO
    iexact H0
  iintro ⟨HO, H0⟩
  iapply (ring_get m ρ K c 1 1 5 rfl rfl 57 (by decide) (sem7 5 1) (credit_q _)) $$ [HO H1]
  · isplitl [HO]; · iexact HO
    iexact H1
  iintro ⟨HO, H1⟩
  rw [wp_ret]; imodintro
  iapply Hk
  isplitl [HO]; · iexact HO
  isplitl [H0]; · iexact H0
  iexact H1

theorem part43 (c : Dev nD) (v2 : BitVec 32) (v4 : BitVec 32) (v7 : BitVec 32) {Q : _ → sProp 𝕄} :
    iprop(OW m ρ K c 57 ∗ Str m ρ 1 1 c 6 6 ∗ Str m ρ 0 0 c 7 6)
      ⊢ iprop(((OW m ρ K c 59 ∗ Str m ρ 1 1 c 7 6 ∗ Str m ρ 0 0 c 8 7) -∗ Q ⟨⟩)
        -∗ wp frame (wpE (defs₀ (F := F)) 𝒱₀ (c : Thread nD τ) none) Set.univ
          (k0_part43 (F := F) (Memref.whole cc0_stg0_0) (Memref.isWhole_whole _) (Memref.whole cc0_stg1_0) (Memref.isWhole_whole _) (Memref.whole main_v1) (Memref.isWhole_whole _)
          (Memref.whole cc0_scratch0) (Memref.isWhole_whole _) (Memref.whole cc0_scratch1) (Memref.isWhole_whole _)
          cc0_scratch2 cc0_scratch3 cc0_scratch4 cc0_scratch5 cc0_scratch6 cc0_scratch7 cc0_scratch8 c v2 v4 v7) Q) := by
  rw [k0_part43_eq_skeleton]; unfold k0_part43_skel
  simp only [semSignalWord, semWaitWord, Prog.lift, Prog.bind_op, Prog.bind_ret, Prog.pure_eq_ret, Prog.bind_assoc, wp_deviceId]
  iintro ⟨HO, H0, H1⟩ Hk
  iapply (ring_next m ρ K c 1 1 6 5 rfl 57 rfl rfl rfl rfl (dev_left c (k0_dev58_eq c)) (qV_of (org 1 c (6 : Fin 15).val) (tq 1 1) (off_left c 6 1)) (qV_of (org 1 c (6 : Fin 15).val) (tq 1 1) (off_left c 6 1)) (sem6 6 1) (sem7 6 1)) $$ [HO H0]
  · isplitl [HO]; · iexact HO
    iexact H0
  iintro ⟨HO, H0⟩
  iapply (ring_get m ρ K c 0 0 6 rfl rfl 58 (by decide) (sem5 6 0) (credit_q _)) $$ [HO H1]
  · isplitl [HO]; · iexact HO
    iexact H1
  iintro ⟨HO, H1⟩
  iapply (ring_next m ρ K c 0 0 7 6 rfl 58 rfl rfl rfl rfl (dev_right c (k0_dev59_eq c)) (qV_of (org 0 c (7 : Fin 15).val) (tq 0 0) (off_right c 7 0)) (qV_of (org 0 c (7 : Fin 15).val) (tq 0 0) (off_right c 7 0)) (sem4 7 0) (sem5 7 0)) $$ [HO H1]
  · isplitl [HO]; · iexact HO
    iexact H1
  iintro ⟨HO, H1⟩
  rw [wp_ret]; imodintro
  iapply Hk
  isplitl [HO]; · iexact HO
  isplitl [H0]; · iexact H0
  iexact H1

theorem part44 (c : Dev nD) (v2 : BitVec 32) (v4 : BitVec 32) (v7 : BitVec 32) {Q : _ → sProp 𝕄} :
    iprop(OW m ρ K c 59 ∗ Str m ρ 1 0 c 7 6 ∗ Str m ρ 0 1 c 7 6)
      ⊢ iprop(((OW m ρ K c 60 ∗ Str m ρ 1 0 c 8 7 ∗ Str m ρ 0 1 c 7 7) -∗ Q ⟨⟩)
        -∗ wp frame (wpE (defs₀ (F := F)) 𝒱₀ (c : Thread nD τ) none) Set.univ
          (k0_part44 (F := F) (Memref.whole cc0_stg0_0) (Memref.isWhole_whole _) (Memref.whole cc0_stg1_0) (Memref.isWhole_whole _) (Memref.whole main_v1) (Memref.isWhole_whole _)
          (Memref.whole cc0_scratch0) (Memref.isWhole_whole _) (Memref.whole cc0_scratch1) (Memref.isWhole_whole _)
          cc0_scratch2 cc0_scratch3 cc0_scratch4 cc0_scratch5 cc0_scratch6 cc0_scratch7 cc0_scratch8 c v2 v4 v7) Q) := by
  rw [k0_part44_eq_skeleton]; unfold k0_part44_skel
  simp only [semSignalWord, semWaitWord, Prog.lift, Prog.bind_op, Prog.bind_ret, Prog.pure_eq_ret, Prog.bind_assoc, wp_deviceId]
  iintro ⟨HO, H0, H1⟩ Hk
  iapply (ring_get m ρ K c 1 0 6 rfl rfl 59 (by decide) (sem7 6 0) (credit_q _)) $$ [HO H0]
  · isplitl [HO]; · iexact HO
    iexact H0
  iintro ⟨HO, H0⟩
  iapply (ring_next m ρ K c 1 0 7 6 rfl 59 rfl rfl rfl rfl (dev_left c (k0_dev60_eq c)) (qV_of (org 1 c (7 : Fin 15).val) (tq 1 0) (off_left c 7 0)) (qV_of (org 1 c (7 : Fin 15).val) (tq 1 0) (off_left c 7 0)) (sem6 7 0) (sem7 7 0)) $$ [HO H0]
  · isplitl [HO]; · iexact HO
    iexact H0
  iintro ⟨HO, H0⟩
  iapply (ring_get m ρ K c 0 1 6 rfl rfl 60 (by decide) (sem5 6 1) (credit_q _)) $$ [HO H1]
  · isplitl [HO]; · iexact HO
    iexact H1
  iintro ⟨HO, H1⟩
  rw [wp_ret]; imodintro
  iapply Hk
  isplitl [HO]; · iexact HO
  isplitl [H0]; · iexact H0
  iexact H1

theorem part45 (c : Dev nD) (v2 : BitVec 32) (v4 : BitVec 32) (v7 : BitVec 32) {Q : _ → sProp 𝕄} :
    iprop(OW m ρ K c 60 ∗ Str m ρ 0 1 c 7 7 ∗ Str m ρ 1 1 c 7 6)
      ⊢ iprop(((OW m ρ K c 62 ∗ Str m ρ 0 1 c 8 7 ∗ Str m ρ 1 1 c 8 7) -∗ Q ⟨⟩)
        -∗ wp frame (wpE (defs₀ (F := F)) 𝒱₀ (c : Thread nD τ) none) Set.univ
          (k0_part45 (F := F) (Memref.whole cc0_stg0_0) (Memref.isWhole_whole _) (Memref.whole cc0_stg1_0) (Memref.isWhole_whole _) (Memref.whole main_v1) (Memref.isWhole_whole _)
          (Memref.whole cc0_scratch0) (Memref.isWhole_whole _) (Memref.whole cc0_scratch1) (Memref.isWhole_whole _)
          cc0_scratch2 cc0_scratch3 cc0_scratch4 cc0_scratch5 cc0_scratch6 cc0_scratch7 cc0_scratch8 c v2 v4 v7) Q) := by
  rw [k0_part45_eq_skeleton]; unfold k0_part45_skel
  simp only [semSignalWord, semWaitWord, Prog.lift, Prog.bind_op, Prog.bind_ret, Prog.pure_eq_ret, Prog.bind_assoc, wp_deviceId]
  iintro ⟨HO, H0, H1⟩ Hk
  iapply (ring_next m ρ K c 0 1 7 6 rfl 60 rfl rfl rfl rfl (dev_right c (k0_dev61_eq c)) (qV_of (org 0 c (7 : Fin 15).val) (tq 0 1) (off_right c 7 1)) (qV_of (org 0 c (7 : Fin 15).val) (tq 0 1) (off_right c 7 1)) (sem4 7 1) (sem5 7 1)) $$ [HO H0]
  · isplitl [HO]; · iexact HO
    iexact H0
  iintro ⟨HO, H0⟩
  iapply (ring_get m ρ K c 1 1 6 rfl rfl 61 (by decide) (sem7 6 1) (credit_q _)) $$ [HO H1]
  · isplitl [HO]; · iexact HO
    iexact H1
  iintro ⟨HO, H1⟩
  iapply (ring_next m ρ K c 1 1 7 6 rfl 61 rfl rfl rfl rfl (dev_left c (k0_dev62_eq c)) (qV_of (org 1 c (7 : Fin 15).val) (tq 1 1) (off_left c 7 1)) (qV_of (org 1 c (7 : Fin 15).val) (tq 1 1) (off_left c 7 1)) (sem6 7 1) (sem7 7 1)) $$ [HO H1]
  · isplitl [HO]; · iexact HO
    iexact H1
  iintro ⟨HO, H1⟩
  rw [wp_ret]; imodintro
  iapply Hk
  isplitl [HO]; · iexact HO
  isplitl [H0]; · iexact H0
  iexact H1

end Cert.SoftmaxIdeal
-- ==== Proof.RunCIdeal.lean ====
/-
  The stretches of the body that run the ring, second half.
-/
module
public import proofs.«01_k».proof.Proof.CodeIdeal
@[expose] public section
set_option maxHeartbeats 1000000
set_option maxRecDepth 4000
noncomputable section
namespace Cert.SoftmaxIdeal
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers (shareTok shareDrop pointsTo_toks_split pointsTo_toks_join)
variable {F : FTy → Type} [FloatOps F]
local notation "𝕄" => MT nD τ sig Unit (Elt F) ℕ UU ℕ
variable (m : (ℓ : Loc nD τ sig) → Buf (Elt F) ℓ) (ρ : Dev nD → PrngReg)

variable (K : Dev nD × KIx → ℕ)

theorem part46 (c : Dev nD) (v2 : BitVec 32) (v4 : BitVec 32) (v7 : BitVec 32) {Q : _ → sProp 𝕄} :
    iprop(OW m ρ K c 62 ∗ Str m ρ 0 0 c 8 7 ∗ Str m ρ 1 0 c 8 7)
      ⊢ iprop((∀ r, (OW m ρ K c 63 ∗ Str m ρ 0 0 c 9 8 ∗ Str m ρ 1 0 c 8 8) -∗ Q r)
        -∗ wp frame (wpE (defs₀ (F := F)) 𝒱₀ (c : Thread nD τ) none) Set.univ
          (k0_part46 (F := F) (Memref.whole cc0_stg0_0) (Memref.isWhole_whole _) (Memref.whole cc0_stg1_0) (Memref.isWhole_whole _) (Memref.whole main_v1) (Memref.isWhole_whole _)
          (Memref.whole cc0_scratch0) (Memref.isWhole_whole _) (Memref.whole cc0_scratch1) (Memref.isWhole_whole _)
          cc0_scratch2 cc0_scratch3 cc0_scratch4 cc0_scratch5 cc0_scratch6 cc0_scratch7 cc0_scratch8 c v2 v4 v7) Q) := by
  rw [k0_part46_eq_skeleton]; unfold k0_part46_skel
  simp only [semSignalWord, semWaitWord, Prog.lift, Prog.bind_op, Prog.bind_ret, Prog.pure_eq_ret, Prog.bind_assoc, wp_deviceId]
  iintro ⟨HO, H0, H1⟩ Hk
  iapply (ring_get m ρ K c 0 0 7 rfl rfl 62 (by decide) (sem5 7 0) (credit_q _)) $$ [HO H0]
  · isplitl [HO]; · iexact HO
    iexact H0
  iintro ⟨HO, H0⟩
  iapply (ring_next m ρ K c 0 0 8 7 rfl 62 rfl rfl rfl rfl (dev_right c (k0_dev63_eq c)) (qV_of (org 0 c (8 : Fin 15).val) (tq 0 0) (off_right c 8 0)) (qV_of (org 0 c (8 : Fin 15).val) (tq 0 0) (off_right c 8 0)) (sem4 8 0) (sem5 8 0)) $$ [HO H0]
  · isplitl [HO]; · iexact HO
    iexact H0
  iintro ⟨HO, H0⟩
  iapply (ring_get m ρ K c 1 0 7 rfl rfl 63 (by decide) (sem7 7 0) (credit_q _)) $$ [HO H1]
  · isplitl [HO]; · iexact HO
    iexact H1
  iintro ⟨HO, H1⟩
  rw [wp_ret]; imodintro
  iapply Hk
  isplitl [HO]; · iexact HO
  isplitl [H0]; · iexact H0
  iexact H1

theorem part47 (c : Dev nD) (v2 : BitVec 32) (v4 : BitVec 32) (v7 : BitVec 32) (v1322 : BitVec 32) (c0_i32_1267 : BitVec 32) {Q : _ → sProp 𝕄} :
    iprop(OW m ρ K c 63 ∗ Str m ρ 1 0 c 8 8 ∗ Str m ρ 0 1 c 8 7)
      ⊢ iprop(((OW m ρ K c 65 ∗ Str m ρ 1 0 c 9 8 ∗ Str m ρ 0 1 c 9 8) -∗ Q ⟨⟩)
        -∗ wp frame (wpE (defs₀ (F := F)) 𝒱₀ (c : Thread nD τ) none) Set.univ
          (k0_part47 (F := F) (Memref.whole cc0_stg0_0) (Memref.isWhole_whole _) (Memref.whole cc0_stg1_0) (Memref.isWhole_whole _) (Memref.whole main_v1) (Memref.isWhole_whole _)
          (Memref.whole cc0_scratch0) (Memref.isWhole_whole _) (Memref.whole cc0_scratch1) (Memref.isWhole_whole _)
          cc0_scratch2 cc0_scratch3 cc0_scratch4 cc0_scratch5 cc0_scratch6 cc0_scratch7 cc0_scratch8 c v2 v4 v7 v1322 c0_i32_1267) Q) := by
  rw [k0_part47_eq_skeleton]; unfold k0_part47_skel
  simp only [semSignalWord, semWaitWord, Prog.lift, Prog.bind_op, Prog.bind_ret, Prog.pure_eq_ret, Prog.bind_assoc, wp_deviceId]
  iintro ⟨HO, H0, H1⟩ Hk
  iapply (ring_next m ρ K c 1 0 8 7 rfl 63 rfl rfl rfl rfl (dev_left c (k0_dev64_eq c)) (qV_of (org 1 c (8 : Fin 15).val) (tq 1 0) (off_left c 8 0)) (qV_of (org 1 c (8 : Fin 15).val) (tq 1 0) (off_left c 8 0)) (sem6 8 0) (sem7 8 0)) $$ [HO H0]
  · isplitl [HO]; · iexact HO
    iexact H0
  iintro ⟨HO, H0⟩
  iapply (ring_get m ρ K c 0 1 7 rfl rfl 64 (by decide) (sem5 7 1) (credit_q _)) $$ [HO H1]
  · isplitl [HO]; · iexact HO
    iexact H1
  iintro ⟨HO, H1⟩
  iapply (ring_next m ρ K c 0 1 8 7 rfl 64 rfl rfl rfl rfl (dev_right c (k0_dev65_eq c)) (qV_of (org 0 c (8 : Fin 15).val) (tq 0 1) (off_right c 8 1)) (qV_of (org 0 c (8 : Fin 15).val) (tq 0 1) (off_right c 8 1)) (sem4 8 1) (sem5 8 1)) $$ [HO H1]
  · isplitl [HO]; · iexact HO
    iexact H1
  iintro ⟨HO, H1⟩
  rw [wp_ret]; imodintro
  iapply Hk
  isplitl [HO]; · iexact HO
  isplitl [H0]; · iexact H0
  iexact H1

theorem part48 (c : Dev nD) (v2 : BitVec 32) (v4 : BitVec 32) (v7 : BitVec 32) {Q : _ → sProp 𝕄} :
    iprop(OW m ρ K c 65 ∗ Str m ρ 1 1 c 8 7 ∗ Str m ρ 0 0 c 9 8)
      ⊢ iprop(((OW m ρ K c 66 ∗ Str m ρ 1 1 c 9 8 ∗ Str m ρ 0 0 c 9 9) -∗ Q ⟨⟩)
        -∗ wp frame (wpE (defs₀ (F := F)) 𝒱₀ (c : Thread nD τ) none) Set.univ
          (k0_part48 (F := F) (Memref.whole cc0_stg0_0) (Memref.isWhole_whole _) (Memref.whole cc0_stg1_0) (Memref.isWhole_whole _) (Memref.whole main_v1) (Memref.isWhole_whole _)
          (Memref.whole cc0_scratch0) (Memref.isWhole_whole _) (Memref.whole cc0_scratch1) (Memref.isWhole_whole _)
          cc0_scratch2 cc0_scratch3 cc0_scratch4 cc0_scratch5 cc0_scratch6 cc0_scratch7 cc0_scratch8 c v2 v4 v7) Q) := by
  rw [k0_part48_eq_skeleton]; unfold k0_part48_skel
  simp only [semSignalWord, semWaitWord, Prog.lift, Prog.bind_op, Prog.bind_ret, Prog.pure_eq_ret, Prog.bind_assoc, wp_deviceId]
  iintro ⟨HO, H0, H1⟩ Hk
  iapply (ring_get m ρ K c 1 1 7 rfl rfl 65 (by decide) (sem7 7 1) (credit_q _)) $$ [HO H0]
  · isplitl [HO]; · iexact HO
    iexact H0
  iintro ⟨HO, H0⟩
  iapply (ring_next m ρ K c 1 1 8 7 rfl 65 rfl rfl rfl rfl (dev_left c (k0_dev66_eq c)) (qV_of (org 1 c (8 : Fin 15).val) (tq 1 1) (off_left c 8 1)) (qV_of (org 1 c (8 : Fin 15).val) (tq 1 1) (off_left c 8 1)) (sem6 8 1) (sem7 8 1)) $$ [HO H0]
  · isplitl [HO]; · iexact HO
    iexact H0
  iintro ⟨HO, H0⟩
  iapply (ring_get m ρ K c 0 0 8 rfl rfl 66 (by decide) (sem5 8 0) (credit_q _)) $$ [HO H1]
  · isplitl [HO]; · iexact HO
    iexact H1
  iintro ⟨HO, H1⟩
  rw [wp_ret]; imodintro
  iapply Hk
  isplitl [HO]; · iexact HO
  isplitl [H0]; · iexact H0
  iexact H1

theorem part49 (c : Dev nD) (v2 : BitVec 32) (v4 : BitVec 32) (v7 : BitVec 32) {Q : _ → sProp 𝕄} :
    iprop(OW m ρ K c 66 ∗ Str m ρ 0 0 c 9 9 ∗ Str m ρ 1 0 c 9 8)
      ⊢ iprop((∀ r, (OW m ρ K c 68 ∗ Str m ρ 0 0 c 10 9 ∗ Str m ρ 1 0 c 10 9) -∗ Q r)
        -∗ wp frame (wpE (defs₀ (F := F)) 𝒱₀ (c : Thread nD τ) none) Set.univ
          (k0_part49 (F := F) (Memref.whole cc0_stg0_0) (Memref.isWhole_whole _) (Memref.whole cc0_stg1_0) (Memref.isWhole_whole _) (Memref.whole main_v1) (Memref.isWhole_whole _)
          (Memref.whole cc0_scratch0) (Memref.isWhole_whole _) (Memref.whole cc0_scratch1) (Memref.isWhole_whole _)
          cc0_scratch2 cc0_scratch3 cc0_scratch4 cc0_scratch5 cc0_scratch6 cc0_scratch7 cc0_scratch8 c v2 v4 v7) Q) := by
  rw [k0_part49_eq_skeleton]; unfold k0_part49_skel
  simp only [semSignalWord, semWaitWord, Prog.lift, Prog.bind_op, Prog.bind_ret, Prog.pure_eq_ret, Prog.bind_assoc, wp_deviceId]
  iintro ⟨HO, H0, H1⟩ Hk
  iapply (ring_next m ρ K c 0 0 9 8 rfl 66 rfl rfl rfl rfl (dev_right c (k0_dev67_eq c)) (qV_of (org 0 c (9 : Fin 15).val) (tq 0 0) (off_right c 9 0)) (qV_of (org 0 c (9 : Fin 15).val) (tq 0 0) (off_right c 9 0)) (sem4 9 0) (sem5 9 0)) $$ [HO H0]
  · isplitl [HO]; · iexact HO
    iexact H0
  iintro ⟨HO, H0⟩
  iapply (ring_get m ρ K c 1 0 8 rfl rfl 67 (by decide) (sem7 8 0) (credit_q _)) $$ [HO H1]
  · isplitl [HO]; · iexact HO
    iexact H1
  iintro ⟨HO, H1⟩
  iapply (ring_next m ρ K c 1 0 9 8 rfl 67 rfl rfl rfl rfl (dev_left c (k0_dev68_eq c)) (qV_of (org 1 c (9 : Fin 15).val) (tq 1 0) (off_left c 9 0)) (qV_of (org 1 c (9 : Fin 15).val) (tq 1 0) (off_left c 9 0)) (sem6 9 0) (sem7 9 0)) $$ [HO H1]
  · isplitl [HO]; · iexact HO
    iexact H1
  iintro ⟨HO, H1⟩
  rw [wp_ret]; imodintro
  iapply Hk
  isplitl [HO]; · iexact HO
  isplitl [H0]; · iexact H0
  iexact H1

theorem part50 (c : Dev nD) (v2 : BitVec 32) (v4 : BitVec 32) (v7 : BitVec 32) (v1404 : BitVec 32) {Q : _ → sProp 𝕄} :
    iprop(OW m ρ K c 68 ∗ Str m ρ 0 1 c 9 8 ∗ Str m ρ 1 1 c 9 8)
      ⊢ iprop(((OW m ρ K c 69 ∗ Str m ρ 0 1 c 10 9 ∗ Str m ρ 1 1 c 9 9) -∗ Q ⟨⟩)
        -∗ wp frame (wpE (defs₀ (F := F)) 𝒱₀ (c : Thread nD τ) none) Set.univ
          (k0_part50 (F := F) (Memref.whole cc0_stg0_0) (Memref.isWhole_whole _) (Memref.whole cc0_stg1_0) (Memref.isWhole_whole _) (Memref.whole main_v1) (Memref.isWhole_whole _)
          (Memref.whole cc0_scratch0) (Memref.isWhole_whole _) (Memref.whole cc0_scratch1) (Memref.isWhole_whole _)
          cc0_scratch2 cc0_scratch3 cc0_scratch4 cc0_scratch5 cc0_scratch6 cc0_scratch7 cc0_scratch8 c v2 v4 v7 v1404) Q) := by
  rw [k0_part50_eq_skeleton]; unfold k0_part50_skel
  simp only [semSignalWord, semWaitWord, Prog.lift, Prog.bind_op, Prog.bind_ret, Prog.pure_eq_ret, Prog.bind_assoc, wp_deviceId]
  iintro ⟨HO, H0, H1⟩ Hk
  iapply (ring_get m ρ K c 0 1 8 rfl rfl 68 (by decide) (sem5 8 1) (credit_q _)) $$ [HO H0]
  · isplitl [HO]; · iexact HO
    iexact H0
  iintro ⟨HO, H0⟩
  iapply (ring_next m ρ K c 0 1 9 8 rfl 68 rfl rfl rfl rfl (dev_right c (k0_dev69_eq c)) (qV_of (org 0 c (9 : Fin 15).val) (tq 0 1) (off_right c 9 1)) (qV_of (org 0 c (9 : Fin 15).val) (tq 0 1) (off_right c 9 1)) (sem4 9 1) (sem5 9 1)) $$ [HO H0]
  · isplitl [HO]; · iexact HO
    iexact H0
  iintro ⟨HO, H0⟩
  iapply (ring_get m ρ K c 1 1 8 rfl rfl 69 (by decide) (sem7 8 1) (credit_q _)) $$ [HO H1]
  · isplitl [HO]; · iexact HO
    iexact H1
  iintro ⟨HO, H1⟩
  rw [wp_ret]; imodintro
  iapply Hk
  isplitl [HO]; · iexact HO
  isplitl [H0]; · iexact H0
  iexact H1

theorem part51 (c : Dev nD) (v2 : BitVec 32) (v4 : BitVec 32) (v7 : BitVec 32) {Q : _ → sProp 𝕄} :
    iprop(OW m ρ K c 69 ∗ Str m ρ 1 1 c 9 9 ∗ Str m ρ 0 0 c 10 9)
      ⊢ iprop(((OW m ρ K c 71 ∗ Str m ρ 1 1 c 10 9 ∗ Str m ρ 0 0 c 11 10) -∗ Q ⟨⟩)
        -∗ wp frame (wpE (defs₀ (F := F)) 𝒱₀ (c : Thread nD τ) none) Set.univ
          (k0_part51 (F := F) (Memref.whole cc0_stg0_0) (Memref.isWhole_whole _) (Memref.whole cc0_stg1_0) (Memref.isWhole_whole _) (Memref.whole main_v1) (Memref.isWhole_whole _)
          (Memref.whole cc0_scratch0) (Memref.isWhole_whole _) (Memref.whole cc0_scratch1) (Memref.isWhole_whole _)
          cc0_scratch2 cc0_scratch3 cc0_scratch4 cc0_scratch5 cc0_scratch6 cc0_scratch7 cc0_scratch8 c v2 v4 v7) Q) := by
  rw [k0_part51_eq_skeleton]; unfold k0_part51_skel
  simp only [semSignalWord, semWaitWord, Prog.lift, Prog.bind_op, Prog.bind_ret, Prog.pure_eq_ret, Prog.bind_assoc, wp_deviceId]
  iintro ⟨HO, H0, H1⟩ Hk
  iapply (ring_next m ρ K c 1 1 9 8 rfl 69 rfl rfl rfl rfl (dev_left c (k0_dev70_eq c)) (qV_of (org 1 c (9 : Fin 15).val) (tq 1 1) (off_left c 9 1)) (qV_of (org 1 c (9 : Fin 15).val) (tq 1 1) (off_left c 9 1)) (sem6 9 1) (sem7 9 1)) $$ [HO H0]
  · isplitl [HO]; · iexact HO
    iexact H0
  iintro ⟨HO, H0⟩
  iapply (ring_get m ρ K c 0 0 9 rfl rfl 70 (by decide) (sem5 9 0) (credit_q _)) $$ [HO H1]
  · isplitl [HO]; · iexact HO
    iexact H1
  iintro ⟨HO, H1⟩
  iapply (ring_next m ρ K c 0 0 10 9 rfl 70 rfl rfl rfl rfl (dev_right c (k0_dev71_eq c)) (qV_of (org 0 c (10 : Fin 15).val) (tq 0 0) (off_right c 10 0)) (qV_of (org 0 c (10 : Fin 15).val) (tq 0 0) (off_right c 10 0)) (sem4 10 0) (sem5 10 0)) $$ [HO H1]
  · isplitl [HO]; · iexact HO
    iexact H1
  iintro ⟨HO, H1⟩
  rw [wp_ret]; imodintro
  iapply Hk
  isplitl [HO]; · iexact HO
  isplitl [H0]; · iexact H0
  iexact H1

theorem part52 (c : Dev nD) (v2 : BitVec 32) (v4 : BitVec 32) (v7 : BitVec 32) {Q : _ → sProp 𝕄} :
    iprop(OW m ρ K c 71 ∗ Str m ρ 1 0 c 10 9 ∗ Str m ρ 0 1 c 10 9)
      ⊢ iprop((∀ r, (OW m ρ K c 72 ∗ Str m ρ 1 0 c 11 10 ∗ Str m ρ 0 1 c 10 10) -∗ Q r)
        -∗ wp frame (wpE (defs₀ (F := F)) 𝒱₀ (c : Thread nD τ) none) Set.univ
          (k0_part52 (F := F) (Memref.whole cc0_stg0_0) (Memref.isWhole_whole _) (Memref.whole cc0_stg1_0) (Memref.isWhole_whole _) (Memref.whole main_v1) (Memref.isWhole_whole _)
          (Memref.whole cc0_scratch0) (Memref.isWhole_whole _) (Memref.whole cc0_scratch1) (Memref.isWhole_whole _)
          cc0_scratch2 cc0_scratch3 cc0_scratch4 cc0_scratch5 cc0_scratch6 cc0_scratch7 cc0_scratch8 c v2 v4 v7) Q) := by
  rw [k0_part52_eq_skeleton]; unfold k0_part52_skel
  simp only [semSignalWord, semWaitWord, Prog.lift, Prog.bind_op, Prog.bind_ret, Prog.pure_eq_ret, Prog.bind_assoc, wp_deviceId]
  iintro ⟨HO, H0, H1⟩ Hk
  iapply (ring_get m ρ K c 1 0 9 rfl rfl 71 (by decide) (sem7 9 0) (credit_q _)) $$ [HO H0]
  · isplitl [HO]; · iexact HO
    iexact H0
  iintro ⟨HO, H0⟩
  iapply (ring_next m ρ K c 1 0 10 9 rfl 71 rfl rfl rfl rfl (dev_left c (k0_dev72_eq c)) (qV_of (org 1 c (10 : Fin 15).val) (tq 1 0) (off_left c 10 0)) (qV_of (org 1 c (10 : Fin 15).val) (tq 1 0) (off_left c 10 0)) (sem6 10 0) (sem7 10 0)) $$ [HO H0]
  · isplitl [HO]; · iexact HO
    iexact H0
  iintro ⟨HO, H0⟩
  iapply (ring_get m ρ K c 0 1 9 rfl rfl 72 (by decide) (sem5 9 1) (credit_q _)) $$ [HO H1]
  · isplitl [HO]; · iexact HO
    iexact H1
  iintro ⟨HO, H1⟩
  rw [wp_ret]; imodintro
  iapply Hk
  isplitl [HO]; · iexact HO
  isplitl [H0]; · iexact H0
  iexact H1

theorem part53 (c : Dev nD) (v2 : BitVec 32) (v4 : BitVec 32) (v7 : BitVec 32) (v1486 : BitVec 32) (c4096_i32_1445 : BitVec 32) {Q : _ → sProp 𝕄} :
    iprop(OW m ρ K c 72 ∗ Str m ρ 0 1 c 10 10 ∗ Str m ρ 1 1 c 10 9)
      ⊢ iprop(((OW m ρ K c 74 ∗ Str m ρ 0 1 c 11 10 ∗ Str m ρ 1 1 c 11 10) -∗ Q ⟨⟩)
        -∗ wp frame (wpE (defs₀ (F := F)) 𝒱₀ (c : Thread nD τ) none) Set.univ
          (k0_part53 (F := F) (Memref.whole cc0_stg0_0) (Memref.isWhole_whole _) (Memref.whole cc0_stg1_0) (Memref.isWhole_whole _) (Memref.whole main_v1) (Memref.isWhole_whole _)
          (Memref.whole cc0_scratch0) (Memref.isWhole_whole _) (Memref.whole cc0_scratch1) (Memref.isWhole_whole _)
          cc0_scratch2 cc0_scratch3 cc0_scratch4 cc0_scratch5 cc0_scratch6 cc0_scratch7 cc0_scratch8 c v2 v4 v7 v1486 c4096_i32_1445) Q) := by
  rw [k0_part53_eq_skeleton]; unfold k0_part53_skel
  simp only [semSignalWord, semWaitWord, Prog.lift, Prog.bind_op, Prog.bind_ret, Prog.pure_eq_ret, Prog.bind_assoc, wp_deviceId]
  iintro ⟨HO, H0, H1⟩ Hk
  iapply (ring_next m ρ K c 0 1 10 9 rfl 72 rfl rfl rfl rfl (dev_right c (k0_dev73_eq c)) (qV_of (org 0 c (10 : Fin 15).val) (tq 0 1) (off_right c 10 1)) (qV_of (org 0 c (10 : Fin 15).val) (tq 0 1) (off_right c 10 1)) (sem4 10 1) (sem5 10 1)) $$ [HO H0]
  · isplitl [HO]; · iexact HO
    iexact H0
  iintro ⟨HO, H0⟩
  iapply (ring_get m ρ K c 1 1 9 rfl rfl 73 (by decide) (sem7 9 1) (credit_q _)) $$ [HO H1]
  · isplitl [HO]; · iexact HO
    iexact H1
  iintro ⟨HO, H1⟩
  iapply (ring_next m ρ K c 1 1 10 9 rfl 73 rfl rfl rfl rfl (dev_left c (k0_dev74_eq c)) (qV_of (org 1 c (10 : Fin 15).val) (tq 1 1) (off_left c 10 1)) (qV_of (org 1 c (10 : Fin 15).val) (tq 1 1) (off_left c 10 1)) (sem6 10 1) (sem7 10 1)) $$ [HO H1]
  · isplitl [HO]; · iexact HO
    iexact H1
  iintro ⟨HO, H1⟩
  rw [wp_ret]; imodintro
  iapply Hk
  isplitl [HO]; · iexact HO
  isplitl [H0]; · iexact H0
  iexact H1

theorem part54 (c : Dev nD) (v2 : BitVec 32) (v4 : BitVec 32) (v7 : BitVec 32) {Q : _ → sProp 𝕄} :
    iprop(OW m ρ K c 74 ∗ Str m ρ 0 0 c 11 10 ∗ Str m ρ 1 0 c 11 10)
      ⊢ iprop((∀ r, (OW m ρ K c 75 ∗ Str m ρ 0 0 c 12 11 ∗ Str m ρ 1 0 c 11 11) -∗ Q r)
        -∗ wp frame (wpE (defs₀ (F := F)) 𝒱₀ (c : Thread nD τ) none) Set.univ
          (k0_part54 (F := F) (Memref.whole cc0_stg0_0) (Memref.isWhole_whole _) (Memref.whole cc0_stg1_0) (Memref.isWhole_whole _) (Memref.whole main_v1) (Memref.isWhole_whole _)
          (Memref.whole cc0_scratch0) (Memref.isWhole_whole _) (Memref.whole cc0_scratch1) (Memref.isWhole_whole _)
          cc0_scratch2 cc0_scratch3 cc0_scratch4 cc0_scratch5 cc0_scratch6 cc0_scratch7 cc0_scratch8 c v2 v4 v7) Q) := by
  rw [k0_part54_eq_skeleton]; unfold k0_part54_skel
  simp only [semSignalWord, semWaitWord, Prog.lift, Prog.bind_op, Prog.bind_ret, Prog.pure_eq_ret, Prog.bind_assoc, wp_deviceId]
  iintro ⟨HO, H0, H1⟩ Hk
  iapply (ring_get m ρ K c 0 0 10 rfl rfl 74 (by decide) (sem5 10 0) (credit_q _)) $$ [HO H0]
  · isplitl [HO]; · iexact HO
    iexact H0
  iintro ⟨HO, H0⟩
  iapply (ring_next m ρ K c 0 0 11 10 rfl 74 rfl rfl rfl rfl (dev_right c (k0_dev75_eq c)) (qV_of (org 0 c (11 : Fin 15).val) (tq 0 0) (off_right c 11 0)) (qV_of (org 0 c (11 : Fin 15).val) (tq 0 0) (off_right c 11 0)) (sem4 11 0) (sem5 11 0)) $$ [HO H0]
  · isplitl [HO]; · iexact HO
    iexact H0
  iintro ⟨HO, H0⟩
  iapply (ring_get m ρ K c 1 0 10 rfl rfl 75 (by decide) (sem7 10 0) (credit_q _)) $$ [HO H1]
  · isplitl [HO]; · iexact HO
    iexact H1
  iintro ⟨HO, H1⟩
  rw [wp_ret]; imodintro
  iapply Hk
  isplitl [HO]; · iexact HO
  isplitl [H0]; · iexact H0
  iexact H1

theorem part55 (c : Dev nD) (v2 : BitVec 32) (v4 : BitVec 32) (v7 : BitVec 32) (v1540 : BitVec 32) (c16_i32_1505 : BitVec 32) {Q : _ → sProp 𝕄} :
    iprop(OW m ρ K c 75 ∗ Str m ρ 1 0 c 11 11 ∗ Str m ρ 0 1 c 11 10)
      ⊢ iprop(((OW m ρ K c 76 ∗ Str m ρ 1 0 c 12 11 ∗ Str m ρ 0 1 c 11 11) -∗ Q ⟨⟩)
        -∗ wp frame (wpE (defs₀ (F := F)) 𝒱₀ (c : Thread nD τ) none) Set.univ
          (k0_part55 (F := F) (Memref.whole cc0_stg0_0) (Memref.isWhole_whole _) (Memref.whole cc0_stg1_0) (Memref.isWhole_whole _) (Memref.whole main_v1) (Memref.isWhole_whole _)
          (Memref.whole cc0_scratch0) (Memref.isWhole_whole _) (Memref.whole cc0_scratch1) (Memref.isWhole_whole _)
          cc0_scratch2 cc0_scratch3 cc0_scratch4 cc0_scratch5 cc0_scratch6 cc0_scratch7 cc0_scratch8 c v2 v4 v7 v1540 c16_i32_1505) Q) := by
  rw [k0_part55_eq_skeleton]; unfold k0_part55_skel
  simp only [semSignalWord, semWaitWord, Prog.lift, Prog.bind_op, Prog.bind_ret, Prog.pure_eq_ret, Prog.bind_assoc, wp_deviceId]
  iintro ⟨HO, H0, H1⟩ Hk
  iapply (ring_next m ρ K c 1 0 11 10 rfl 75 rfl rfl rfl rfl (dev_left c (k0_dev76_eq c)) (qV_of (org 1 c (11 : Fin 15).val) (tq 1 0) (off_left c 11 0)) (qV_of (org 1 c (11 : Fin 15).val) (tq 1 0) (off_left c 11 0)) (sem6 11 0) (sem7 11 0)) $$ [HO H0]
  · isplitl [HO]; · iexact HO
    iexact H0
  iintro ⟨HO, H0⟩
  iapply (ring_get m ρ K c 0 1 10 rfl rfl 76 (by decide) (sem5 10 1) (credit_q _)) $$ [HO H1]
  · isplitl [HO]; · iexact HO
    iexact H1
  iintro ⟨HO, H1⟩
  rw [wp_ret]; imodintro
  iapply Hk
  isplitl [HO]; · iexact HO
  isplitl [H0]; · iexact H0
  iexact H1

theorem part56 (c : Dev nD) (v2 : BitVec 32) (v4 : BitVec 32) (v7 : BitVec 32) {Q : _ → sProp 𝕄} :
    iprop(OW m ρ K c 76 ∗ Str m ρ 0 1 c 11 11 ∗ Str m ρ 1 1 c 11 10 ∗ Str m ρ 0 0 c 12 11)
      ⊢ iprop((∀ r, (OW m ρ K c 78 ∗ Str m ρ 0 1 c 12 11 ∗ Str m ρ 1 1 c 12 11 ∗ Str m ρ 0 0 c 12 12) -∗ Q r)
        -∗ wp frame (wpE (defs₀ (F := F)) 𝒱₀ (c : Thread nD τ) none) Set.univ
          (k0_part56 (F := F) (Memref.whole cc0_stg0_0) (Memref.isWhole_whole _) (Memref.whole cc0_stg1_0) (Memref.isWhole_whole _) (Memref.whole main_v1) (Memref.isWhole_whole _)
          (Memref.whole cc0_scratch0) (Memref.isWhole_whole _) (Memref.whole cc0_scratch1) (Memref.isWhole_whole _)
          cc0_scratch2 cc0_scratch3 cc0_scratch4 cc0_scratch5 cc0_scratch6 cc0_scratch7 cc0_scratch8 c v2 v4 v7) Q) := by
  rw [k0_part56_eq_skeleton]; unfold k0_part56_skel
  simp only [semSignalWord, semWaitWord, Prog.lift, Prog.bind_op, Prog.bind_ret, Prog.pure_eq_ret, Prog.bind_assoc, wp_deviceId]
  iintro ⟨HO, H0, H1, H2⟩ Hk
  iapply (ring_next m ρ K c 0 1 11 10 rfl 76 rfl rfl rfl rfl (dev_right c (k0_dev77_eq c)) (qV_of (org 0 c (11 : Fin 15).val) (tq 0 1) (off_right c 11 1)) (qV_of (org 0 c (11 : Fin 15).val) (tq 0 1) (off_right c 11 1)) (sem4 11 1) (sem5 11 1)) $$ [HO H0]
  · isplitl [HO]; · iexact HO
    iexact H0
  iintro ⟨HO, H0⟩
  iapply (ring_get m ρ K c 1 1 10 rfl rfl 77 (by decide) (sem7 10 1) (credit_q _)) $$ [HO H1]
  · isplitl [HO]; · iexact HO
    iexact H1
  iintro ⟨HO, H1⟩
  iapply (ring_next m ρ K c 1 1 11 10 rfl 77 rfl rfl rfl rfl (dev_left c (k0_dev78_eq c)) (qV_of (org 1 c (11 : Fin 15).val) (tq 1 1) (off_left c 11 1)) (qV_of (org 1 c (11 : Fin 15).val) (tq 1 1) (off_left c 11 1)) (sem6 11 1) (sem7 11 1)) $$ [HO H1]
  · isplitl [HO]; · iexact HO
    iexact H1
  iintro ⟨HO, H1⟩
  iapply (ring_get m ρ K c 0 0 11 rfl rfl 78 (by decide) (sem5 11 0) (credit_q _)) $$ [HO H2]
  · isplitl [HO]; · iexact HO
    iexact H2
  iintro ⟨HO, H2⟩
  rw [wp_ret]; imodintro
  iapply Hk
  isplitl [HO]; · iexact HO
  isplitl [H0]; · iexact H0
  isplitl [H1]; · iexact H1
  iexact H2

theorem part57 (c : Dev nD) (v2 : BitVec 32) (v4 : BitVec 32) (v7 : BitVec 32) (c12_i32_1565 : BitVec 32) {Q : _ → sProp 𝕄} :
    iprop(OW m ρ K c 78 ∗ Str m ρ 0 0 c 12 12 ∗ Str m ρ 1 0 c 12 11)
      ⊢ iprop(((OW m ρ K c 79 ∗ Str m ρ 0 0 c 13 12 ∗ Str m ρ 1 0 c 12 12) -∗ Q ⟨⟩)
        -∗ wp frame (wpE (defs₀ (F := F)) 𝒱₀ (c : Thread nD τ) none) Set.univ
          (k0_part57 (F := F) (Memref.whole cc0_stg0_0) (Memref.isWhole_whole _) (Memref.whole cc0_stg1_0) (Memref.isWhole_whole _) (Memref.whole main_v1) (Memref.isWhole_whole _)
          (Memref.whole cc0_scratch0) (Memref.isWhole_whole _) (Memref.whole cc0_scratch1) (Memref.isWhole_whole _)
          cc0_scratch2 cc0_scratch3 cc0_scratch4 cc0_scratch5 cc0_scratch6 cc0_scratch7 cc0_scratch8 c v2 v4 v7 c12_i32_1565) Q) := by
  rw [k0_part57_eq_skeleton]; unfold k0_part57_skel
  simp only [semSignalWord, semWaitWord, Prog.lift, Prog.bind_op, Prog.bind_ret, Prog.pure_eq_ret, Prog.bind_assoc, wp_deviceId]
  iintro ⟨HO, H0, H1⟩ Hk
  iapply (ring_next m ρ K c 0 0 12 11 rfl 78 rfl rfl rfl rfl (dev_right c (k0_dev79_eq c)) (qV_of (org 0 c (12 : Fin 15).val) (tq 0 0) (off_right c 12 0)) (qV_of (org 0 c (12 : Fin 15).val) (tq 0 0) (off_right c 12 0)) (sem4 12 0) (sem5 12 0)) $$ [HO H0]
  · isplitl [HO]; · iexact HO
    iexact H0
  iintro ⟨HO, H0⟩
  iapply (ring_get m ρ K c 1 0 11 rfl rfl 79 (by decide) (sem7 11 0) (credit_q _)) $$ [HO H1]
  · isplitl [HO]; · iexact HO
    iexact H1
  iintro ⟨HO, H1⟩
  rw [wp_ret]; imodintro
  iapply Hk
  isplitl [HO]; · iexact HO
  isplitl [H0]; · iexact H0
  iexact H1

theorem part58 (c : Dev nD) (v2 : BitVec 32) (v4 : BitVec 32) (v7 : BitVec 32) {Q : _ → sProp 𝕄} :
    iprop(OW m ρ K c 79 ∗ Str m ρ 1 0 c 12 12 ∗ Str m ρ 0 1 c 12 11)
      ⊢ iprop(((OW m ρ K c 81 ∗ Str m ρ 1 0 c 13 12 ∗ Str m ρ 0 1 c 13 12) -∗ Q ⟨⟩)
        -∗ wp frame (wpE (defs₀ (F := F)) 𝒱₀ (c : Thread nD τ) none) Set.univ
          (k0_part58 (F := F) (Memref.whole cc0_stg0_0) (Memref.isWhole_whole _) (Memref.whole cc0_stg1_0) (Memref.isWhole_whole _) (Memref.whole main_v1) (Memref.isWhole_whole _)
          (Memref.whole cc0_scratch0) (Memref.isWhole_whole _) (Memref.whole cc0_scratch1) (Memref.isWhole_whole _)
          cc0_scratch2 cc0_scratch3 cc0_scratch4 cc0_scratch5 cc0_scratch6 cc0_scratch7 cc0_scratch8 c v2 v4 v7) Q) := by
  rw [k0_part58_eq_skeleton]; unfold k0_part58_skel
  simp only [semSignalWord, semWaitWord, Prog.lift, Prog.bind_op, Prog.bind_ret, Prog.pure_eq_ret, Prog.bind_assoc, wp_deviceId]
  iintro ⟨HO, H0, H1⟩ Hk
  iapply (ring_next m ρ K c 1 0 12 11 rfl 79 rfl rfl rfl rfl (dev_left c (k0_dev80_eq c)) (qV_of (org 1 c (12 : Fin 15).val) (tq 1 0) (off_left c 12 0)) (qV_of (org 1 c (12 : Fin 15).val) (tq 1 0) (off_left c 12 0)) (sem6 12 0) (sem7 12 0)) $$ [HO H0]
  · isplitl [HO]; · iexact HO
    iexact H0
  iintro ⟨HO, H0⟩
  iapply (ring_get m ρ K c 0 1 11 rfl rfl 80 (by decide) (sem5 11 1) (credit_q _)) $$ [HO H1]
  · isplitl [HO]; · iexact HO
    iexact H1
  iintro ⟨HO, H1⟩
  iapply (ring_next m ρ K c 0 1 12 11 rfl 80 rfl rfl rfl rfl (dev_right c (k0_dev81_eq c)) (qV_of (org 0 c (12 : Fin 15).val) (tq 0 1) (off_right c 12 1)) (qV_of (org 0 c (12 : Fin 15).val) (tq 0 1) (off_right c 12 1)) (sem4 12 1) (sem5 12 1)) $$ [HO H1]
  · isplitl [HO]; · iexact HO
    iexact H1
  iintro ⟨HO, H1⟩
  rw [wp_ret]; imodintro
  iapply Hk
  isplitl [HO]; · iexact HO
  isplitl [H0]; · iexact H0
  iexact H1

theorem part59 (c : Dev nD) (v2 : BitVec 32) (v4 : BitVec 32) (v7 : BitVec 32) {Q : _ → sProp 𝕄} :
    iprop(OW m ρ K c 81 ∗ Str m ρ 1 1 c 12 11 ∗ Str m ρ 0 0 c 13 12)
      ⊢ iprop((∀ r, (OW m ρ K c 82 ∗ Str m ρ 1 1 c 13 12 ∗ Str m ρ 0 0 c 13 13) -∗ Q r)
        -∗ wp frame (wpE (defs₀ (F := F)) 𝒱₀ (c : Thread nD τ) none) Set.univ
          (k0_part59 (F := F) (Memref.whole cc0_stg0_0) (Memref.isWhole_whole _) (Memref.whole cc0_stg1_0) (Memref.isWhole_whole _) (Memref.whole main_v1) (Memref.isWhole_whole _)
          (Memref.whole cc0_scratch0) (Memref.isWhole_whole _) (Memref.whole cc0_scratch1) (Memref.isWhole_whole _)
          cc0_scratch2 cc0_scratch3 cc0_scratch4 cc0_scratch5 cc0_scratch6 cc0_scratch7 cc0_scratch8 c v2 v4 v7) Q) := by
  rw [k0_part59_eq_skeleton]; unfold k0_part59_skel
  simp only [semSignalWord, semWaitWord, Prog.lift, Prog.bind_op, Prog.bind_ret, Prog.pure_eq_ret, Prog.bind_assoc, wp_deviceId]
  iintro ⟨HO, H0, H1⟩ Hk
  iapply (ring_get m ρ K c 1 1 11 rfl rfl 81 (by decide) (sem7 11 1) (credit_q _)) $$ [HO H0]
  · isplitl [HO]; · iexact HO
    iexact H0
  iintro ⟨HO, H0⟩
  iapply (ring_next m ρ K c 1 1 12 11 rfl 81 rfl rfl rfl rfl (dev_left c (k0_dev82_eq c)) (qV_of (org 1 c (12 : Fin 15).val) (tq 1 1) (off_left c 12 1)) (qV_of (org 1 c (12 : Fin 15).val) (tq 1 1) (off_left c 12 1)) (sem6 12 1) (sem7 12 1)) $$ [HO H0]
  · isplitl [HO]; · iexact HO
    iexact H0
  iintro ⟨HO, H0⟩
  iapply (ring_get m ρ K c 0 0 12 rfl rfl 82 (by decide) (sem5 12 0) (credit_q _)) $$ [HO H1]
  · isplitl [HO]; · iexact HO
    iexact H1
  iintro ⟨HO, H1⟩
  rw [wp_ret]; imodintro
  iapply Hk
  isplitl [HO]; · iexact HO
  isplitl [H0]; · iexact H0
  iexact H1

theorem part60 (c : Dev nD) (v2 : BitVec 32) (v4 : BitVec 32) (v7 : BitVec 32) (v1674 : BitVec 32) (c0_i32_1657 : BitVec 32) {Q : _ → sProp 𝕄} :
    iprop(OW m ρ K c 82 ∗ Str m ρ 0 0 c 13 13 ∗ Str m ρ 1 0 c 13 12)
      ⊢ iprop(((OW m ρ K c 84 ∗ Str m ρ 0 0 c 14 13 ∗ Str m ρ 1 0 c 14 13) -∗ Q ⟨⟩)
        -∗ wp frame (wpE (defs₀ (F := F)) 𝒱₀ (c : Thread nD τ) none) Set.univ
          (k0_part60 (F := F) (Memref.whole cc0_stg0_0) (Memref.isWhole_whole _) (Memref.whole cc0_stg1_0) (Memref.isWhole_whole _) (Memref.whole main_v1) (Memref.isWhole_whole _)
          (Memref.whole cc0_scratch0) (Memref.isWhole_whole _) (Memref.whole cc0_scratch1) (Memref.isWhole_whole _)
          cc0_scratch2 cc0_scratch3 cc0_scratch4 cc0_scratch5 cc0_scratch6 cc0_scratch7 cc0_scratch8 c v2 v4 v7 v1674 c0_i32_1657) Q) := by
  rw [k0_part60_eq_skeleton]; unfold k0_part60_skel
  simp only [semSignalWord, semWaitWord, Prog.lift, Prog.bind_op, Prog.bind_ret, Prog.pure_eq_ret, Prog.bind_assoc, wp_deviceId]
  iintro ⟨HO, H0, H1⟩ Hk
  iapply (ring_next m ρ K c 0 0 13 12 rfl 82 rfl rfl rfl rfl (dev_right c (k0_dev83_eq c)) (qV_of (org 0 c (13 : Fin 15).val) (tq 0 0) (off_right c 13 0)) (qV_of (org 0 c (13 : Fin 15).val) (tq 0 0) (off_right c 13 0)) (sem4 13 0) (sem5 13 0)) $$ [HO H0]
  · isplitl [HO]; · iexact HO
    iexact H0
  iintro ⟨HO, H0⟩
  iapply (ring_get m ρ K c 1 0 12 rfl rfl 83 (by decide) (sem7 12 0) (credit_q _)) $$ [HO H1]
  · isplitl [HO]; · iexact HO
    iexact H1
  iintro ⟨HO, H1⟩
  iapply (ring_next m ρ K c 1 0 13 12 rfl 83 rfl rfl rfl rfl (dev_left c (k0_dev84_eq c)) (qV_of (org 1 c (13 : Fin 15).val) (tq 1 0) (off_left c 13 0)) (qV_of (org 1 c (13 : Fin 15).val) (tq 1 0) (off_left c 13 0)) (sem6 13 0) (sem7 13 0)) $$ [HO H1]
  · isplitl [HO]; · iexact HO
    iexact H1
  iintro ⟨HO, H1⟩
  rw [wp_ret]; imodintro
  iapply Hk
  isplitl [HO]; · iexact HO
  isplitl [H0]; · iexact H0
  iexact H1

theorem part61 (c : Dev nD) (v2 : BitVec 32) (v4 : BitVec 32) (v7 : BitVec 32) {Q : _ → sProp 𝕄} :
    iprop(OW m ρ K c 84 ∗ Str m ρ 0 1 c 13 12 ∗ Str m ρ 1 1 c 13 12)
      ⊢ iprop((∀ r, (OW m ρ K c 85 ∗ Str m ρ 0 1 c 14 13 ∗ Str m ρ 1 1 c 13 13) -∗ Q r)
        -∗ wp frame (wpE (defs₀ (F := F)) 𝒱₀ (c : Thread nD τ) none) Set.univ
          (k0_part61 (F := F) (Memref.whole cc0_stg0_0) (Memref.isWhole_whole _) (Memref.whole cc0_stg1_0) (Memref.isWhole_whole _) (Memref.whole main_v1) (Memref.isWhole_whole _)
          (Memref.whole cc0_scratch0) (Memref.isWhole_whole _) (Memref.whole cc0_scratch1) (Memref.isWhole_whole _)
          cc0_scratch2 cc0_scratch3 cc0_scratch4 cc0_scratch5 cc0_scratch6 cc0_scratch7 cc0_scratch8 c v2 v4 v7) Q) := by
  rw [k0_part61_eq_skeleton]; unfold k0_part61_skel
  simp only [semSignalWord, semWaitWord, Prog.lift, Prog.bind_op, Prog.bind_ret, Prog.pure_eq_ret, Prog.bind_assoc, wp_deviceId]
  iintro ⟨HO, H0, H1⟩ Hk
  iapply (ring_get m ρ K c 0 1 12 rfl rfl 84 (by decide) (sem5 12 1) (credit_q _)) $$ [HO H0]
  · isplitl [HO]; · iexact HO
    iexact H0
  iintro ⟨HO, H0⟩
  iapply (ring_next m ρ K c 0 1 13 12 rfl 84 rfl rfl rfl rfl (dev_right c (k0_dev85_eq c)) (qV_of (org 0 c (13 : Fin 15).val) (tq 0 1) (off_right c 13 1)) (qV_of (org 0 c (13 : Fin 15).val) (tq 0 1) (off_right c 13 1)) (sem4 13 1) (sem5 13 1)) $$ [HO H0]
  · isplitl [HO]; · iexact HO
    iexact H0
  iintro ⟨HO, H0⟩
  iapply (ring_get m ρ K c 1 1 12 rfl rfl 85 (by decide) (sem7 12 1) (credit_q _)) $$ [HO H1]
  · isplitl [HO]; · iexact HO
    iexact H1
  iintro ⟨HO, H1⟩
  rw [wp_ret]; imodintro
  iapply Hk
  isplitl [HO]; · iexact HO
  isplitl [H0]; · iexact H0
  iexact H1

theorem part62 (c : Dev nD) (v2 : BitVec 32) (v4 : BitVec 32) (v7 : BitVec 32) (c1_i32_1717 : BitVec 32) {Q : _ → sProp 𝕄} :
    iprop(OW m ρ K c 85 ∗ Str m ρ 1 1 c 13 13 ∗ Str m ρ 0 0 c 14 13)
      ⊢ iprop((∀ r, (OW m ρ K c 87 ∗ Str m ρ 1 1 c 14 13 ∗ Str m ρ 0 0 c 15 14) -∗ Q r)
        -∗ wp frame (wpE (defs₀ (F := F)) 𝒱₀ (c : Thread nD τ) none) Set.univ
          (k0_part62 (F := F) (Memref.whole cc0_stg0_0) (Memref.isWhole_whole _) (Memref.whole cc0_stg1_0) (Memref.isWhole_whole _) (Memref.whole main_v1) (Memref.isWhole_whole _)
          (Memref.whole cc0_scratch0) (Memref.isWhole_whole _) (Memref.whole cc0_scratch1) (Memref.isWhole_whole _)
          cc0_scratch2 cc0_scratch3 cc0_scratch4 cc0_scratch5 cc0_scratch6 cc0_scratch7 cc0_scratch8 c v2 v4 v7 c1_i32_1717) Q) := by
  rw [k0_part62_eq_skeleton]; unfold k0_part62_skel
  simp only [semSignalWord, semWaitWord, Prog.lift, Prog.bind_op, Prog.bind_ret, Prog.pure_eq_ret, Prog.bind_assoc, wp_deviceId]
  iintro ⟨HO, H0, H1⟩ Hk
  iapply (ring_next m ρ K c 1 1 13 12 rfl 85 rfl rfl rfl rfl (dev_left c (k0_dev86_eq c)) (qV_of (org 1 c (13 : Fin 15).val) (tq 1 1) (off_left c 13 1)) (qV_of (org 1 c (13 : Fin 15).val) (tq 1 1) (off_left c 13 1)) (sem6 13 1) (sem7 13 1)) $$ [HO H0]
  · isplitl [HO]; · iexact HO
    iexact H0
  iintro ⟨HO, H0⟩
  iapply (ring_get m ρ K c 0 0 13 rfl rfl 86 (by decide) (sem5 13 0) (credit_q _)) $$ [HO H1]
  · isplitl [HO]; · iexact HO
    iexact H1
  iintro ⟨HO, H1⟩
  iapply (ring_next m ρ K c 0 0 14 13 rfl 86 rfl rfl rfl rfl (dev_right c (k0_dev87_eq c)) (qV_of (org 0 c (14 : Fin 15).val) (tq 0 0) (off_right c 14 0)) (qV_of (org 0 c (14 : Fin 15).val) (tq 0 0) (off_right c 14 0)) (sem4 14 0) (sem5 14 0)) $$ [HO H1]
  · isplitl [HO]; · iexact HO
    iexact H1
  iintro ⟨HO, H1⟩
  rw [wp_ret]; imodintro
  iapply Hk
  isplitl [HO]; · iexact HO
  isplitl [H0]; · iexact H0
  iexact H1

theorem part63 (c : Dev nD) (v2 : BitVec 32) (v4 : BitVec 32) (v7 : BitVec 32) (v1756 : BitVec 32) {Q : _ → sProp 𝕄} :
    iprop(OW m ρ K c 87 ∗ Str m ρ 1 0 c 14 13 ∗ Str m ρ 0 1 c 14 13)
      ⊢ iprop(((OW m ρ K c 88 ∗ Str m ρ 1 0 c 15 14 ∗ Str m ρ 0 1 c 14 14) -∗ Q ⟨⟩)
        -∗ wp frame (wpE (defs₀ (F := F)) 𝒱₀ (c : Thread nD τ) none) Set.univ
          (k0_part63 (F := F) (Memref.whole cc0_stg0_0) (Memref.isWhole_whole _) (Memref.whole cc0_stg1_0) (Memref.isWhole_whole _) (Memref.whole main_v1) (Memref.isWhole_whole _)
          (Memref.whole cc0_scratch0) (Memref.isWhole_whole _) (Memref.whole cc0_scratch1) (Memref.isWhole_whole _)
          cc0_scratch2 cc0_scratch3 cc0_scratch4 cc0_scratch5 cc0_scratch6 cc0_scratch7 cc0_scratch8 c v2 v4 v7 v1756) Q) := by
  rw [k0_part63_eq_skeleton]; unfold k0_part63_skel
  simp only [semSignalWord, semWaitWord, Prog.lift, Prog.bind_op, Prog.bind_ret, Prog.pure_eq_ret, Prog.bind_assoc, wp_deviceId]
  iintro ⟨HO, H0, H1⟩ Hk
  iapply (ring_get m ρ K c 1 0 13 rfl rfl 87 (by decide) (sem7 13 0) (credit_q _)) $$ [HO H0]
  · isplitl [HO]; · iexact HO
    iexact H0
  iintro ⟨HO, H0⟩
  iapply (ring_next m ρ K c 1 0 14 13 rfl 87 rfl rfl rfl rfl (dev_left c (k0_dev88_eq c)) (qV_of (org 1 c (14 : Fin 15).val) (tq 1 0) (off_left c 14 0)) (qV_of (org 1 c (14 : Fin 15).val) (tq 1 0) (off_left c 14 0)) (sem6 14 0) (sem7 14 0)) $$ [HO H0]
  · isplitl [HO]; · iexact HO
    iexact H0
  iintro ⟨HO, H0⟩
  iapply (ring_get m ρ K c 0 1 13 rfl rfl 88 (by decide) (sem5 13 1) (credit_q _)) $$ [HO H1]
  · isplitl [HO]; · iexact HO
    iexact H1
  iintro ⟨HO, H1⟩
  rw [wp_ret]; imodintro
  iapply Hk
  isplitl [HO]; · iexact HO
  isplitl [H0]; · iexact H0
  iexact H1

theorem part64 (c : Dev nD) (v2 : BitVec 32) (v4 : BitVec 32) (v7 : BitVec 32) {Q : _ → sProp 𝕄} :
    iprop(OW m ρ K c 88 ∗ Str m ρ 0 1 c 14 14 ∗ Str m ρ 1 1 c 14 13)
      ⊢ iprop(((OW m ρ K c 90 ∗ Str m ρ 0 1 c 15 14 ∗ Str m ρ 1 1 c 15 14) -∗ Q ⟨⟩)
        -∗ wp frame (wpE (defs₀ (F := F)) 𝒱₀ (c : Thread nD τ) none) Set.univ
          (k0_part64 (F := F) (Memref.whole cc0_stg0_0) (Memref.isWhole_whole _) (Memref.whole cc0_stg1_0) (Memref.isWhole_whole _) (Memref.whole main_v1) (Memref.isWhole_whole _)
          (Memref.whole cc0_scratch0) (Memref.isWhole_whole _) (Memref.whole cc0_scratch1) (Memref.isWhole_whole _)
          cc0_scratch2 cc0_scratch3 cc0_scratch4 cc0_scratch5 cc0_scratch6 cc0_scratch7 cc0_scratch8 c v2 v4 v7) Q) := by
  rw [k0_part64_eq_skeleton]; unfold k0_part64_skel
  simp only [semSignalWord, semWaitWord, Prog.lift, Prog.bind_op, Prog.bind_ret, Prog.pure_eq_ret, Prog.bind_assoc, wp_deviceId]
  iintro ⟨HO, H0, H1⟩ Hk
  iapply (ring_next m ρ K c 0 1 14 13 rfl 88 rfl rfl rfl rfl (dev_right c (k0_dev89_eq c)) (qV_of (org 0 c (14 : Fin 15).val) (tq 0 1) (off_right c 14 1)) (qV_of (org 0 c (14 : Fin 15).val) (tq 0 1) (off_right c 14 1)) (sem4 14 1) (sem5 14 1)) $$ [HO H0]
  · isplitl [HO]; · iexact HO
    iexact H0
  iintro ⟨HO, H0⟩
  iapply (ring_get m ρ K c 1 1 13 rfl rfl 89 (by decide) (sem7 13 1) (credit_q _)) $$ [HO H1]
  · isplitl [HO]; · iexact HO
    iexact H1
  iintro ⟨HO, H1⟩
  iapply (ring_next m ρ K c 1 1 14 13 rfl 89 rfl rfl rfl rfl (dev_left c (k0_dev90_eq c)) (qV_of (org 1 c (14 : Fin 15).val) (tq 1 1) (off_left c 14 1)) (qV_of (org 1 c (14 : Fin 15).val) (tq 1 1) (off_left c 14 1)) (sem6 14 1) (sem7 14 1)) $$ [HO H1]
  · isplitl [HO]; · iexact HO
    iexact H1
  iintro ⟨HO, H1⟩
  rw [wp_ret]; imodintro
  iapply Hk
  isplitl [HO]; · iexact HO
  isplitl [H0]; · iexact H0
  iexact H1

theorem part65 (c : Dev nD) (v4 : BitVec 32) (v7 : BitVec 32) {Q : _ → sProp 𝕄} :
    iprop(OW m ρ K c 90 ∗ Str m ρ 0 0 c 15 14 ∗ Str m ρ 1 0 c 15 14 ∗ Str m ρ 0 1 c 15 14 ∗ Str m ρ 1 1 c 15 14)
      ⊢ iprop(((OW m ρ K c 90 ∗ Str m ρ 0 0 c 15 15 ∗ Str m ρ 1 0 c 15 15 ∗ Str m ρ 0 1 c 15 15 ∗ Str m ρ 1 1 c 15 15) -∗ Q ⟨⟩)
        -∗ wp frame (wpE (defs₀ (F := F)) 𝒱₀ (c : Thread nD τ) none) Set.univ
          (k0_part65 (F := F) (Memref.whole cc0_stg0_0) (Memref.isWhole_whole _) (Memref.whole cc0_stg1_0) (Memref.isWhole_whole _) (Memref.whole main_v1) (Memref.isWhole_whole _)
          (Memref.whole cc0_scratch0) (Memref.isWhole_whole _) (Memref.whole cc0_scratch1) (Memref.isWhole_whole _)
          cc0_scratch2 cc0_scratch3 cc0_scratch4 cc0_scratch5 cc0_scratch6 cc0_scratch7 cc0_scratch8 c v4 v7) Q) := by
  rw [k0_part65_eq_skeleton]; unfold k0_part65_skel
  simp only [semSignalWord, semWaitWord, Prog.lift, Prog.bind_op, Prog.bind_ret, Prog.pure_eq_ret, Prog.bind_assoc, wp_deviceId]
  iintro ⟨HO, H0, H1, H2, H3⟩ Hk
  iapply (ring_get m ρ K c 0 0 14 rfl rfl 90 (by decide) (sem5 14 0) (credit_q _)) $$ [HO H0]
  · isplitl [HO]; · iexact HO
    iexact H0
  iintro ⟨HO, H0⟩
  iapply (ring_get m ρ K c 1 0 14 rfl rfl 90 (by decide) (sem7 14 0) (credit_q _)) $$ [HO H1]
  · isplitl [HO]; · iexact HO
    iexact H1
  iintro ⟨HO, H1⟩
  iapply (ring_get m ρ K c 0 1 14 rfl rfl 90 (by decide) (sem5 14 1) (credit_q _)) $$ [HO H2]
  · isplitl [HO]; · iexact HO
    iexact H2
  iintro ⟨HO, H2⟩
  iapply (ring_get m ρ K c 1 1 14 rfl rfl 90 (by decide) (sem7 14 1) (credit_q _)) $$ [HO H3]
  · isplitl [HO]; · iexact HO
    iexact H3
  iintro ⟨HO, H3⟩
  rw [wp_ret]; imodintro
  iapply Hk
  isplitl [HO]; · iexact HO
  isplitl [H0]; · iexact H0
  isplitl [H1]; · iexact H1
  isplitl [H2]; · iexact H2
  iexact H3

end Cert.SoftmaxIdeal
-- ==== Proof.RunDIdeal.lean ====
/-
  The stretches of the body that await the ring's departures.
-/
module
public import proofs.«01_k».proof.Proof.CodeIdeal
@[expose] public section
set_option maxHeartbeats 1000000
set_option maxRecDepth 4000
noncomputable section
namespace Cert.SoftmaxIdeal
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers (shareTok shareDrop pointsTo_toks_split pointsTo_toks_join)
variable {F : FTy → Type} [FloatOps F]
local notation "𝕄" => MT nD τ sig Unit (Elt F) ℕ UU ℕ
variable (m : (ℓ : Loc nD τ sig) → Buf (Elt F) ℓ) (ρ : Dev nD → PrngReg)

variable (K : Dev nD × KIx → ℕ)

theorem part66 (c : Dev nD)  {Q : _ → sProp 𝕄} :
    iprop(OW m ρ K c 90 ∗ (rem 0 (rOut (F := F) 0 0 c) ∗ don 0 (rBack m ρ 0 0 c)))
      ⊢ iprop(((OW m ρ K c 90 ∗ (rem 5 (rOut (F := F) 0 0 c) ∗ don 5 (rBack m ρ 0 0 c))) -∗ Q ⟨⟩)
        -∗ wp frame (wpE (defs₀ (F := F)) 𝒱₀ (c : Thread nD τ) none) Set.univ
          (k0_part66 (F := F) (Memref.whole cc0_stg0_0) (Memref.isWhole_whole _) (Memref.whole cc0_stg1_0) (Memref.isWhole_whole _) (Memref.whole main_v1) (Memref.isWhole_whole _)
          (Memref.whole cc0_scratch0) (Memref.isWhole_whole _) (Memref.whole cc0_scratch1) (Memref.isWhole_whole _)
          cc0_scratch2 cc0_scratch3 cc0_scratch4 cc0_scratch5 cc0_scratch6 cc0_scratch7 cc0_scratch8 c) Q) := by
  rw [k0_part66_eq_skeleton]; unfold k0_part66_skel
  simp only [semSignalWord, semWaitWord, Prog.lift, Prog.bind_op, Prog.bind_ret, Prog.pure_eq_ret, Prog.bind_assoc, wp_deviceId]
  iintro ⟨HO, H0⟩ Hk
  iapply (ring_out m ρ K c 0 0 0 rfl rfl (sem4 0 0) (credit_q _)) $$ [HO H0]
  · isplitl [HO]; · iexact HO
    iexact H0
  iintro ⟨HO, H0⟩
  iapply (ring_out m ρ K c 0 0 1 rfl rfl (sem4 1 0) (credit_q _)) $$ [HO H0]
  · isplitl [HO]; · iexact HO
    iexact H0
  iintro ⟨HO, H0⟩
  iapply (ring_out m ρ K c 0 0 2 rfl rfl (sem4 2 0) (credit_q _)) $$ [HO H0]
  · isplitl [HO]; · iexact HO
    iexact H0
  iintro ⟨HO, H0⟩
  iapply (ring_out m ρ K c 0 0 3 rfl rfl (sem4 3 0) (credit_q _)) $$ [HO H0]
  · isplitl [HO]; · iexact HO
    iexact H0
  iintro ⟨HO, H0⟩
  iapply (ring_out m ρ K c 0 0 4 rfl rfl (sem4 4 0) (credit_q _)) $$ [HO H0]
  · isplitl [HO]; · iexact HO
    iexact H0
  iintro ⟨HO, H0⟩
  rw [wp_ret]; imodintro
  iapply Hk
  isplitl [HO]; · iexact HO
  iexact H0

theorem part67 (c : Dev nD)  {Q : _ → sProp 𝕄} :
    iprop(OW m ρ K c 90 ∗ (rem 5 (rOut (F := F) 0 0 c) ∗ don 5 (rBack m ρ 0 0 c)))
      ⊢ iprop(((OW m ρ K c 90 ∗ (rem 10 (rOut (F := F) 0 0 c) ∗ don 10 (rBack m ρ 0 0 c))) -∗ Q ⟨⟩)
        -∗ wp frame (wpE (defs₀ (F := F)) 𝒱₀ (c : Thread nD τ) none) Set.univ
          (k0_part67 (F := F) (Memref.whole cc0_stg0_0) (Memref.isWhole_whole _) (Memref.whole cc0_stg1_0) (Memref.isWhole_whole _) (Memref.whole main_v1) (Memref.isWhole_whole _)
          (Memref.whole cc0_scratch0) (Memref.isWhole_whole _) (Memref.whole cc0_scratch1) (Memref.isWhole_whole _)
          cc0_scratch2 cc0_scratch3 cc0_scratch4 cc0_scratch5 cc0_scratch6 cc0_scratch7 cc0_scratch8 c) Q) := by
  rw [k0_part67_eq_skeleton]; unfold k0_part67_skel
  simp only [semSignalWord, semWaitWord, Prog.lift, Prog.bind_op, Prog.bind_ret, Prog.pure_eq_ret, Prog.bind_assoc, wp_deviceId]
  iintro ⟨HO, H0⟩ Hk
  iapply (ring_out m ρ K c 0 0 5 rfl rfl (sem4 5 0) (credit_q _)) $$ [HO H0]
  · isplitl [HO]; · iexact HO
    iexact H0
  iintro ⟨HO, H0⟩
  iapply (ring_out m ρ K c 0 0 6 rfl rfl (sem4 6 0) (credit_q _)) $$ [HO H0]
  · isplitl [HO]; · iexact HO
    iexact H0
  iintro ⟨HO, H0⟩
  iapply (ring_out m ρ K c 0 0 7 rfl rfl (sem4 7 0) (credit_q _)) $$ [HO H0]
  · isplitl [HO]; · iexact HO
    iexact H0
  iintro ⟨HO, H0⟩
  iapply (ring_out m ρ K c 0 0 8 rfl rfl (sem4 8 0) (credit_q _)) $$ [HO H0]
  · isplitl [HO]; · iexact HO
    iexact H0
  iintro ⟨HO, H0⟩
  iapply (ring_out m ρ K c 0 0 9 rfl rfl (sem4 9 0) (credit_q _)) $$ [HO H0]
  · isplitl [HO]; · iexact HO
    iexact H0
  iintro ⟨HO, H0⟩
  rw [wp_ret]; imodintro
  iapply Hk
  isplitl [HO]; · iexact HO
  iexact H0

theorem part68 (c : Dev nD)  {Q : _ → sProp 𝕄} :
    iprop(OW m ρ K c 90 ∗ (rem 10 (rOut (F := F) 0 0 c) ∗ don 10 (rBack m ρ 0 0 c)))
      ⊢ iprop(((OW m ρ K c 90 ∗ (rem 15 (rOut (F := F) 0 0 c) ∗ don 15 (rBack m ρ 0 0 c))) -∗ Q ⟨⟩)
        -∗ wp frame (wpE (defs₀ (F := F)) 𝒱₀ (c : Thread nD τ) none) Set.univ
          (k0_part68 (F := F) (Memref.whole cc0_stg0_0) (Memref.isWhole_whole _) (Memref.whole cc0_stg1_0) (Memref.isWhole_whole _) (Memref.whole main_v1) (Memref.isWhole_whole _)
          (Memref.whole cc0_scratch0) (Memref.isWhole_whole _) (Memref.whole cc0_scratch1) (Memref.isWhole_whole _)
          cc0_scratch2 cc0_scratch3 cc0_scratch4 cc0_scratch5 cc0_scratch6 cc0_scratch7 cc0_scratch8 c) Q) := by
  rw [k0_part68_eq_skeleton]; unfold k0_part68_skel
  simp only [semSignalWord, semWaitWord, Prog.lift, Prog.bind_op, Prog.bind_ret, Prog.pure_eq_ret, Prog.bind_assoc, wp_deviceId]
  iintro ⟨HO, H0⟩ Hk
  iapply (ring_out m ρ K c 0 0 10 rfl rfl (sem4 10 0) (credit_q _)) $$ [HO H0]
  · isplitl [HO]; · iexact HO
    iexact H0
  iintro ⟨HO, H0⟩
  iapply (ring_out m ρ K c 0 0 11 rfl rfl (sem4 11 0) (credit_q _)) $$ [HO H0]
  · isplitl [HO]; · iexact HO
    iexact H0
  iintro ⟨HO, H0⟩
  iapply (ring_out m ρ K c 0 0 12 rfl rfl (sem4 12 0) (credit_q _)) $$ [HO H0]
  · isplitl [HO]; · iexact HO
    iexact H0
  iintro ⟨HO, H0⟩
  iapply (ring_out m ρ K c 0 0 13 rfl rfl (sem4 13 0) (credit_q _)) $$ [HO H0]
  · isplitl [HO]; · iexact HO
    iexact H0
  iintro ⟨HO, H0⟩
  iapply (ring_out m ρ K c 0 0 14 rfl rfl (sem4 14 0) (credit_q _)) $$ [HO H0]
  · isplitl [HO]; · iexact HO
    iexact H0
  iintro ⟨HO, H0⟩
  rw [wp_ret]; imodintro
  iapply Hk
  isplitl [HO]; · iexact HO
  iexact H0

theorem part69 (c : Dev nD)  {Q : _ → sProp 𝕄} :
    iprop(OW m ρ K c 90 ∗ (rem 0 (rOut (F := F) 1 0 c) ∗ don 0 (rBack m ρ 1 0 c)))
      ⊢ iprop(((OW m ρ K c 90 ∗ (rem 4 (rOut (F := F) 1 0 c) ∗ don 4 (rBack m ρ 1 0 c))) -∗ Q ⟨⟩)
        -∗ wp frame (wpE (defs₀ (F := F)) 𝒱₀ (c : Thread nD τ) none) Set.univ
          (k0_part69 (F := F) (Memref.whole cc0_stg0_0) (Memref.isWhole_whole _) (Memref.whole cc0_stg1_0) (Memref.isWhole_whole _) (Memref.whole main_v1) (Memref.isWhole_whole _)
          (Memref.whole cc0_scratch0) (Memref.isWhole_whole _) (Memref.whole cc0_scratch1) (Memref.isWhole_whole _)
          cc0_scratch2 cc0_scratch3 cc0_scratch4 cc0_scratch5 cc0_scratch6 cc0_scratch7 cc0_scratch8 c) Q) := by
  rw [k0_part69_eq_skeleton]; unfold k0_part69_skel
  simp only [semSignalWord, semWaitWord, Prog.lift, Prog.bind_op, Prog.bind_ret, Prog.pure_eq_ret, Prog.bind_assoc, wp_deviceId]
  iintro ⟨HO, H0⟩ Hk
  iapply (ring_out m ρ K c 1 0 0 rfl rfl (sem6 0 0) (credit_q _)) $$ [HO H0]
  · isplitl [HO]; · iexact HO
    iexact H0
  iintro ⟨HO, H0⟩
  iapply (ring_out m ρ K c 1 0 1 rfl rfl (sem6 1 0) (credit_q _)) $$ [HO H0]
  · isplitl [HO]; · iexact HO
    iexact H0
  iintro ⟨HO, H0⟩
  iapply (ring_out m ρ K c 1 0 2 rfl rfl (sem6 2 0) (credit_q _)) $$ [HO H0]
  · isplitl [HO]; · iexact HO
    iexact H0
  iintro ⟨HO, H0⟩
  iapply (ring_out m ρ K c 1 0 3 rfl rfl (sem6 3 0) (credit_q _)) $$ [HO H0]
  · isplitl [HO]; · iexact HO
    iexact H0
  iintro ⟨HO, H0⟩
  rw [wp_ret]; imodintro
  iapply Hk
  isplitl [HO]; · iexact HO
  iexact H0

theorem part70 (c : Dev nD)  {Q : _ → sProp 𝕄} :
    iprop(OW m ρ K c 90 ∗ (rem 4 (rOut (F := F) 1 0 c) ∗ don 4 (rBack m ρ 1 0 c)))
      ⊢ iprop(((OW m ρ K c 90 ∗ (rem 9 (rOut (F := F) 1 0 c) ∗ don 9 (rBack m ρ 1 0 c))) -∗ Q ⟨⟩)
        -∗ wp frame (wpE (defs₀ (F := F)) 𝒱₀ (c : Thread nD τ) none) Set.univ
          (k0_part70 (F := F) (Memref.whole cc0_stg0_0) (Memref.isWhole_whole _) (Memref.whole cc0_stg1_0) (Memref.isWhole_whole _) (Memref.whole main_v1) (Memref.isWhole_whole _)
          (Memref.whole cc0_scratch0) (Memref.isWhole_whole _) (Memref.whole cc0_scratch1) (Memref.isWhole_whole _)
          cc0_scratch2 cc0_scratch3 cc0_scratch4 cc0_scratch5 cc0_scratch6 cc0_scratch7 cc0_scratch8 c) Q) := by
  rw [k0_part70_eq_skeleton]; unfold k0_part70_skel
  simp only [semSignalWord, semWaitWord, Prog.lift, Prog.bind_op, Prog.bind_ret, Prog.pure_eq_ret, Prog.bind_assoc, wp_deviceId]
  iintro ⟨HO, H0⟩ Hk
  iapply (ring_out m ρ K c 1 0 4 rfl rfl (sem6 4 0) (credit_q _)) $$ [HO H0]
  · isplitl [HO]; · iexact HO
    iexact H0
  iintro ⟨HO, H0⟩
  iapply (ring_out m ρ K c 1 0 5 rfl rfl (sem6 5 0) (credit_q _)) $$ [HO H0]
  · isplitl [HO]; · iexact HO
    iexact H0
  iintro ⟨HO, H0⟩
  iapply (ring_out m ρ K c 1 0 6 rfl rfl (sem6 6 0) (credit_q _)) $$ [HO H0]
  · isplitl [HO]; · iexact HO
    iexact H0
  iintro ⟨HO, H0⟩
  iapply (ring_out m ρ K c 1 0 7 rfl rfl (sem6 7 0) (credit_q _)) $$ [HO H0]
  · isplitl [HO]; · iexact HO
    iexact H0
  iintro ⟨HO, H0⟩
  iapply (ring_out m ρ K c 1 0 8 rfl rfl (sem6 8 0) (credit_q _)) $$ [HO H0]
  · isplitl [HO]; · iexact HO
    iexact H0
  iintro ⟨HO, H0⟩
  rw [wp_ret]; imodintro
  iapply Hk
  isplitl [HO]; · iexact HO
  iexact H0

theorem part71 (c : Dev nD)  {Q : _ → sProp 𝕄} :
    iprop(OW m ρ K c 90 ∗ (rem 9 (rOut (F := F) 1 0 c) ∗ don 9 (rBack m ρ 1 0 c)))
      ⊢ iprop(((OW m ρ K c 90 ∗ (rem 14 (rOut (F := F) 1 0 c) ∗ don 14 (rBack m ρ 1 0 c))) -∗ Q ⟨⟩)
        -∗ wp frame (wpE (defs₀ (F := F)) 𝒱₀ (c : Thread nD τ) none) Set.univ
          (k0_part71 (F := F) (Memref.whole cc0_stg0_0) (Memref.isWhole_whole _) (Memref.whole cc0_stg1_0) (Memref.isWhole_whole _) (Memref.whole main_v1) (Memref.isWhole_whole _)
          (Memref.whole cc0_scratch0) (Memref.isWhole_whole _) (Memref.whole cc0_scratch1) (Memref.isWhole_whole _)
          cc0_scratch2 cc0_scratch3 cc0_scratch4 cc0_scratch5 cc0_scratch6 cc0_scratch7 cc0_scratch8 c) Q) := by
  rw [k0_part71_eq_skeleton]; unfold k0_part71_skel
  simp only [semSignalWord, semWaitWord, Prog.lift, Prog.bind_op, Prog.bind_ret, Prog.pure_eq_ret, Prog.bind_assoc, wp_deviceId]
  iintro ⟨HO, H0⟩ Hk
  iapply (ring_out m ρ K c 1 0 9 rfl rfl (sem6 9 0) (credit_q _)) $$ [HO H0]
  · isplitl [HO]; · iexact HO
    iexact H0
  iintro ⟨HO, H0⟩
  iapply (ring_out m ρ K c 1 0 10 rfl rfl (sem6 10 0) (credit_q _)) $$ [HO H0]
  · isplitl [HO]; · iexact HO
    iexact H0
  iintro ⟨HO, H0⟩
  iapply (ring_out m ρ K c 1 0 11 rfl rfl (sem6 11 0) (credit_q _)) $$ [HO H0]
  · isplitl [HO]; · iexact HO
    iexact H0
  iintro ⟨HO, H0⟩
  iapply (ring_out m ρ K c 1 0 12 rfl rfl (sem6 12 0) (credit_q _)) $$ [HO H0]
  · isplitl [HO]; · iexact HO
    iexact H0
  iintro ⟨HO, H0⟩
  iapply (ring_out m ρ K c 1 0 13 rfl rfl (sem6 13 0) (credit_q _)) $$ [HO H0]
  · isplitl [HO]; · iexact HO
    iexact H0
  iintro ⟨HO, H0⟩
  rw [wp_ret]; imodintro
  iapply Hk
  isplitl [HO]; · iexact HO
  iexact H0

theorem part72 (c : Dev nD)  {Q : _ → sProp 𝕄} :
    iprop(OW m ρ K c 90 ∗ (rem 14 (rOut (F := F) 1 0 c) ∗ don 14 (rBack m ρ 1 0 c)) ∗ (rem 0 (rOut (F := F) 0 1 c) ∗ don 0 (rBack m ρ 0 1 c)))
      ⊢ iprop(((OW m ρ K c 90 ∗ (rem 15 (rOut (F := F) 1 0 c) ∗ don 15 (rBack m ρ 1 0 c)) ∗ (rem 4 (rOut (F := F) 0 1 c) ∗ don 4 (rBack m ρ 0 1 c))) -∗ Q ⟨⟩)
        -∗ wp frame (wpE (defs₀ (F := F)) 𝒱₀ (c : Thread nD τ) none) Set.univ
          (k0_part72 (F := F) (Memref.whole cc0_stg0_0) (Memref.isWhole_whole _) (Memref.whole cc0_stg1_0) (Memref.isWhole_whole _) (Memref.whole main_v1) (Memref.isWhole_whole _)
          (Memref.whole cc0_scratch0) (Memref.isWhole_whole _) (Memref.whole cc0_scratch1) (Memref.isWhole_whole _)
          cc0_scratch2 cc0_scratch3 cc0_scratch4 cc0_scratch5 cc0_scratch6 cc0_scratch7 cc0_scratch8 c) Q) := by
  rw [k0_part72_eq_skeleton]; unfold k0_part72_skel
  simp only [semSignalWord, semWaitWord, Prog.lift, Prog.bind_op, Prog.bind_ret, Prog.pure_eq_ret, Prog.bind_assoc, wp_deviceId]
  iintro ⟨HO, H0, H1⟩ Hk
  iapply (ring_out m ρ K c 1 0 14 rfl rfl (sem6 14 0) (credit_q _)) $$ [HO H0]
  · isplitl [HO]; · iexact HO
    iexact H0
  iintro ⟨HO, H0⟩
  iapply (ring_out m ρ K c 0 1 0 rfl rfl (sem4 0 1) (credit_q _)) $$ [HO H1]
  · isplitl [HO]; · iexact HO
    iexact H1
  iintro ⟨HO, H1⟩
  iapply (ring_out m ρ K c 0 1 1 rfl rfl (sem4 1 1) (credit_q _)) $$ [HO H1]
  · isplitl [HO]; · iexact HO
    iexact H1
  iintro ⟨HO, H1⟩
  iapply (ring_out m ρ K c 0 1 2 rfl rfl (sem4 2 1) (credit_q _)) $$ [HO H1]
  · isplitl [HO]; · iexact HO
    iexact H1
  iintro ⟨HO, H1⟩
  iapply (ring_out m ρ K c 0 1 3 rfl rfl (sem4 3 1) (credit_q _)) $$ [HO H1]
  · isplitl [HO]; · iexact HO
    iexact H1
  iintro ⟨HO, H1⟩
  rw [wp_ret]; imodintro
  iapply Hk
  isplitl [HO]; · iexact HO
  isplitl [H0]; · iexact H0
  iexact H1

theorem part73 (c : Dev nD)  {Q : _ → sProp 𝕄} :
    iprop(OW m ρ K c 90 ∗ (rem 4 (rOut (F := F) 0 1 c) ∗ don 4 (rBack m ρ 0 1 c)))
      ⊢ iprop(((OW m ρ K c 90 ∗ (rem 9 (rOut (F := F) 0 1 c) ∗ don 9 (rBack m ρ 0 1 c))) -∗ Q ⟨⟩)
        -∗ wp frame (wpE (defs₀ (F := F)) 𝒱₀ (c : Thread nD τ) none) Set.univ
          (k0_part73 (F := F) (Memref.whole cc0_stg0_0) (Memref.isWhole_whole _) (Memref.whole cc0_stg1_0) (Memref.isWhole_whole _) (Memref.whole main_v1) (Memref.isWhole_whole _)
          (Memref.whole cc0_scratch0) (Memref.isWhole_whole _) (Memref.whole cc0_scratch1) (Memref.isWhole_whole _)
          cc0_scratch2 cc0_scratch3 cc0_scratch4 cc0_scratch5 cc0_scratch6 cc0_scratch7 cc0_scratch8 c) Q) := by
  rw [k0_part73_eq_skeleton]; unfold k0_part73_skel
  simp only [semSignalWord, semWaitWord, Prog.lift, Prog.bind_op, Prog.bind_ret, Prog.pure_eq_ret, Prog.bind_assoc, wp_deviceId]
  iintro ⟨HO, H0⟩ Hk
  iapply (ring_out m ρ K c 0 1 4 rfl rfl (sem4 4 1) (credit_q _)) $$ [HO H0]
  · isplitl [HO]; · iexact HO
    iexact H0
  iintro ⟨HO, H0⟩
  iapply (ring_out m ρ K c 0 1 5 rfl rfl (sem4 5 1) (credit_q _)) $$ [HO H0]
  · isplitl [HO]; · iexact HO
    iexact H0
  iintro ⟨HO, H0⟩
  iapply (ring_out m ρ K c 0 1 6 rfl rfl (sem4 6 1) (credit_q _)) $$ [HO H0]
  · isplitl [HO]; · iexact HO
    iexact H0
  iintro ⟨HO, H0⟩
  iapply (ring_out m ρ K c 0 1 7 rfl rfl (sem4 7 1) (credit_q _)) $$ [HO H0]
  · isplitl [HO]; · iexact HO
    iexact H0
  iintro ⟨HO, H0⟩
  iapply (ring_out m ρ K c 0 1 8 rfl rfl (sem4 8 1) (credit_q _)) $$ [HO H0]
  · isplitl [HO]; · iexact HO
    iexact H0
  iintro ⟨HO, H0⟩
  rw [wp_ret]; imodintro
  iapply Hk
  isplitl [HO]; · iexact HO
  iexact H0

theorem part74 (c : Dev nD)  {Q : _ → sProp 𝕄} :
    iprop(OW m ρ K c 90 ∗ (rem 9 (rOut (F := F) 0 1 c) ∗ don 9 (rBack m ρ 0 1 c)))
      ⊢ iprop(((OW m ρ K c 90 ∗ (rem 14 (rOut (F := F) 0 1 c) ∗ don 14 (rBack m ρ 0 1 c))) -∗ Q ⟨⟩)
        -∗ wp frame (wpE (defs₀ (F := F)) 𝒱₀ (c : Thread nD τ) none) Set.univ
          (k0_part74 (F := F) (Memref.whole cc0_stg0_0) (Memref.isWhole_whole _) (Memref.whole cc0_stg1_0) (Memref.isWhole_whole _) (Memref.whole main_v1) (Memref.isWhole_whole _)
          (Memref.whole cc0_scratch0) (Memref.isWhole_whole _) (Memref.whole cc0_scratch1) (Memref.isWhole_whole _)
          cc0_scratch2 cc0_scratch3 cc0_scratch4 cc0_scratch5 cc0_scratch6 cc0_scratch7 cc0_scratch8 c) Q) := by
  rw [k0_part74_eq_skeleton]; unfold k0_part74_skel
  simp only [semSignalWord, semWaitWord, Prog.lift, Prog.bind_op, Prog.bind_ret, Prog.pure_eq_ret, Prog.bind_assoc, wp_deviceId]
  iintro ⟨HO, H0⟩ Hk
  iapply (ring_out m ρ K c 0 1 9 rfl rfl (sem4 9 1) (credit_q _)) $$ [HO H0]
  · isplitl [HO]; · iexact HO
    iexact H0
  iintro ⟨HO, H0⟩
  iapply (ring_out m ρ K c 0 1 10 rfl rfl (sem4 10 1) (credit_q _)) $$ [HO H0]
  · isplitl [HO]; · iexact HO
    iexact H0
  iintro ⟨HO, H0⟩
  iapply (ring_out m ρ K c 0 1 11 rfl rfl (sem4 11 1) (credit_q _)) $$ [HO H0]
  · isplitl [HO]; · iexact HO
    iexact H0
  iintro ⟨HO, H0⟩
  iapply (ring_out m ρ K c 0 1 12 rfl rfl (sem4 12 1) (credit_q _)) $$ [HO H0]
  · isplitl [HO]; · iexact HO
    iexact H0
  iintro ⟨HO, H0⟩
  iapply (ring_out m ρ K c 0 1 13 rfl rfl (sem4 13 1) (credit_q _)) $$ [HO H0]
  · isplitl [HO]; · iexact HO
    iexact H0
  iintro ⟨HO, H0⟩
  rw [wp_ret]; imodintro
  iapply Hk
  isplitl [HO]; · iexact HO
  iexact H0

theorem part75 (c : Dev nD)  {Q : _ → sProp 𝕄} :
    iprop(OW m ρ K c 90 ∗ (rem 14 (rOut (F := F) 0 1 c) ∗ don 14 (rBack m ρ 0 1 c)) ∗ (rem 0 (rOut (F := F) 1 1 c) ∗ don 0 (rBack m ρ 1 1 c)))
      ⊢ iprop(((OW m ρ K c 90 ∗ (rem 15 (rOut (F := F) 0 1 c) ∗ don 15 (rBack m ρ 0 1 c)) ∗ (rem 4 (rOut (F := F) 1 1 c) ∗ don 4 (rBack m ρ 1 1 c))) -∗ Q ⟨⟩)
        -∗ wp frame (wpE (defs₀ (F := F)) 𝒱₀ (c : Thread nD τ) none) Set.univ
          (k0_part75 (F := F) (Memref.whole cc0_stg0_0) (Memref.isWhole_whole _) (Memref.whole cc0_stg1_0) (Memref.isWhole_whole _) (Memref.whole main_v1) (Memref.isWhole_whole _)
          (Memref.whole cc0_scratch0) (Memref.isWhole_whole _) (Memref.whole cc0_scratch1) (Memref.isWhole_whole _)
          cc0_scratch2 cc0_scratch3 cc0_scratch4 cc0_scratch5 cc0_scratch6 cc0_scratch7 cc0_scratch8 c) Q) := by
  rw [k0_part75_eq_skeleton]; unfold k0_part75_skel
  simp only [semSignalWord, semWaitWord, Prog.lift, Prog.bind_op, Prog.bind_ret, Prog.pure_eq_ret, Prog.bind_assoc, wp_deviceId]
  iintro ⟨HO, H0, H1⟩ Hk
  iapply (ring_out m ρ K c 0 1 14 rfl rfl (sem4 14 1) (credit_q _)) $$ [HO H0]
  · isplitl [HO]; · iexact HO
    iexact H0
  iintro ⟨HO, H0⟩
  iapply (ring_out m ρ K c 1 1 0 rfl rfl (sem6 0 1) (credit_q _)) $$ [HO H1]
  · isplitl [HO]; · iexact HO
    iexact H1
  iintro ⟨HO, H1⟩
  iapply (ring_out m ρ K c 1 1 1 rfl rfl (sem6 1 1) (credit_q _)) $$ [HO H1]
  · isplitl [HO]; · iexact HO
    iexact H1
  iintro ⟨HO, H1⟩
  iapply (ring_out m ρ K c 1 1 2 rfl rfl (sem6 2 1) (credit_q _)) $$ [HO H1]
  · isplitl [HO]; · iexact HO
    iexact H1
  iintro ⟨HO, H1⟩
  iapply (ring_out m ρ K c 1 1 3 rfl rfl (sem6 3 1) (credit_q _)) $$ [HO H1]
  · isplitl [HO]; · iexact HO
    iexact H1
  iintro ⟨HO, H1⟩
  rw [wp_ret]; imodintro
  iapply Hk
  isplitl [HO]; · iexact HO
  isplitl [H0]; · iexact H0
  iexact H1

theorem part76 (c : Dev nD)  {Q : _ → sProp 𝕄} :
    iprop(OW m ρ K c 90 ∗ (rem 4 (rOut (F := F) 1 1 c) ∗ don 4 (rBack m ρ 1 1 c)))
      ⊢ iprop(((OW m ρ K c 90 ∗ (rem 9 (rOut (F := F) 1 1 c) ∗ don 9 (rBack m ρ 1 1 c))) -∗ Q ⟨⟩)
        -∗ wp frame (wpE (defs₀ (F := F)) 𝒱₀ (c : Thread nD τ) none) Set.univ
          (k0_part76 (F := F) (Memref.whole cc0_stg0_0) (Memref.isWhole_whole _) (Memref.whole cc0_stg1_0) (Memref.isWhole_whole _) (Memref.whole main_v1) (Memref.isWhole_whole _)
          (Memref.whole cc0_scratch0) (Memref.isWhole_whole _) (Memref.whole cc0_scratch1) (Memref.isWhole_whole _)
          cc0_scratch2 cc0_scratch3 cc0_scratch4 cc0_scratch5 cc0_scratch6 cc0_scratch7 cc0_scratch8 c) Q) := by
  rw [k0_part76_eq_skeleton]; unfold k0_part76_skel
  simp only [semSignalWord, semWaitWord, Prog.lift, Prog.bind_op, Prog.bind_ret, Prog.pure_eq_ret, Prog.bind_assoc, wp_deviceId]
  iintro ⟨HO, H0⟩ Hk
  iapply (ring_out m ρ K c 1 1 4 rfl rfl (sem6 4 1) (credit_q _)) $$ [HO H0]
  · isplitl [HO]; · iexact HO
    iexact H0
  iintro ⟨HO, H0⟩
  iapply (ring_out m ρ K c 1 1 5 rfl rfl (sem6 5 1) (credit_q _)) $$ [HO H0]
  · isplitl [HO]; · iexact HO
    iexact H0
  iintro ⟨HO, H0⟩
  iapply (ring_out m ρ K c 1 1 6 rfl rfl (sem6 6 1) (credit_q _)) $$ [HO H0]
  · isplitl [HO]; · iexact HO
    iexact H0
  iintro ⟨HO, H0⟩
  iapply (ring_out m ρ K c 1 1 7 rfl rfl (sem6 7 1) (credit_q _)) $$ [HO H0]
  · isplitl [HO]; · iexact HO
    iexact H0
  iintro ⟨HO, H0⟩
  iapply (ring_out m ρ K c 1 1 8 rfl rfl (sem6 8 1) (credit_q _)) $$ [HO H0]
  · isplitl [HO]; · iexact HO
    iexact H0
  iintro ⟨HO, H0⟩
  rw [wp_ret]; imodintro
  iapply Hk
  isplitl [HO]; · iexact HO
  iexact H0

theorem part77 (c : Dev nD)  {Q : _ → sProp 𝕄} :
    iprop(OW m ρ K c 90 ∗ (rem 9 (rOut (F := F) 1 1 c) ∗ don 9 (rBack m ρ 1 1 c)))
      ⊢ iprop(((OW m ρ K c 90 ∗ (rem 14 (rOut (F := F) 1 1 c) ∗ don 14 (rBack m ρ 1 1 c))) -∗ Q ⟨⟩)
        -∗ wp frame (wpE (defs₀ (F := F)) 𝒱₀ (c : Thread nD τ) none) Set.univ
          (k0_part77 (F := F) (Memref.whole cc0_stg0_0) (Memref.isWhole_whole _) (Memref.whole cc0_stg1_0) (Memref.isWhole_whole _) (Memref.whole main_v1) (Memref.isWhole_whole _)
          (Memref.whole cc0_scratch0) (Memref.isWhole_whole _) (Memref.whole cc0_scratch1) (Memref.isWhole_whole _)
          cc0_scratch2 cc0_scratch3 cc0_scratch4 cc0_scratch5 cc0_scratch6 cc0_scratch7 cc0_scratch8 c) Q) := by
  rw [k0_part77_eq_skeleton]; unfold k0_part77_skel
  simp only [semSignalWord, semWaitWord, Prog.lift, Prog.bind_op, Prog.bind_ret, Prog.pure_eq_ret, Prog.bind_assoc, wp_deviceId]
  iintro ⟨HO, H0⟩ Hk
  iapply (ring_out m ρ K c 1 1 9 rfl rfl (sem6 9 1) (credit_q _)) $$ [HO H0]
  · isplitl [HO]; · iexact HO
    iexact H0
  iintro ⟨HO, H0⟩
  iapply (ring_out m ρ K c 1 1 10 rfl rfl (sem6 10 1) (credit_q _)) $$ [HO H0]
  · isplitl [HO]; · iexact HO
    iexact H0
  iintro ⟨HO, H0⟩
  iapply (ring_out m ρ K c 1 1 11 rfl rfl (sem6 11 1) (credit_q _)) $$ [HO H0]
  · isplitl [HO]; · iexact HO
    iexact H0
  iintro ⟨HO, H0⟩
  iapply (ring_out m ρ K c 1 1 12 rfl rfl (sem6 12 1) (credit_q _)) $$ [HO H0]
  · isplitl [HO]; · iexact HO
    iexact H0
  iintro ⟨HO, H0⟩
  iapply (ring_out m ρ K c 1 1 13 rfl rfl (sem6 13 1) (credit_q _)) $$ [HO H0]
  · isplitl [HO]; · iexact HO
    iexact H0
  iintro ⟨HO, H0⟩
  rw [wp_ret]; imodintro
  iapply Hk
  isplitl [HO]; · iexact HO
  iexact H0

end Cert.SoftmaxIdeal
-- ==== Proof.JoinIdeal.lean ====
/-
  The arrays taken apart into the parts the transfers move, and put together again.
-/
module
public import proofs.«01_k».proof.Proof.CodeIdeal
@[expose] public section
set_option maxRecDepth 4000
set_option maxHeartbeats 1000000
noncomputable section
namespace Cert.SoftmaxIdeal
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers (shareTok shareDrop pointsTo_toks_split pointsTo_toks_join)
variable {F : FTy → Type} [FloatOps F]
local notation "𝕄" => MT nD τ sig Unit (Elt F) ℕ UU ℕ
variable (m : (ℓ : Loc nD τ sig) → Buf (Elt F) ℓ) (ρ : Dev nD → PrngReg)

variable (K : Dev nD × KIx → ℕ)

/-! ## The table of statistics, by rows -/

omit [FloatOps F] in
theorem whole_rows (c : Dev nD) (f : S16x256x128.Idx → F .f32) :
    ((c : Thread nD τ).loc cc0_scratch1 ↦{fullShare} f : sProp 𝕄) = bigSep Finset.univ fun j : Fin 16 => rowPts c j fullShare f := by
  refine Eq.trans ?_ (pointsTo_biUnion (ℓ := (c : Thread nD τ).loc cc0_scratch1) Finset.univ (fun j : Fin 16 => (rowV j).view.set) ?_)
  · refine congrArg (fun I => ((c : Thread nD τ).loc cc0_scratch1 ↦[I]{fullShare} f : sProp 𝕄)) ?_
    refine (Finset.eq_univ_iff_forall.mpr fun i => Finset.mem_biUnion.mpr ⟨i 0, Finset.mem_univ _, mem_row.mpr rfl⟩).symm
  · intro j _ j' _ h
    refine Finset.disjoint_left.mpr fun i h1 h2 => h (Fin.ext ?_)
    rw [← mem_row.mp h1, ← mem_row.mp h2]

omit [FloatOps F] in
theorem frm_injective (c : Dev nD) : Function.Injective (frm c) := by revert c; decide +kernel
omit [FloatOps F] in
theorem frm_all (c : Dev nD) : (Finset.univ : Finset (Fin 16)).erase c = Finset.univ.map ⟨frm c, frm_injective c⟩ := by
  revert c; decide +kernel
omit [FloatOps F] in
theorem peer_all (c : Dev nD) : (Finset.univ : Finset (Fin 16)).erase c = Finset.univ.map ⟨peer c, peer_injective c⟩ := by
  revert c; decide +kernel

/-- A family over all devices: the device's own, and one for each device it hears from. -/
theorem split_frm (c : Dev nD) (Φ : Fin 16 → sProp 𝕄) :
    bigSep Finset.univ Φ = iprop(Φ c ∗ bigSep Finset.univ fun r : Fin 15 => Φ (frm c r)) := by
  rw [bigSep_erase (Finset.mem_univ c)]
  exact congrArg (fun X => iprop(Φ c ∗ X)) (by rw [frm_all c]; exact bigSep_map _)
/-- A family over all devices: the device's own, and one for each device it sends to. -/
theorem split_peer (c : Dev nD) (Φ : Fin 16 → sProp 𝕄) :
    bigSep Finset.univ Φ = iprop(Φ c ∗ bigSep Finset.univ fun r : Fin 15 => Φ (peer c r)) := by
  rw [bigSep_erase (Finset.mem_univ c)]
  exact congrArg (fun X => iprop(Φ c ∗ X)) (by rw [peer_all c]; exact bigSep_map _)

omit [FloatOps F] in
theorem row_toks (c : Dev nD) (f : S16x256x128.Idx → F .f32) :
    rowPts c c fullShare f ⊢ iprop(rowPts c c (shareDrop fullShare 15) f ∗ bigSep Finset.univ fun k => rowPts c c (shareTok fullShare 15 k) f) :=
  pointsTo_toks_split fullShare 15
omit [FloatOps F] in
theorem row_untoks (c : Dev nD) (f : S16x256x128.Idx → F .f32) :
    iprop(rowPts c c (shareDrop fullShare 15) f ∗ bigSep Finset.univ fun k => rowPts c c (shareTok fullShare 15 k) f) ⊢ rowPts c c fullShare f :=
  pointsTo_toks_join fullShare 15

/-- The whole table, once every row is in and every loan of the own row is back. -/
theorem table_join (c : Dev nD) :
    iprop(rowPts c c (shareDrop fullShare 15) (MS m ρ) ∗ bigSep Finset.univ (msGot m ρ c) ∗ bigSep Finset.univ (msBack m ρ c))
      ⊢ iprop(((c : Thread nD τ).loc cc0_scratch1 ↦{fullShare} MS m ρ)
        ∗ (bigSep Finset.univ fun r => atPos ER (dCell c (dMsR (frm c r))) 1 ∅ 0)
        ∗ bigSep Finset.univ fun k => atPos ER (dCell c (dMsS k)) 1 ∅ 0) := by
  unfold msGot msBack
  rw [bigSep_sep', bigSep_sep', whole_rows, split_frm c]
  iintro ⟨HD, ⟨HA, HR⟩, HB, HT⟩
  isplitl [HD HT HR]
  · isplitl [HD HT]
    · iapply (row_untoks c (MS m ρ)); isplitl [HD]; · iexact HD
      iexact HT
    · iexact HR
  isplitl [HA]; · iexact HA
  iexact HB

/-! ## The own columns, by quarters -/

omit [FloatOps F] in
theorem streams (Φ : Fin 2 × Fin 2 → sProp 𝕄) :
    bigSep Finset.univ Φ = iprop(Φ (0, 0) ∗ Φ (1, 0) ∗ Φ (0, 1) ∗ Φ (1, 1)) := by
  rw [bigSep_univ_eq_bigSepL [((0 : Fin 2), (0 : Fin 2)), (1, 0), (0, 1), (1, 1)] (by decide) (by decide) Φ]
  rfl

theorem tq_injective {x y : Fin 2 × Fin 2} (h : tq x.1 x.2 = tq y.1 y.2) : x = y := by revert x y; decide
theorem tq_all (t : Fin 4) : ∃ x : Fin 2 × Fin 2, tq x.1 x.2 = t := by revert t; decide

omit [FloatOps F] in
theorem own_quarters (c : Dev nD) (q : PosShare TreeShare) (f : S1x256x4096.Idx → F .f32) :
    ((c : Thread nD τ).loc cc0_scratch0 ↦{q} f : sProp 𝕄) = bigSep Finset.univ fun x : Fin 2 × Fin 2 => cqPts c (tq x.1 x.2) q f := by
  refine Eq.trans ?_ (pointsTo_biUnion (ℓ := (c : Thread nD τ).loc cc0_scratch0) Finset.univ (fun x : Fin 2 × Fin 2 => (cqV (tq x.1 x.2)).view.set) ?_)
  · refine congrArg (fun I => ((c : Thread nD τ).loc cc0_scratch0 ↦[I]{q} f : sProp 𝕄)) ?_
    refine (Finset.eq_univ_iff_forall.mpr fun i => Finset.mem_biUnion.mpr ?_).symm
    have hi : (i 2).val < 4096 := (i 2).isLt
    obtain ⟨x, hx⟩ := tq_all ⟨(i 2).val / 1024, by omega⟩
    exact ⟨x, Finset.mem_univ _, mem_cq.mpr (by rw [hx])⟩
  · intro x _ y _ h
    refine Finset.disjoint_left.mpr fun i h1 h2 => h (tq_injective (Fin.ext ?_))
    rw [← mem_cq.mp h1, ← mem_cq.mp h2]

omit [FloatOps F] in
theorem own_whole (c : Dev nD) (q : PosShare TreeShare) (f : S1x256x4096.Idx → F .f32) :
    cPts c q f = ((c : Thread nD τ).loc cc0_scratch0 ↦{q} f : sProp 𝕄) :=
  congrArg (fun I => ((c : Thread nD τ).loc cc0_scratch0 ↦[I]{q} f : sProp 𝕄)) cV_set

omit [FloatOps F] in
/-- Half of the own columns goes to the copy into the result, half to the four streams. -/
theorem own_split (c : Dev nD) (f : S1x256x4096.Idx → F .f32) :
    ((c : Thread nD τ).loc cc0_scratch0 ↦{fullShare} f : sProp 𝕄)
      ⊢ iprop(cPts c fullShare.left f ∗ bigSep Finset.univ fun x : Fin 2 × Fin 2 => cqPts c (tq x.1 x.2) fullShare.right f) := by
  rw [← own_quarters c fullShare.right f, own_whole]
  exact (pointsTo_share (PosShare.mem_left_op_right fullShare)).1
omit [FloatOps F] in
theorem own_join (c : Dev nD) (f : S1x256x4096.Idx → F .f32) :
    iprop(cPts c fullShare.left f ∗ bigSep Finset.univ fun x : Fin 2 × Fin 2 => cqPts c (tq x.1 x.2) fullShare.right f)
      ⊢ ((c : Thread nD τ).loc cc0_scratch0 ↦{fullShare} f : sProp 𝕄) := by
  rw [← own_quarters c fullShare.right f, own_whole]
  exact (pointsTo_share (PosShare.mem_left_op_right fullShare)).2

/-! ## The result, by the streams that bring it -/

/-- The quarter of the result a receipt of a stream fills, counted from the left. -/
def qNo (c : Dev nD) (x : Fin 2 × Fin 2 × Fin 15) : ℕ := 4 * (org x.1 c (x.2.2.val + 1)).val + (tq x.1 x.2.1).val

theorem qNo_other (c : Dev nD) (x : Fin 2 × Fin 2 × Fin 15) : qNo c x / 4 ≠ c.val := by revert c x; decide +kernel
theorem qNo_injective (c : Dev nD) (x y : Fin 2 × Fin 2 × Fin 15) : qNo c x = qNo c y → x = y := by revert c x y; decide +kernel
theorem qNo_all (c : Dev nD) (n : Fin 64) : n.val / 4 ≠ c.val → ∃ x, qNo c x = n.val := by revert c n; decide +kernel

/-- A quarter of a device's columns. -/
def qSet (j : Fin 16) (t : Fin 4) : Finset S256x65536.Idx := (qV j t).view.set
/-- The part of the result that comes in by one receipt, or by the device's own copy. -/
def outSet (c : Dev nD) : Unit ⊕ (Fin 2 × Fin 2 × Fin 15) → Finset S256x65536.Idx
  | .inl _ => (bV c).view.set
  | .inr x => qSet (org x.1 c (x.2.2.val + 1)) (tq x.1 x.2.1)

omit [FloatOps F] in
theorem out_parts (c : Dev nD) (f : S256x65536.Idx → F .f32) :
    ((c : Thread nD τ).loc main_v1 ↦{fullShare} f : sProp 𝕄)
      = iprop(bPts c c f ∗ bigSep Finset.univ fun x : Fin 2 × Fin 2 × Fin 15 => qPts c (org x.1 c (x.2.2.val + 1)) (tq x.1 x.2.1) f) := by
  have key : ((c : Thread nD τ).loc main_v1 ↦{fullShare} f : sProp 𝕄)
      = bigSep Finset.univ fun x : Unit ⊕ (Fin 2 × Fin 2 × Fin 15) => ((c : Thread nD τ).loc main_v1 ↦[outSet c x]{fullShare} f) := by
    refine Eq.trans ?_ (pointsTo_biUnion (ℓ := (c : Thread nD τ).loc main_v1) Finset.univ (outSet c) ?_)
    · refine congrArg (fun I => ((c : Thread nD τ).loc main_v1 ↦[I]{fullShare} f : sProp 𝕄)) ?_
      refine (Finset.eq_univ_iff_forall.mpr fun i => Finset.mem_biUnion.mpr ?_).symm
      have hi : (i 1).val < 65536 := (i 1).isLt
      by_cases h : (i 1).val / 4096 = c.val
      · exact ⟨.inl (), Finset.mem_univ _, mem_b.mpr h⟩
      · obtain ⟨x, hx⟩ := qNo_all c ⟨(i 1).val / 1024, by omega⟩ (by show (i 1).val / 1024 / 4 ≠ c.val; omega)
        exact ⟨.inr x, Finset.mem_univ _, mem_q.mpr hx.symm⟩
    · rintro (_ | x) _ (_ | y) _ h
      · exact absurd rfl h
      · refine Finset.disjoint_left.mpr fun i h1 h2 => qNo_other c y ?_
        have e1 := mem_b.mp h1; have e2 : (i 1).val / 1024 = qNo c y := mem_q.mp h2; omega
      · refine Finset.disjoint_left.mpr fun i h1 h2 => qNo_other c x ?_
        have e1 := mem_b.mp h2; have e2 : (i 1).val / 1024 = qNo c x := mem_q.mp h1; omega
      · refine Finset.disjoint_left.mpr fun i h1 h2 => h (congrArg _ (qNo_injective c x y ?_))
        have e1 : (i 1).val / 1024 = qNo c x := mem_q.mp h1; have e2 : (i 1).val / 1024 = qNo c y := mem_q.mp h2; omega
  rw [key, bigSep_univ_sum]
  rw [bigSep_univ_eq_bigSepL [()] (by decide) (by decide) (fun a : Unit => ((c : Thread nD τ).loc main_v1 ↦[outSet c (Sum.inl a)]{fullShare} f : sProp 𝕄))]
  rfl

/-! ## What the barrier brings -/

theorem nb_zero (c : Dev nD) : peer c 0 = nb 0 c := by revert c; decide
theorem nb_one (c : Dev nD) : peer c 14 = nb 1 c := by revert c; decide

/-- The parts of its neighbour's result a device writes in direction `d`. -/
def outRow (d : Fin 2) (c : Dev nD) : sProp 𝕄 :=
  bigSep Finset.univ fun x : Fin 2 × Fin 15 => iprop(∃ f, qPts (F := F) (nb d c) (org d c x.2.val) (tq d x.1) f)

omit [FloatOps F] in
theorem lent_row (d : Fin 2) (c : Dev nD) : outLent (F := F) d (nb d c) = outRow d c := by
  unfold outLent outRow
  exact bigSep_congr fun x _ => by rw [org_nb]

omit [FloatOps F] in
theorem bar_gather (c : Dev nD) : (bigSep Finset.univ fun k => barPay (F := F) (peer c k) c)
    ⊢ iprop((bigSep Finset.univ fun k => iprop(∃ f, rowPts (F := F) (peer c k) c fullShare f)) ∗ outRow 0 c ∗ outRow 1 c) := by
  unfold barPay
  rw [bigSep_sep', bigSep_sep']
  have h0 : (bigSep Finset.univ fun k => (if peer c k = nb 0 c then outLent (F := F) 0 (peer c k) else iprop(emp))) ⊢ outRow 0 c := by
    have e : (if peer c 0 = nb 0 c then outLent (F := F) 0 (peer c 0) else iprop(emp)) = outRow 0 c := by
      rw [if_pos (nb_zero c), nb_zero c, lent_row]
    rw [← e]
    exact bigSep_elim (Φ := fun k : Fin 15 => (if peer c k = nb 0 c then outLent (F := F) 0 (peer c k) else iprop(emp))) (Finset.mem_univ 0)
  have h1 : (bigSep Finset.univ fun k => (if peer c k = nb 1 c then outLent (F := F) 1 (peer c k) else iprop(emp))) ⊢ outRow 1 c := by
    have e : (if peer c 14 = nb 1 c then outLent (F := F) 1 (peer c 14) else iprop(emp)) = outRow 1 c := by
      rw [if_pos (nb_one c), nb_one c, lent_row]
    rw [← e]
    exact bigSep_elim (Φ := fun k : Fin 15 => (if peer c k = nb 1 c then outLent (F := F) 1 (peer c k) else iprop(emp))) (Finset.mem_univ 14)
  iintro ⟨H, H0, H1⟩
  isplitl [H]; · iexact H
  isplitl [H0]; · iapply h0; iexact H0
  iapply h1; iexact H1

end Cert.SoftmaxIdeal
-- ==== Proof.RunEIdeal.lean ====
/-
  The stretches of the body that compute: the logits and their statistics, the sums over the table, the rescaling.
-/
module
public import proofs.«01_k».proof.Proof.JoinIdeal
@[expose] public section
set_option maxHeartbeats 1000000
set_option maxRecDepth 4000
noncomputable section
namespace Cert.SoftmaxIdeal
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers (shareTok shareDrop pointsTo_toks_split pointsTo_toks_join)
variable {F : FTy → Type} [FloatOps F]
local notation "𝕄" => MT nD τ sig Unit (Elt F) ℕ UU ℕ
variable (m : (ℓ : Loc nD τ sig) → Buf (Elt F) ℓ) (ρ : Dev nD → PrngReg)

variable (K : Dev nD × KIx → ℕ)

theorem part3 (c : Dev nD) (v2 : BitVec 32) (v49 w : BitVec 32) {Q : _ → sProp 𝕄} :
    iprop(OW m ρ K c 10 ∗ rem 10 (sigRes (F := F) c) ∗ ((c : Thread nD τ).loc cc0_stg0_0 ↦{fullShare} xs m ρ c) ∗ ((c : Thread nD τ).loc cc0_stg1_0 ↦{fullShare} ws m ρ c))
      ⊢ iprop(((OW m ρ K c 15 ∗ ((c : Thread nD τ).loc cc0_stg0_0 ↦{fullShare} xs m ρ c) ∗ ((c : Thread nD τ).loc cc0_stg1_0 ↦{fullShare} ws m ρ c)) -∗ Q ⟨lg m ρ c, mx m ρ c⟩)
        -∗ wp frame (wpE (defs₀ (F := F)) 𝒱₀ (c : Thread nD τ) none) Set.univ
          (k0_part3 (F := F) (Memref.whole cc0_stg0_0) (Memref.isWhole_whole _) (Memref.whole cc0_stg1_0) (Memref.isWhole_whole _) (Memref.whole main_v1) (Memref.isWhole_whole _)
          (Memref.whole cc0_scratch0) (Memref.isWhole_whole _) (Memref.whole cc0_scratch1) (Memref.isWhole_whole _)
          cc0_scratch2 cc0_scratch3 cc0_scratch4 cc0_scratch5 cc0_scratch6 cc0_scratch7 cc0_scratch8 c v2 (SemArray.scalar (sig.barrier 0 rfl)) v49 w) Q) := by
  rw [k0_part3_eq_skeleton]; unfold k0_part3_skel
  simp only [semSignalWord, semWaitWord, Prog.lift, Prog.bind_op, Prog.bind_ret, Prog.pure_eq_ret, Prog.bind_assoc, wp_deviceId]
  iintro ⟨HO, H0, HX, HW⟩ Hk
  iapply (sig_step m ρ K c 10 rfl rfl (dev_peer c 10 (k0_dev11_eq c))) $$ [HO H0]
  · isplitl [HO]; · iexact HO
    iexact H0
  iintro ⟨HO, H0⟩
  iapply (sig_step m ρ K c 11 rfl rfl (dev_peer c 11 (k0_dev12_eq c))) $$ [HO H0]
  · isplitl [HO]; · iexact HO
    iexact H0
  iintro ⟨HO, H0⟩
  iapply (sig_step m ρ K c 12 rfl rfl (dev_peer c 12 (k0_dev13_eq c))) $$ [HO H0]
  · isplitl [HO]; · iexact HO
    iexact H0
  iintro ⟨HO, H0⟩
  iapply (sig_step m ρ K c 13 rfl rfl (dev_peer c 13 (k0_dev14_eq c))) $$ [HO H0]
  · isplitl [HO]; · iexact HO
    iexact H0
  iintro ⟨HO, H0⟩
  iapply (sig_step m ρ K c 14 rfl rfl (dev_peer c 14 (k0_dev15_eq c))) $$ [HO H0]
  · isplitl [HO]; · iexact HO
    iexact H0
  iintro ⟨HO, H0⟩
  iapply (load_x c (xs m ρ c)) $$ HX; iintro HX
  iapply (load_w c (ws m ρ c)) $$ HW; iintro HW
  rw [wp_ret]; imodintro
  unfold lg mx
  iapply Hk
  isplitl [HO]; · iexact HO
  isplitl [HX]; · iexact HX
  iexact HW

/-- What the sends of the table's row start from. -/
theorem sends_gather (c : Dev nD) :
    iprop((bigSep Finset.univ fun k => iprop(dutyTok ER (dCell (peer c k) (dMsR c)) 0 0 ∗ dutyTok ER (dCell c (dMsS k)) 0 0))
        ∗ (bigSep Finset.univ fun k => iprop(∃ f, rowPts (F := F) (peer c k) c fullShare f)) ∗ rowPts c c fullShare (MS m ρ))
      ⊢ iprop((rem 0 (msSend m ρ c) ∗ don 0 (msSent (F := F) c)) ∗ rowPts c c (shareDrop fullShare 15) (MS m ρ)) := by
  rw [rem_zero, don_zero]
  unfold msSend
  rw [bigSep_sep', bigSep_sep', bigSep_sep', bigSep_sep']
  iintro ⟨⟨H1, H2⟩, H3, H4⟩
  ihave H := (row_toks c (MS m ρ)) $$ H4
  icases H with ⟨HD, HT⟩
  isplitr [HD]
  · isplitl [H1 H2 H3 HT]
    · isplitl [H1]; · iexact H1
      isplitl [H2]; · iexact H2
      isplitl [H3]; · iexact H3
      iexact HT
    · iempintro
  · iexact HD

theorem part4 (c : Dev nD) (v2 : BitVec 32) {Q : _ → sProp 𝕄} :
    iprop(OW m ρ K c 15 ∗ (∃ f, ((c : Thread nD τ).loc cc0_scratch0 ↦{fullShare} f)) ∗ (∃ f, rowPts (F := F) c c fullShare f)
      ∗ (cred (tallyAt (barCell c) () 15) ∗ atPos ER (barCell c) 0 ∅ 0)
      ∗ bigSep Finset.univ fun k => iprop(dutyTok ER (dCell (peer c k) (dMsR c)) 0 0 ∗ dutyTok ER (dCell c (dMsS k)) 0 0))
      ⊢ iprop(((OW m ρ K c 16 ∗ (rem 1 (msSend m ρ c) ∗ don 1 (msSent (F := F) c)) ∗ ((c : Thread nD τ).loc cc0_scratch0 ↦{fullShare} ex m ρ c) ∗ rowPts c c (shareDrop fullShare 15) (MS m ρ)
      ∗ atPos ER (barCell c) 1 ∅ 0 ∗ outRow 0 c ∗ outRow 1 c) -∗ Q ⟨⟩)
        -∗ wp frame (wpE (defs₀ (F := F)) 𝒱₀ (c : Thread nD τ) none) Set.univ
          (k0_part4 (F := F) (Memref.whole cc0_stg0_0) (Memref.isWhole_whole _) (Memref.whole cc0_stg1_0) (Memref.isWhole_whole _) (Memref.whole main_v1) (Memref.isWhole_whole _)
          (Memref.whole cc0_scratch0) (Memref.isWhole_whole _) (Memref.whole cc0_scratch1) (Memref.isWhole_whole _)
          cc0_scratch2 cc0_scratch3 cc0_scratch4 cc0_scratch5 cc0_scratch6 cc0_scratch7 cc0_scratch8 c v2 (SemArray.scalar (sig.barrier 0 rfl)) (lg m ρ c) (mx m ρ c)) Q) := by
  rw [k0_part4_eq_skeleton]; unfold k0_part4_skel
  simp only [semSignalWord, semWaitWord, Prog.lift, Prog.bind_op, Prog.bind_ret, Prog.pure_eq_ret, Prog.bind_assoc, wp_deviceId]
  iintro ⟨HO, ⟨%f, HC⟩, ⟨%g, HR⟩, ⟨Hcr, Hat⟩, HT⟩ Hk
  iapply (load_c c f) $$ HC; iintro HC
  iapply (store_c c f (ex m ρ c)) $$ HC; iintro HC
  iapply (load_row c g (k0_off1_eq c)) $$ HR; iintro %v HR
  iapply (store_row m ρ c g (k0_off1_eq c)) $$ HR; iintro HR
  iapply (bar_step m ρ K c) $$ [HO Hcr Hat]
  · isplitl [HO]; · iexact HO
    isplitl [Hcr]; · iexact Hcr
    iexact Hat
  iintro ⟨HO, Hat, HB⟩
  ihave HB := (bar_gather c) $$ HB
  icases HB with ⟨HB, HL0, HL1⟩
  ihave H := (sends_gather m ρ c) $$ [HT HB HR]
  · isplitl [HT]; · iexact HT
    isplitl [HB]; · iexact HB
    iexact HR
  icases H with ⟨H0, HD⟩
  iapply (ms_step m ρ K c 0 rfl rfl rfl rfl (dev_peer c 0 (k0_dev16_eq c)) (rowV_of c (k0_off3_eq c)) (rowV_of c (k0_off3_eq c)) (sem2 0) (sem3 c (k0_off2_eq c))) $$ [HO H0]
  · isplitl [HO]; · iexact HO
    iexact H0
  iintro ⟨HO, H0⟩
  rw [wp_ret]; imodintro
  iapply Hk
  isplitl [HO]; · iexact HO
  isplitl [H0]; · iexact H0
  isplitl [HC]; · iexact HC
  isplitl [HD]; · iexact HD
  isplitl [Hat]; · iexact Hat
  isplitl [HL0]; · iexact HL0
  iexact HL1

theorem part18 (c : Dev nD)  {Q : _ → sProp 𝕄} :
    iprop(OW m ρ K c 30 ∗ (rem 11 (msOut (F := F) c) ∗ don 11 (msBack m ρ c)) ∗ don 15 (msGot m ρ c) ∗ rowPts c c (shareDrop fullShare 15) (MS m ρ))
      ⊢ iprop(((OW m ρ K c 30 ∗ ((c : Thread nD τ).loc cc0_scratch1 ↦{fullShare} MS m ρ) ∗ (bigSep Finset.univ fun r => atPos ER (dCell c (dMsR (frm c r))) 1 ∅ 0)
        ∗ (bigSep Finset.univ fun k => atPos ER (dCell c (dMsS k)) 1 ∅ 0)) -∗ Q (a532 m ρ))
        -∗ wp frame (wpE (defs₀ (F := F)) 𝒱₀ (c : Thread nD τ) none) Set.univ
          (k0_part18 (F := F) (Memref.whole cc0_stg0_0) (Memref.isWhole_whole _) (Memref.whole cc0_stg1_0) (Memref.isWhole_whole _) (Memref.whole main_v1) (Memref.isWhole_whole _)
          (Memref.whole cc0_scratch0) (Memref.isWhole_whole _) (Memref.whole cc0_scratch1) (Memref.isWhole_whole _)
          cc0_scratch2 cc0_scratch3 cc0_scratch4 cc0_scratch5 cc0_scratch6 cc0_scratch7 cc0_scratch8 c) Q) := by
  rw [k0_part18_eq_skeleton]; unfold k0_part18_skel
  simp only [semSignalWord, semWaitWord, Prog.lift, Prog.bind_op, Prog.bind_ret, Prog.pure_eq_ret, Prog.bind_assoc, wp_deviceId]
  iintro ⟨HO, H0, HG, HD⟩ Hk
  iapply (msOut_step m ρ K c 11 rfl rfl (sem2 11) (credit_ms _)) $$ [HO H0]
  · isplitl [HO]; · iexact HO
    iexact H0
  iintro ⟨HO, H0⟩
  iapply (msOut_step m ρ K c 12 rfl rfl (sem2 12) (credit_ms _)) $$ [HO H0]
  · isplitl [HO]; · iexact HO
    iexact H0
  iintro ⟨HO, H0⟩
  iapply (msOut_step m ρ K c 13 rfl rfl (sem2 13) (credit_ms _)) $$ [HO H0]
  · isplitl [HO]; · iexact HO
    iexact H0
  iintro ⟨HO, H0⟩
  iapply (msOut_step m ρ K c 14 rfl rfl (sem2 14) (credit_ms _)) $$ [HO H0]
  · isplitl [HO]; · iexact HO
    iexact H0
  iintro ⟨HO, H0⟩
  icases H0 with ⟨-, H0⟩
  ihave HG := (Entails.of_eq (don_all (msGot m ρ c))) $$ HG
  ihave H0 := (Entails.of_eq ((show don ((14 : Fin 15).val + 1) (msBack m ρ c) = don 15 (msBack m ρ c) from rfl).trans (don_all (msBack m ρ c)))) $$ H0
  ihave H := (table_join m ρ c) $$ [HG H0 HD]
  · isplitl [HD]; · iexact HD
    isplitl [HG]; · iexact HG
    iexact H0
  icases H with ⟨HT, HA, HB⟩
  iapply (load_t m ρ c ![0, 0, 0] inb_S16x256x128_S1x256x1_0_0_0) $$ HT; iintro HT
  iapply (load_t m ρ c ![1, 0, 0] inb_S16x256x128_S1x256x1_1_0_0) $$ HT; iintro HT
  iapply (load_t m ρ c ![2, 0, 0] inb_S16x256x128_S1x256x1_2_0_0) $$ HT; iintro HT
  rw [wp_ret]; imodintro
  unfold a532
  iapply Hk
  isplitl [HO]; · iexact HO
  isplitl [HT]; · iexact HT
  isplitl [HA]; · iexact HA
  iexact HB

theorem part19 (c : Dev nD)  {Q : _ → sProp 𝕄} :
    iprop(((c : Thread nD τ).loc cc0_scratch1 ↦{fullShare} MS m ρ))
      ⊢ iprop((((c : Thread nD τ).loc cc0_scratch1 ↦{fullShare} MS m ρ) -∗ Q (a562 m ρ))
        -∗ wp frame (wpE (defs₀ (F := F)) 𝒱₀ (c : Thread nD τ) none) Set.univ
          (k0_part19 (F := F) (Memref.whole cc0_stg0_0) (Memref.isWhole_whole _) (Memref.whole cc0_stg1_0) (Memref.isWhole_whole _) (Memref.whole main_v1) (Memref.isWhole_whole _)
          (Memref.whole cc0_scratch0) (Memref.isWhole_whole _) (Memref.whole cc0_scratch1) (Memref.isWhole_whole _)
          cc0_scratch2 cc0_scratch3 cc0_scratch4 cc0_scratch5 cc0_scratch6 cc0_scratch7 cc0_scratch8 (a532 m ρ)) Q) := by
  rw [k0_part19_eq_skeleton]; unfold k0_part19_skel
  simp only [semSignalWord, semWaitWord, Prog.lift, Prog.bind_op, Prog.bind_ret, Prog.pure_eq_ret, Prog.bind_assoc, wp_deviceId]
  iintro HT Hk
  iapply (load_t m ρ c ![3, 0, 0] inb_S16x256x128_S1x256x1_3_0_0) $$ HT; iintro HT
  iapply (load_t m ρ c ![4, 0, 0] inb_S16x256x128_S1x256x1_4_0_0) $$ HT; iintro HT
  iapply (load_t m ρ c ![5, 0, 0] inb_S16x256x128_S1x256x1_5_0_0) $$ HT; iintro HT
  iapply (load_t m ρ c ![6, 0, 0] inb_S16x256x128_S1x256x1_6_0_0) $$ HT; iintro HT
  iapply (load_t m ρ c ![7, 0, 0] inb_S16x256x128_S1x256x1_7_0_0) $$ HT; iintro HT
  iapply (load_t m ρ c ![8, 0, 0] inb_S16x256x128_S1x256x1_8_0_0) $$ HT; iintro HT
  iapply (load_t m ρ c ![9, 0, 0] inb_S16x256x128_S1x256x1_9_0_0) $$ HT; iintro HT
  iapply (load_t m ρ c ![10, 0, 0] inb_S16x256x128_S1x256x1_10_0_0) $$ HT; iintro HT
  iapply (load_t m ρ c ![11, 0, 0] inb_S16x256x128_S1x256x1_11_0_0) $$ HT; iintro HT
  iapply (load_t m ρ c ![12, 0, 0] inb_S16x256x128_S1x256x1_12_0_0) $$ HT; iintro HT
  rw [wp_ret]; imodintro
  unfold a562
  iapply Hk; iexact HT

theorem part20 (c : Dev nD)  {Q : _ → sProp 𝕄} :
    iprop(((c : Thread nD τ).loc cc0_scratch1 ↦{fullShare} MS m ρ))
      ⊢ iprop((((c : Thread nD τ).loc cc0_scratch1 ↦{fullShare} MS m ρ) -∗ Q ⟨a571 m ρ, a596 m ρ⟩)
        -∗ wp frame (wpE (defs₀ (F := F)) 𝒱₀ (c : Thread nD τ) none) Set.univ
          (k0_part20 (F := F) (Memref.whole cc0_stg0_0) (Memref.isWhole_whole _) (Memref.whole cc0_stg1_0) (Memref.isWhole_whole _) (Memref.whole main_v1) (Memref.isWhole_whole _)
          (Memref.whole cc0_scratch0) (Memref.isWhole_whole _) (Memref.whole cc0_scratch1) (Memref.isWhole_whole _)
          cc0_scratch2 cc0_scratch3 cc0_scratch4 cc0_scratch5 cc0_scratch6 cc0_scratch7 cc0_scratch8 (a562 m ρ)) Q) := by
  rw [k0_part20_eq_skeleton]; unfold k0_part20_skel
  simp only [semSignalWord, semWaitWord, Prog.lift, Prog.bind_op, Prog.bind_ret, Prog.pure_eq_ret, Prog.bind_assoc, wp_deviceId]
  iintro HT Hk
  iapply (load_t m ρ c ![13, 0, 0] inb_S16x256x128_S1x256x1_13_0_0) $$ HT; iintro HT
  iapply (load_t m ρ c ![14, 0, 0] inb_S16x256x128_S1x256x1_14_0_0) $$ HT; iintro HT
  iapply (load_t m ρ c ![15, 0, 0] inb_S16x256x128_S1x256x1_15_0_0) $$ HT; iintro HT
  iapply (load_t m ρ c ![0, 0, 1] inb_S16x256x128_S1x256x1_0_0_1) $$ HT; iintro HT
  iapply (load_t m ρ c ![0, 0, 0] inb_S16x256x128_S1x256x1_0_0_0) $$ HT; iintro HT
  iapply (load_t m ρ c ![1, 0, 1] inb_S16x256x128_S1x256x1_1_0_1) $$ HT; iintro HT
  iapply (load_t m ρ c ![1, 0, 0] inb_S16x256x128_S1x256x1_1_0_0) $$ HT; iintro HT
  iapply (load_t m ρ c ![2, 0, 1] inb_S16x256x128_S1x256x1_2_0_1) $$ HT; iintro HT
  iapply (load_t m ρ c ![2, 0, 0] inb_S16x256x128_S1x256x1_2_0_0) $$ HT; iintro HT
  rw [wp_ret]; imodintro
  unfold a571 a596
  iapply Hk; iexact HT

theorem part21 (c : Dev nD)  {Q : _ → sProp 𝕄} :
    iprop(((c : Thread nD τ).loc cc0_scratch1 ↦{fullShare} MS m ρ))
      ⊢ iprop((((c : Thread nD τ).loc cc0_scratch1 ↦{fullShare} MS m ρ) -∗ Q ⟨a628 m ρ, ld m ρ ![7, 0, 1] inb_S16x256x128_S1x256x1_7_0_1⟩)
        -∗ wp frame (wpE (defs₀ (F := F)) 𝒱₀ (c : Thread nD τ) none) Set.univ
          (k0_part21 (F := F) (Memref.whole cc0_stg0_0) (Memref.isWhole_whole _) (Memref.whole cc0_stg1_0) (Memref.isWhole_whole _) (Memref.whole main_v1) (Memref.isWhole_whole _)
          (Memref.whole cc0_scratch0) (Memref.isWhole_whole _) (Memref.whole cc0_scratch1) (Memref.isWhole_whole _)
          cc0_scratch2 cc0_scratch3 cc0_scratch4 cc0_scratch5 cc0_scratch6 cc0_scratch7 cc0_scratch8 (a571 m ρ) (a596 m ρ)) Q) := by
  rw [k0_part21_eq_skeleton]; unfold k0_part21_skel
  simp only [semSignalWord, semWaitWord, Prog.lift, Prog.bind_op, Prog.bind_ret, Prog.pure_eq_ret, Prog.bind_assoc, wp_deviceId]
  iintro HT Hk
  iapply (load_t m ρ c ![3, 0, 1] inb_S16x256x128_S1x256x1_3_0_1) $$ HT; iintro HT
  iapply (load_t m ρ c ![3, 0, 0] inb_S16x256x128_S1x256x1_3_0_0) $$ HT; iintro HT
  iapply (load_t m ρ c ![4, 0, 1] inb_S16x256x128_S1x256x1_4_0_1) $$ HT; iintro HT
  iapply (load_t m ρ c ![4, 0, 0] inb_S16x256x128_S1x256x1_4_0_0) $$ HT; iintro HT
  iapply (load_t m ρ c ![5, 0, 1] inb_S16x256x128_S1x256x1_5_0_1) $$ HT; iintro HT
  iapply (load_t m ρ c ![5, 0, 0] inb_S16x256x128_S1x256x1_5_0_0) $$ HT; iintro HT
  iapply (load_t m ρ c ![6, 0, 1] inb_S16x256x128_S1x256x1_6_0_1) $$ HT; iintro HT
  iapply (load_t m ρ c ![6, 0, 0] inb_S16x256x128_S1x256x1_6_0_0) $$ HT; iintro HT
  iapply (load_t m ρ c ![7, 0, 1] inb_S16x256x128_S1x256x1_7_0_1) $$ HT; iintro HT
  rw [wp_ret]; imodintro
  unfold a628
  iapply Hk; iexact HT

theorem part22 (c : Dev nD)  {Q : _ → sProp 𝕄} :
    iprop(((c : Thread nD τ).loc cc0_scratch1 ↦{fullShare} MS m ρ))
      ⊢ iprop((((c : Thread nD τ).loc cc0_scratch1 ↦{fullShare} MS m ρ) -∗ Q ⟨a660 m ρ, a662 m ρ⟩)
        -∗ wp frame (wpE (defs₀ (F := F)) 𝒱₀ (c : Thread nD τ) none) Set.univ
          (k0_part22 (F := F) (Memref.whole cc0_stg0_0) (Memref.isWhole_whole _) (Memref.whole cc0_stg1_0) (Memref.isWhole_whole _) (Memref.whole main_v1) (Memref.isWhole_whole _)
          (Memref.whole cc0_scratch0) (Memref.isWhole_whole _) (Memref.whole cc0_scratch1) (Memref.isWhole_whole _)
          cc0_scratch2 cc0_scratch3 cc0_scratch4 cc0_scratch5 cc0_scratch6 cc0_scratch7 cc0_scratch8 (a571 m ρ) (a628 m ρ) (ld m ρ ![7, 0, 1] inb_S16x256x128_S1x256x1_7_0_1)) Q) := by
  rw [k0_part22_eq_skeleton]; unfold k0_part22_skel
  simp only [semSignalWord, semWaitWord, Prog.lift, Prog.bind_op, Prog.bind_ret, Prog.pure_eq_ret, Prog.bind_assoc, wp_deviceId]
  iintro HT Hk
  iapply (load_t m ρ c ![7, 0, 0] inb_S16x256x128_S1x256x1_7_0_0) $$ HT; iintro HT
  iapply (load_t m ρ c ![8, 0, 1] inb_S16x256x128_S1x256x1_8_0_1) $$ HT; iintro HT
  iapply (load_t m ρ c ![8, 0, 0] inb_S16x256x128_S1x256x1_8_0_0) $$ HT; iintro HT
  iapply (load_t m ρ c ![9, 0, 1] inb_S16x256x128_S1x256x1_9_0_1) $$ HT; iintro HT
  iapply (load_t m ρ c ![9, 0, 0] inb_S16x256x128_S1x256x1_9_0_0) $$ HT; iintro HT
  iapply (load_t m ρ c ![10, 0, 1] inb_S16x256x128_S1x256x1_10_0_1) $$ HT; iintro HT
  iapply (load_t m ρ c ![10, 0, 0] inb_S16x256x128_S1x256x1_10_0_0) $$ HT; iintro HT
  iapply (load_t m ρ c ![11, 0, 1] inb_S16x256x128_S1x256x1_11_0_1) $$ HT; iintro HT
  rw [wp_ret]; imodintro
  unfold a660 a662
  iapply Hk; iexact HT

theorem part23 (c : Dev nD)  {Q : _ → sProp 𝕄} :
    iprop(((c : Thread nD τ).loc cc0_scratch1 ↦{fullShare} MS m ρ))
      ⊢ iprop((((c : Thread nD τ).loc cc0_scratch1 ↦{fullShare} MS m ρ) -∗ Q ⟨a692 m ρ, a694 m ρ, a698 m ρ⟩)
        -∗ wp frame (wpE (defs₀ (F := F)) 𝒱₀ (c : Thread nD τ) none) Set.univ
          (k0_part23 (F := F) (Memref.whole cc0_stg0_0) (Memref.isWhole_whole _) (Memref.whole cc0_stg1_0) (Memref.isWhole_whole _) (Memref.whole main_v1) (Memref.isWhole_whole _)
          (Memref.whole cc0_scratch0) (Memref.isWhole_whole _) (Memref.whole cc0_scratch1) (Memref.isWhole_whole _)
          cc0_scratch2 cc0_scratch3 cc0_scratch4 cc0_scratch5 cc0_scratch6 cc0_scratch7 cc0_scratch8 (a571 m ρ) (a660 m ρ) (a662 m ρ)) Q) := by
  rw [k0_part23_eq_skeleton]; unfold k0_part23_skel
  simp only [semSignalWord, semWaitWord, Prog.lift, Prog.bind_op, Prog.bind_ret, Prog.pure_eq_ret, Prog.bind_assoc, wp_deviceId]
  iintro HT Hk
  iapply (load_t m ρ c ![11, 0, 0] inb_S16x256x128_S1x256x1_11_0_0) $$ HT; iintro HT
  iapply (load_t m ρ c ![12, 0, 1] inb_S16x256x128_S1x256x1_12_0_1) $$ HT; iintro HT
  iapply (load_t m ρ c ![12, 0, 0] inb_S16x256x128_S1x256x1_12_0_0) $$ HT; iintro HT
  iapply (load_t m ρ c ![13, 0, 1] inb_S16x256x128_S1x256x1_13_0_1) $$ HT; iintro HT
  iapply (load_t m ρ c ![13, 0, 0] inb_S16x256x128_S1x256x1_13_0_0) $$ HT; iintro HT
  iapply (load_t m ρ c ![14, 0, 1] inb_S16x256x128_S1x256x1_14_0_1) $$ HT; iintro HT
  iapply (load_t m ρ c ![14, 0, 0] inb_S16x256x128_S1x256x1_14_0_0) $$ HT; iintro HT
  iapply (load_t m ρ c ![15, 0, 1] inb_S16x256x128_S1x256x1_15_0_1) $$ HT; iintro HT
  iapply (load_t m ρ c ![15, 0, 0] inb_S16x256x128_S1x256x1_15_0_0) $$ HT; iintro HT
  rw [wp_ret]; imodintro
  unfold a692 a694 a698
  iapply Hk; iexact HT

theorem part24 (c : Dev nD) (v2 v4 : BitVec 32) {Q : _ → sProp 𝕄} :
    iprop(OW m ρ K c 30 ∗ ((c : Thread nD τ).loc cc0_scratch0 ↦{fullShare} ex m ρ c) ∗ dutyTok ER (dCell c dCs) 0 0 ∗ ∃ f, bPts (F := F) c c f)
      ⊢ iprop(((OW m ρ K c 30 ∗ cred (tallyAt (dCell c dCs) () Nb) ∗ bigSep Finset.univ fun x : Fin 2 × Fin 2 => cqPts c (tq x.1 x.2) fullShare.right (cf m ρ c)) -∗ Q ⟨⟩)
        -∗ wp frame (wpE (defs₀ (F := F)) 𝒱₀ (c : Thread nD τ) none) Set.univ
          (k0_part24 (F := F) (Memref.whole cc0_stg0_0) (Memref.isWhole_whole _) (Memref.whole cc0_stg1_0) (Memref.isWhole_whole _) (Memref.whole main_v1) (Memref.isWhole_whole _)
          (Memref.whole cc0_scratch0) (Memref.isWhole_whole _) (Memref.whole cc0_scratch1) (Memref.isWhole_whole _)
          cc0_scratch2 cc0_scratch3 cc0_scratch4 cc0_scratch5 cc0_scratch6 cc0_scratch7 cc0_scratch8 c v2 v4 (mx m ρ c) (a571 m ρ) (a692 m ρ) (a694 m ρ) (a698 m ρ)) Q) := by
  rw [k0_part24_eq_skeleton]; unfold k0_part24_skel
  simp only [semSignalWord, semWaitWord, Prog.lift, Prog.bind_op, Prog.bind_ret, Prog.pure_eq_ret, Prog.bind_assoc, wp_deviceId]
  iintro ⟨HO, HC, HT, HB⟩ Hk
  iapply (load_c c (ex m ρ c)) $$ HC; iintro HC
  iapply (load_c c (ex m ρ c)) $$ HC; iintro HC
  iapply (store_c c (ex m ρ c) (cf m ρ c)) $$ HC; iintro HC
  ihave HC := (own_split c (cf m ρ c)) $$ HC
  icases HC with ⟨HL, HR⟩
  iapply (copy_step m ρ K c (src := ((Memref.whole cc0_scratch0).slice (Rect.unit (s := S1x256x4096) ![0, 0, 0] S1x256x4096.size inb_S1x256x4096_S1x256x4096_0_0_0) (fun _ => rfl)).squeeze S256x4096 squeezes_S1x256x4096_S256x4096) rfl (bV_of c (k0_off6_eq c)) sem8 30) $$ [HO HT HL HB]
  · isplitl [HO]; · iexact HO
    isplitl [HT]; · iexact HT
    isplitl [HL]; · iexact HL
    iexact HB
  iintro ⟨HO, Hcr⟩
  rw [wp_ret]; imodintro
  iapply Hk
  isplitl [HO]; · iexact HO
  isplitl [Hcr]; · iexact Hcr
  iexact HR

end Cert.SoftmaxIdeal
-- ==== Proof.SeamIdeal.lean ====
/-
  What the stretches of the body hand on to one another.
-/
module
public import proofs.«01_k».proof.Proof.JoinIdeal
@[expose] public section
set_option maxHeartbeats 1000000
set_option maxRecDepth 4000
noncomputable section
namespace Cert.SoftmaxIdeal
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers (shareTok shareDrop pointsTo_toks_split pointsTo_toks_join)
variable {F : FTy → Type} [FloatOps F]
local notation "𝕄" => MT nD τ sig Unit (Elt F) ℕ UU ℕ
variable (m : (ℓ : Loc nD τ sig) → Buf (Elt F) ℓ) (ρ : Dev nD → PrngReg)

variable (K : Dev nD × KIx → ℕ)

/-! ## Between the stretches -/

/-- One stretch after another. -/
theorem wp_seq (c : Dev nD) {α β : Type} (p : Prog (TpuEff nD τ sig (Elt F) Λ₀ .tc) α) (k : α → Prog (TpuEff nD τ sig (Elt F) Λ₀ .tc) β) (Q : β → sProp 𝕄) :
    wp frame (wpE (defs₀ (F := F)) 𝒱₀ (c : Thread nD τ) none) Set.univ (p >>= k) Q
      = wp frame (wpE (defs₀ (F := F)) 𝒱₀ (c : Thread nD τ) none) Set.univ p
          (fun a => wp frame (wpE (defs₀ (F := F)) 𝒱₀ (c : Thread nD τ) none) Set.univ (k a) Q) :=
  Idealize.SL.Sem.wp_bind _ _ _ _ _ _

theorem rSend_intro (d q : Fin 2) (c : Dev nD) (h : Fin 15) :
    iprop((dutyTok ER (dCell (nb d c) (dRR (d, q, h))) 0 0 ∗ dutyTok ER (dCell c (dRS (d, q, h))) 0 0)
      ∗ ∃ f, qPts (F := F) (nb d c) (org d c h.val) (tq d q) f) ⊢ rSend (F := F) d q c h := by
  unfold rSend
  iintro ⟨⟨H1, H2⟩, H3⟩
  isplitl [H1]; · iexact H1
  isplitl [H2]; · iexact H2
  iexact H3

/-- What the streams start from, once the neighbours have lent their results. -/
theorem ring_gather (c : Dev nD) :
    iprop((bigSep Finset.univ fun x : Fin 2 × Fin 2 => bigSep Finset.univ fun h : Fin 15 =>
          iprop(dutyTok ER (dCell (nb x.1 c) (dRR (x.1, x.2, h))) 0 0 ∗ dutyTok ER (dCell c (dRS (x.1, x.2, h))) 0 0))
        ∗ outRow (F := F) 0 c ∗ outRow 1 c)
      ⊢ bigSep Finset.univ fun x : Fin 2 × Fin 2 => rem 0 (rSend (F := F) x.1 x.2 c) := by
  have e : (bigSep Finset.univ fun x : Fin 2 × Fin 2 => bigSep Finset.univ fun h : Fin 15 =>
      iprop(∃ f, qPts (F := F) (nb x.1 c) (org x.1 c h.val) (tq x.1 x.2) f)) = iprop(outRow (F := F) 0 c ∗ outRow 1 c) := by
    rw [bigSep_univ_prod, bigSep_univ_eq_bigSepL [(0 : Fin 2), 1] (by decide) (by decide)]
    unfold outRow
    rw [bigSep_univ_prod, bigSep_univ_prod]
    rfl
  rw [← e, ← bigSep_sep']
  refine bigSep_mono fun x _ => ?_
  rw [rem_zero, ← bigSep_sep']
  exact bigSep_mono fun h _ => rSend_intro x.1 x.2 c h

theorem str_zero (d q : Fin 2) (c : Dev nD) :
    iprop(rem 0 (rSend (F := F) d q c) ∗ rem 0 (rGet (F := F) d q c) ∗ cqPts c (tq d q) fullShare.right (cf m ρ c))
      ⊢ Str m ρ d q c 0 0 := by
  unfold Str
  rw [don_zero, don_zero, if_pos rfl]
  iintro ⟨H1, H2, H3⟩
  isplitl [H1]; · iexact H1
  isplitr; · iempintro
  isplitl [H2]; · iexact H2
  isplitr; · iempintro
  iapply (Entails.of_eq (show cqPts c (tq d q) fullShare.right (cf m ρ c) = held m ρ d q c 0 from rfl)); iexact H3

/-- The four streams before their first send. -/
theorem streams_start (c : Dev nD) :
    iprop((bigSep Finset.univ fun x : Fin 2 × Fin 2 => rem 0 (rSend (F := F) x.1 x.2 c))
        ∗ (bigSep Finset.univ fun x : Fin 2 × Fin 2 => rem 0 (rGet (F := F) x.1 x.2 c))
        ∗ bigSep Finset.univ fun x : Fin 2 × Fin 2 => cqPts c (tq x.1 x.2) fullShare.right (cf m ρ c))
      ⊢ bigSep Finset.univ fun x : Fin 2 × Fin 2 => Str m ρ x.1 x.2 c 0 0 := by
  rw [← bigSep_sep', ← bigSep_sep']
  exact bigSep_mono fun x _ => str_zero m ρ x.1 x.2 c

/-- A stream that has sent and received everything. -/
theorem stream_done (d q : Fin 2) (c : Dev nD) :
    iprop(Str m ρ d q c 15 15 ∗ bigSep Finset.univ fun h => atPos ER (dCell c (dRS (d, q, h))) 0 ∅ 0)
      ⊢ iprop((rem 0 (rOut (F := F) d q c) ∗ don 0 (rBack m ρ d q c)) ∗ (bigSep Finset.univ (rGot (F := F) d q c)) ∗ held m ρ d q c 15) := by
  rw [rem_zero, don_zero]
  iintro ⟨HS, HA⟩
  ihave H := (str_same m ρ d q c 15) $$ HS
  icases H with ⟨-, HS, -, HG, HH⟩
  ihave HS := (Entails.of_eq (don_all (rSent (F := F) d q c))) $$ HS
  ihave HG := (Entails.of_eq (don_all (rGot (F := F) d q c))) $$ HG
  isplitl [HS HA]
  · isplitl [HS HA]
    · unfold rOut
      rw [bigSep_sep']
      isplitl [HS]; · iexact HS
      iexact HA
    · iempintro
  isplitl [HG]; · iexact HG
  iexact HH

theorem shift_all (Φ : ℕ → sProp 𝕄) :
    iprop((bigSep Finset.univ fun h : Fin 15 => Φ h.val) ∗ Φ 15) ⊢ iprop(Φ 0 ∗ bigSep Finset.univ fun h : Fin 15 => Φ (h.val + 1)) := by
  have e1 : (bigSep Finset.univ fun h : Fin 16 => Φ h.val) = iprop(Φ 15 ∗ bigSep Finset.univ fun h : Fin 15 => Φ h.val) := by
    rw [bigSep_erase (Finset.mem_univ (15 : Fin 16))]
    refine congrArg (fun X => iprop(Φ 15 ∗ X)) ?_
    rw [show (Finset.univ : Finset (Fin 16)).erase 15 = Finset.univ.map (Fin.castSuccEmb : Fin 15 ↪ Fin 16) from by decide]
    exact bigSep_map _
  have e2 : (bigSep Finset.univ fun h : Fin 16 => Φ h.val) = iprop(Φ 0 ∗ bigSep Finset.univ fun h : Fin 15 => Φ (h.val + 1)) := by
    rw [bigSep_erase (Finset.mem_univ (0 : Fin 16))]
    refine congrArg (fun X => iprop(Φ 0 ∗ X)) ?_
    rw [show (Finset.univ : Finset (Fin 16)).erase 0 = Finset.univ.map ⟨Fin.succ, Fin.succ_injective 15⟩ from by decide]
    exact bigSep_map _
  rw [← e2, e1]
  iintro ⟨H1, H2⟩
  isplitl [H2]; · iexact H2
  iexact H1

/-- What a stream leaves: its positions, its loan of the own columns, and the quarters it brought. -/
def strEnd (d q : Fin 2) (c : Dev nD) : sProp 𝕄 :=
  iprop((bigSep Finset.univ fun h => atPos ER (dCell c (dRS (d, q, h))) 1 ∅ 0)
    ∗ (bigSep Finset.univ fun h => atPos ER (dCell c (dRR (d, q, h))) 1 ∅ 0)
    ∗ cqPts c (tq d q) fullShare.right (cf m ρ c)
    ∗ bigSep Finset.univ fun h : Fin 15 => qPts c (org d c (h.val + 1)) (tq d q) (G m ρ))

theorem stream_end (d q : Fin 2) (c : Dev nD) :
    iprop(don 15 (rBack m ρ d q c) ∗ (bigSep Finset.univ (rGot (F := F) d q c)) ∗ held m ρ d q c 15) ⊢ strEnd m ρ d q c := by
  rw [don_all]
  unfold rBack strEnd
  rw [bigSep_sep']
  iintro ⟨⟨HA, HB⟩, HG, HH⟩
  ihave H := (shift_all (held m ρ d q c)) $$ [HB HH]
  · isplitl [HB]; · iexact HB
    iexact HH
  icases H with ⟨H0, HQ⟩
  ihave H0 := (Entails.of_eq (show held m ρ d q c 0 = cqPts c (tq d q) fullShare.right (cf m ρ c) from rfl)) $$ H0
  isplitl [HA]; · iexact HA
  isplitl [HG]; · iexact HG
  isplitl [H0]; · iexact H0
  iexact HQ

/-- The whole result and the whole buffer of the own columns, at the end. -/
theorem end_join (c : Dev nD) :
    iprop((bPts c c (G m ρ) ∗ cPts c fullShare.left (cf m ρ c)) ∗ bigSep Finset.univ fun x : Fin 2 × Fin 2 => strEnd m ρ x.1 x.2 c)
      ⊢ iprop(((c : Thread nD τ).loc main_v1 ↦{fullShare} G m ρ) ∗ ((c : Thread nD τ).loc cc0_scratch0 ↦{fullShare} cf m ρ c)
        ∗ (bigSep Finset.univ fun x : Fin 2 × Fin 2 => bigSep Finset.univ fun h => atPos ER (dCell c (dRS (x.1, x.2, h))) 1 ∅ 0)
        ∗ bigSep Finset.univ fun x : Fin 2 × Fin 2 => bigSep Finset.univ fun h => atPos ER (dCell c (dRR (x.1, x.2, h))) 1 ∅ 0) := by
  have e : (bigSep Finset.univ fun x : Fin 2 × Fin 2 × Fin 15 => qPts c (org x.1 c (x.2.2.val + 1)) (tq x.1 x.2.1) (G m ρ))
      = bigSep Finset.univ fun x : Fin 2 × Fin 2 => bigSep Finset.univ fun h : Fin 15 => qPts c (org x.1 c (h.val + 1)) (tq x.1 x.2) (G m ρ) := by
    rw [bigSep_univ_prod, bigSep_univ_prod]
    exact bigSep_congr fun d _ => bigSep_univ_prod _
  unfold strEnd
  rw [bigSep_sep', bigSep_sep', bigSep_sep', out_parts, e]
  iintro ⟨⟨HB, HL⟩, HS, HR, HC, HQ⟩
  isplitl [HB HQ]
  · isplitl [HB]; · iexact HB
    iexact HQ
  isplitl [HL HC]
  · iapply (own_join c (cf m ρ c)); isplitl [HL]; · iexact HL
    iexact HC
  isplitl [HS]; · iexact HS
  iexact HR

end Cert.SoftmaxIdeal
-- ==== Proof.PassIdeal.lean ====
/-
  The body of the kernel up to the last stretches of the ring.
-/
module
public import proofs.«01_k».proof.Proof.RunAIdeal
public import proofs.«01_k».proof.Proof.RunBIdeal
public import proofs.«01_k».proof.Proof.RunCIdeal
public import proofs.«01_k».proof.Proof.RunDIdeal
public import proofs.«01_k».proof.Proof.RunEIdeal
public import proofs.«01_k».proof.Proof.SeamIdeal
@[expose] public section
set_option maxHeartbeats 1000000
set_option maxRecDepth 4000
noncomputable section
namespace Cert.SoftmaxIdeal
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers (shareTok shareDrop pointsTo_toks_split pointsTo_toks_join)
variable {F : FTy → Type} [FloatOps F]
local notation "𝕄" => MT nD τ sig Unit (Elt F) ℕ UU ℕ
variable (m : (ℓ : Loc nD τ sig) → Buf (Elt F) ℓ) (ρ : Dev nD → PrngReg)

variable (K : Dev nD × KIx → ℕ)

theorem msGet_start (c : Dev nD) : rem 0 (msGet (F := F) c) ⊢ iprop(rem 0 (msGet (F := F) c) ∗ don 0 (msGot m ρ c)) := by
  rw [don_zero]; iintro H; isplitl [H]; · iexact H
  iempintro
theorem msOut_start (c : Dev nD) :
    iprop((bigSep Finset.univ (msSent (F := F) c)) ∗ bigSep Finset.univ fun k => atPos ER (dCell c (dMsS k)) 0 ∅ 0)
      ⊢ iprop(rem 0 (msOut (F := F) c) ∗ don 0 (msBack m ρ c)) := by
  rw [don_zero, rem_zero]
  unfold msOut
  rw [bigSep_sep']
  iintro ⟨H1, H2⟩
  isplitr []
  · isplitl [H1]; · iexact H1
    iexact H2
  · iempintro

/-- The body up to the last stretches of the ring. -/
theorem part78 (c : Dev nD) {Q : _ → sProp 𝕄} :
    iprop(OW m ρ K c 0
      ∗ rem 0 (sigRes (F := F) c)
      ∗ ((c : Thread nD τ).loc cc0_stg0_0 ↦{fullShare} xs m ρ c)
      ∗ ((c : Thread nD τ).loc cc0_stg1_0 ↦{fullShare} ws m ρ c)
      ∗ (∃ f, ((c : Thread nD τ).loc cc0_scratch0 ↦{fullShare} f))
      ∗ (∃ f, rowPts (F := F) c c fullShare f)
      ∗ (cred (tallyAt (barCell c) () 15) ∗ atPos ER (barCell c) 0 ∅ 0)
      ∗ (bigSep Finset.univ fun k => iprop(dutyTok ER (dCell (peer c k) (dMsR c)) 0 0 ∗ dutyTok ER (dCell c (dMsS k)) 0 0))
      ∗ rem 0 (msGet (F := F) c)
      ∗ (bigSep Finset.univ fun k => atPos ER (dCell c (dMsS k)) 0 ∅ 0)
      ∗ dutyTok ER (dCell c dCs) 0 0
      ∗ (∃ f, bPts (F := F) c c f)
      ∗ (bigSep Finset.univ fun x : Fin 2 × Fin 2 => bigSep Finset.univ fun h : Fin 15 => iprop(dutyTok ER (dCell (nb x.1 c) (dRR (x.1, x.2, h))) 0 0 ∗ dutyTok ER (dCell c (dRS (x.1, x.2, h))) 0 0))
      ∗ (bigSep Finset.univ fun x : Fin 2 × Fin 2 => rem 0 (rGet (F := F) x.1 x.2 c)))
      ⊢ iprop((∀ v2 v4 v7, (OW m ρ K c 84
      ∗ Str m ρ 0 0 c 14 13
      ∗ Str m ρ 1 0 c 14 13
      ∗ Str m ρ 0 1 c 13 12
      ∗ Str m ρ 1 1 c 13 12
      ∗ ((c : Thread nD τ).loc cc0_stg0_0 ↦{fullShare} xs m ρ c)
      ∗ ((c : Thread nD τ).loc cc0_stg1_0 ↦{fullShare} ws m ρ c)
      ∗ ((c : Thread nD τ).loc cc0_scratch1 ↦{fullShare} MS m ρ)
      ∗ atPos ER (barCell c) 1 ∅ 0
      ∗ (bigSep Finset.univ fun r => atPos ER (dCell c (dMsR (frm c r))) 1 ∅ 0)
      ∗ (bigSep Finset.univ fun k => atPos ER (dCell c (dMsS k)) 1 ∅ 0)
      ∗ cred (tallyAt (dCell c dCs) () Nb)) -∗ Q ⟨c, v2, v4, v7⟩)
        -∗ wp frame (wpE (defs₀ (F := F)) 𝒱₀ (c : Thread nD τ) none) Set.univ (k0_part78 (F := F) (Memref.whole cc0_stg0_0) (Memref.isWhole_whole _) (Memref.whole cc0_stg1_0) (Memref.isWhole_whole _) (Memref.whole main_v1) (Memref.isWhole_whole _)
          (Memref.whole cc0_scratch0) (Memref.isWhole_whole _) (Memref.whole cc0_scratch1) (Memref.isWhole_whole _)
          cc0_scratch2 cc0_scratch3 cc0_scratch4 cc0_scratch5 cc0_scratch6 cc0_scratch7 cc0_scratch8) Q) := by
  rw [k0_part78_eq_skeleton]; unfold k0_part78_skel
  iintro ⟨HO, HL, HX, HW, HC, HR, ⟨Hbc, Hb⟩, Hm, HG, Hs, Hd, HB, Hr, Hg⟩ Hk
  rw [wp_seq]
  iapply (part1 m ρ K c ) $$ [HO HL]
  · isplitl [HO]; · iexact HO
    iexact HL
  iintro %v2 %v4 %v7 %v25 %w ⟨HO, HL⟩
  dsimp only
  rw [wp_seq]
  iapply (part2 m ρ K c v2 v25 w) $$ [HO HL]
  · isplitl [HO]; · iexact HO
    iexact HL
  iintro %r2 ⟨HO, HL⟩
  dsimp only
  rw [wp_seq]
  iapply (part3 m ρ K c v2 r2.1 r2.2) $$ [HO HL HX HW]
  · isplitl [HO]; · iexact HO
    isplitl [HL]; · iexact HL
    isplitl [HX]; · iexact HX
    iexact HW
  iintro ⟨HO, HX, HW⟩
  dsimp only
  rw [wp_seq]
  iapply (part4 m ρ K c v2) $$ [HO HC HR Hbc Hb Hm]
  · isplitl [HO]; · iexact HO
    isplitl [HC]; · iexact HC
    isplitl [HR]; · iexact HR
    isplitl [Hbc Hb]
    · isplitl [Hbc]; · iexact Hbc
      iexact Hb
    iexact Hm
  iintro ⟨HO, HL, HC, HD, Hb, HU, HV⟩
  dsimp only
  ihave Hr := (ring_gather (F := F) c) $$ [Hr HU HV]
  · isplitl [Hr]; · iexact Hr
    isplitl [HU]; · iexact HU
    iexact HV
  rw [wp_seq]
  iapply (part5 m ρ K c v2) $$ [HO HL]
  · isplitl [HO]; · iexact HO
    iexact HL
  iintro %r5 ⟨HO, HL⟩
  dsimp only
  rw [wp_seq]
  iapply (part6 m ρ K c v2 r5.1 r5.2) $$ [HO HL]
  · isplitl [HO]; · iexact HO
    iexact HL
  iintro ⟨HO, HL⟩
  dsimp only
  rw [wp_seq]
  iapply (part7 m ρ K c v2) $$ [HO HL]
  · isplitl [HO]; · iexact HO
    iexact HL
  iintro ⟨HO, HL⟩
  dsimp only
  rw [wp_seq]
  iapply (part8 m ρ K c v2) $$ [HO HL]
  · isplitl [HO]; · iexact HO
    iexact HL
  iintro ⟨HO, HL⟩
  dsimp only
  rw [wp_seq]
  iapply (part9 m ρ K c v2) $$ [HO HL]
  · isplitl [HO]; · iexact HO
    iexact HL
  iintro %r9 ⟨HO, HL⟩
  dsimp only
  ihave HG := (msGet_start m ρ c) $$ HG
  rw [wp_seq]
  iapply (part10 m ρ K c v2 r9) $$ [HO HG]
  · isplitl [HO]; · iexact HO
    iexact HG
  iintro ⟨HO, HG⟩
  dsimp only
  rw [wp_seq]
  iapply (part11 m ρ K c v2) $$ [HO HG]
  · isplitl [HO]; · iexact HO
    iexact HG
  iintro ⟨HO, HG⟩
  dsimp only
  rw [wp_seq]
  iapply (part12 m ρ K c v2) $$ [HO HG]
  · isplitl [HO]; · iexact HO
    iexact HG
  iintro %r12 ⟨HO, HG⟩
  dsimp only
  rw [wp_seq]
  iapply (part13 m ρ K c v2 r12) $$ [HO HG]
  · isplitl [HO]; · iexact HO
    iexact HG
  iintro %r13 ⟨HO, HG⟩
  dsimp only
  rw [wp_seq]
  iapply (part14 m ρ K c v2 r13) $$ [HO HG]
  · isplitl [HO]; · iexact HO
    iexact HG
  iintro ⟨HO, HG⟩
  dsimp only
  icases HL with ⟨-, HL⟩
  ihave HL := (Entails.of_eq (don_all (msSent (F := F) c))) $$ HL
  ihave HL := (msOut_start m ρ c) $$ [HL Hs]
  · isplitl [HL]; · iexact HL
    iexact Hs
  rw [wp_seq]
  iapply (part15 m ρ K c v2) $$ [HO HG HL]
  · isplitl [HO]; · iexact HO
    isplitl [HG]; · iexact HG
    iexact HL
  iintro ⟨HO, HG, HL⟩
  dsimp only
  rw [wp_seq]
  iapply (part16 m ρ K c ) $$ [HO HL]
  · isplitl [HO]; · iexact HO
    iexact HL
  iintro ⟨HO, HL⟩
  dsimp only
  rw [wp_seq]
  iapply (part17 m ρ K c ) $$ [HO HL]
  · isplitl [HO]; · iexact HO
    iexact HL
  iintro ⟨HO, HL⟩
  dsimp only
  icases HG with ⟨-, HG⟩
  rw [wp_seq]
  iapply (part18 m ρ K c ) $$ [HO HL HG HD]
  · isplitl [HO]; · iexact HO
    isplitl [HL]; · iexact HL
    isplitl [HG]; · iexact HG
    iexact HD
  iintro ⟨HO, HT, HA, Hs⟩
  dsimp only
  rw [wp_seq]
  iapply (part19 m ρ c ) $$ [HT]
  · iexact HT
  iintro HT
  dsimp only
  rw [wp_seq]
  iapply (part20 m ρ c ) $$ [HT]
  · iexact HT
  iintro HT
  dsimp only
  rw [wp_seq]
  iapply (part21 m ρ c ) $$ [HT]
  · iexact HT
  iintro HT
  dsimp only
  rw [wp_seq]
  iapply (part22 m ρ c ) $$ [HT]
  · iexact HT
  iintro HT
  dsimp only
  rw [wp_seq]
  iapply (part23 m ρ c ) $$ [HT]
  · iexact HT
  iintro HT
  dsimp only
  rw [wp_seq]
  iapply (part24 m ρ K c v2 v4) $$ [HO HC Hd HB]
  · isplitl [HO]; · iexact HO
    isplitl [HC]; · iexact HC
    isplitl [Hd]; · iexact Hd
    iexact HB
  iintro ⟨HO, Hd, HR⟩
  dsimp only
  ihave HS := (streams_start m ρ c) $$ [Hr Hg HR]
  · isplitl [Hr]; · iexact Hr
    isplitl [Hg]; · iexact Hg
    iexact HR
  ihave HS := (Entails.of_eq (streams fun x : Fin 2 × Fin 2 => Str m ρ x.1 x.2 c 0 0)) $$ HS
  icases HS with ⟨S00, S10, S01, S11⟩
  rw [wp_seq]
  iapply (part25 m ρ K c v2 v4 v7) $$ [HO S00 S10 S01]
  · isplitl [HO]; · iexact HO
    isplitl [S00]; · iexact S00
    isplitl [S10]; · iexact S10
    iexact S01
  iintro ⟨HO, S00, S10, S01⟩
  dsimp only
  rw [wp_seq]
  iapply (part26 m ρ K c v2 v4 v7) $$ [HO S11 S00]
  · isplitl [HO]; · iexact HO
    isplitl [S11]; · iexact S11
    iexact S00
  iintro ⟨HO, S11, S00⟩
  dsimp only
  rw [wp_seq]
  iapply (part27 m ρ K c v2 v4 v7) $$ [HO S00 S10]
  · isplitl [HO]; · iexact HO
    isplitl [S00]; · iexact S00
    iexact S10
  iintro ⟨HO, S00, S10⟩
  dsimp only
  rw [wp_seq]
  iapply (part28 m ρ K c v2 v4 v7) $$ [HO S01 S11]
  · isplitl [HO]; · iexact HO
    isplitl [S01]; · iexact S01
    iexact S11
  iintro %r28 ⟨HO, S01, S11⟩
  dsimp only
  rw [wp_seq]
  iapply (part29 m ρ K c v2 v4 v7 r28) $$ [HO S11 S00]
  · isplitl [HO]; · iexact HO
    isplitl [S11]; · iexact S11
    iexact S00
  iintro ⟨HO, S11, S00⟩
  dsimp only
  rw [wp_seq]
  iapply (part30 m ρ K c v2 v4 v7) $$ [HO S00 S10]
  · isplitl [HO]; · iexact HO
    isplitl [S00]; · iexact S00
    iexact S10
  iintro ⟨HO, S00, S10⟩
  dsimp only
  rw [wp_seq]
  iapply (part31 m ρ K c v2 v4 v7) $$ [HO S01 S11]
  · isplitl [HO]; · iexact HO
    isplitl [S01]; · iexact S01
    iexact S11
  iintro ⟨HO, S01, S11⟩
  dsimp only
  rw [wp_seq]
  iapply (part32 m ρ K c v2 v4 v7) $$ [HO S11 S00]
  · isplitl [HO]; · iexact HO
    isplitl [S11]; · iexact S11
    iexact S00
  iintro ⟨HO, S11, S00⟩
  dsimp only
  rw [wp_seq]
  iapply (part33 m ρ K c v2 v4 v7) $$ [HO S10 S01]
  · isplitl [HO]; · iexact HO
    isplitl [S10]; · iexact S10
    iexact S01
  iintro %r33 ⟨HO, S10, S01⟩
  dsimp only
  rw [wp_seq]
  iapply (part34 m ρ K c v2 v4 v7 r33) $$ [HO S01 S11]
  · isplitl [HO]; · iexact HO
    isplitl [S01]; · iexact S01
    iexact S11
  iintro ⟨HO, S01, S11⟩
  dsimp only
  rw [wp_seq]
  iapply (part35 m ρ K c v2 v4 v7) $$ [HO S00 S10]
  · isplitl [HO]; · iexact HO
    isplitl [S00]; · iexact S00
    iexact S10
  iintro ⟨HO, S00, S10⟩
  dsimp only
  rw [wp_seq]
  iapply (part36 m ρ K c v2 v4 v7) $$ [HO S10 S01]
  · isplitl [HO]; · iexact HO
    isplitl [S10]; · iexact S10
    iexact S01
  iintro ⟨HO, S10, S01⟩
  dsimp only
  rw [wp_seq]
  iapply (part37 m ρ K c v2 v4 v7) $$ [HO S11 S00]
  · isplitl [HO]; · iexact HO
    isplitl [S11]; · iexact S11
    iexact S00
  iintro %r37 ⟨HO, S11, S00⟩
  dsimp only
  rw [wp_seq]
  iapply (part38 m ρ K c v2 v4 v7 r37.1 r37.2) $$ [HO S00 S10]
  · isplitl [HO]; · iexact HO
    isplitl [S00]; · iexact S00
    iexact S10
  iintro ⟨HO, S00, S10⟩
  dsimp only
  rw [wp_seq]
  iapply (part39 m ρ K c v2 v4 v7) $$ [HO S01 S11]
  · isplitl [HO]; · iexact HO
    isplitl [S01]; · iexact S01
    iexact S11
  iintro %r39 ⟨HO, S01, S11⟩
  dsimp only
  rw [wp_seq]
  iapply (part40 m ρ K c v2 v4 v7 r39.1 r39.2) $$ [HO S11 S00]
  · isplitl [HO]; · iexact HO
    isplitl [S11]; · iexact S11
    iexact S00
  iintro ⟨HO, S11, S00⟩
  dsimp only
  rw [wp_seq]
  iapply (part41 m ρ K c v2 v4 v7) $$ [HO S00 S10 S01]
  · isplitl [HO]; · iexact HO
    isplitl [S00]; · iexact S00
    isplitl [S10]; · iexact S10
    iexact S01
  iintro %r41 ⟨HO, S00, S10, S01⟩
  dsimp only
  rw [wp_seq]
  iapply (part42 m ρ K c v2 v4 v7 r41.1 r41.2) $$ [HO S01 S11]
  · isplitl [HO]; · iexact HO
    isplitl [S01]; · iexact S01
    iexact S11
  iintro ⟨HO, S01, S11⟩
  dsimp only
  rw [wp_seq]
  iapply (part43 m ρ K c v2 v4 v7) $$ [HO S11 S00]
  · isplitl [HO]; · iexact HO
    isplitl [S11]; · iexact S11
    iexact S00
  iintro ⟨HO, S11, S00⟩
  dsimp only
  rw [wp_seq]
  iapply (part44 m ρ K c v2 v4 v7) $$ [HO S10 S01]
  · isplitl [HO]; · iexact HO
    isplitl [S10]; · iexact S10
    iexact S01
  iintro ⟨HO, S10, S01⟩
  dsimp only
  rw [wp_seq]
  iapply (part45 m ρ K c v2 v4 v7) $$ [HO S01 S11]
  · isplitl [HO]; · iexact HO
    isplitl [S01]; · iexact S01
    iexact S11
  iintro ⟨HO, S01, S11⟩
  dsimp only
  rw [wp_seq]
  iapply (part46 m ρ K c v2 v4 v7) $$ [HO S00 S10]
  · isplitl [HO]; · iexact HO
    isplitl [S00]; · iexact S00
    iexact S10
  iintro %r46 ⟨HO, S00, S10⟩
  dsimp only
  rw [wp_seq]
  iapply (part47 m ρ K c v2 v4 v7 r46.1 r46.2) $$ [HO S10 S01]
  · isplitl [HO]; · iexact HO
    isplitl [S10]; · iexact S10
    iexact S01
  iintro ⟨HO, S10, S01⟩
  dsimp only
  rw [wp_seq]
  iapply (part48 m ρ K c v2 v4 v7) $$ [HO S11 S00]
  · isplitl [HO]; · iexact HO
    isplitl [S11]; · iexact S11
    iexact S00
  iintro ⟨HO, S11, S00⟩
  dsimp only
  rw [wp_seq]
  iapply (part49 m ρ K c v2 v4 v7) $$ [HO S00 S10]
  · isplitl [HO]; · iexact HO
    isplitl [S00]; · iexact S00
    iexact S10
  iintro %r49 ⟨HO, S00, S10⟩
  dsimp only
  rw [wp_seq]
  iapply (part50 m ρ K c v2 v4 v7 r49) $$ [HO S01 S11]
  · isplitl [HO]; · iexact HO
    isplitl [S01]; · iexact S01
    iexact S11
  iintro ⟨HO, S01, S11⟩
  dsimp only
  rw [wp_seq]
  iapply (part51 m ρ K c v2 v4 v7) $$ [HO S11 S00]
  · isplitl [HO]; · iexact HO
    isplitl [S11]; · iexact S11
    iexact S00
  iintro ⟨HO, S11, S00⟩
  dsimp only
  rw [wp_seq]
  iapply (part52 m ρ K c v2 v4 v7) $$ [HO S10 S01]
  · isplitl [HO]; · iexact HO
    isplitl [S10]; · iexact S10
    iexact S01
  iintro %r52 ⟨HO, S10, S01⟩
  dsimp only
  rw [wp_seq]
  iapply (part53 m ρ K c v2 v4 v7 r52.1 r52.2) $$ [HO S01 S11]
  · isplitl [HO]; · iexact HO
    isplitl [S01]; · iexact S01
    iexact S11
  iintro ⟨HO, S01, S11⟩
  dsimp only
  rw [wp_seq]
  iapply (part54 m ρ K c v2 v4 v7) $$ [HO S00 S10]
  · isplitl [HO]; · iexact HO
    isplitl [S00]; · iexact S00
    iexact S10
  iintro %r54 ⟨HO, S00, S10⟩
  dsimp only
  rw [wp_seq]
  iapply (part55 m ρ K c v2 v4 v7 r54.1 r54.2) $$ [HO S10 S01]
  · isplitl [HO]; · iexact HO
    isplitl [S10]; · iexact S10
    iexact S01
  iintro ⟨HO, S10, S01⟩
  dsimp only
  rw [wp_seq]
  iapply (part56 m ρ K c v2 v4 v7) $$ [HO S01 S11 S00]
  · isplitl [HO]; · iexact HO
    isplitl [S01]; · iexact S01
    isplitl [S11]; · iexact S11
    iexact S00
  iintro %r56 ⟨HO, S01, S11, S00⟩
  dsimp only
  rw [wp_seq]
  iapply (part57 m ρ K c v2 v4 v7 r56) $$ [HO S00 S10]
  · isplitl [HO]; · iexact HO
    isplitl [S00]; · iexact S00
    iexact S10
  iintro ⟨HO, S00, S10⟩
  dsimp only
  rw [wp_seq]
  iapply (part58 m ρ K c v2 v4 v7) $$ [HO S10 S01]
  · isplitl [HO]; · iexact HO
    isplitl [S10]; · iexact S10
    iexact S01
  iintro ⟨HO, S10, S01⟩
  dsimp only
  rw [wp_seq]
  iapply (part59 m ρ K c v2 v4 v7) $$ [HO S11 S00]
  · isplitl [HO]; · iexact HO
    isplitl [S11]; · iexact S11
    iexact S00
  iintro %r59 ⟨HO, S11, S00⟩
  dsimp only
  rw [wp_seq]
  iapply (part60 m ρ K c v2 v4 v7 r59.1 r59.2) $$ [HO S00 S10]
  · isplitl [HO]; · iexact HO
    isplitl [S00]; · iexact S00
    iexact S10
  iintro ⟨HO, S00, S10⟩
  dsimp only
  rw [Prog.pure_eq_ret, wp_ret]; imodintro
  iapply Hk
  isplitl [HO]; · iexact HO
  isplitl [S00]; · iexact S00
  isplitl [S10]; · iexact S10
  isplitl [S01]; · iexact S01
  isplitl [S11]; · iexact S11
  isplitl [HX]; · iexact HX
  isplitl [HW]; · iexact HW
  isplitl [HT]; · iexact HT
  isplitl [Hb]; · iexact Hb
  isplitl [HA]; · iexact HA
  isplitl [Hs]; · iexact Hs
  iexact Hd

end Cert.SoftmaxIdeal
-- ==== Proof.BodyIdeal.lean ====
/-
  The whole body of the kernel on one device.
-/
module
public import proofs.«01_k».proof.Proof.PassIdeal
@[expose] public section
set_option maxHeartbeats 1000000
set_option maxRecDepth 4000
noncomputable section
namespace Cert.SoftmaxIdeal
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers (shareTok shareDrop pointsTo_toks_split pointsTo_toks_join)
variable {F : FTy → Type} [FloatOps F]
local notation "𝕄" => MT nD τ sig Unit (Elt F) ℕ UU ℕ
variable (m : (ℓ : Loc nD τ sig) → Buf (Elt F) ℓ) (ρ : Dev nD → PrngReg)

variable (K : Dev nD × KIx → ℕ)

/-- What the body starts from, on device `c`. -/
def bodyIn (c : Dev nD) : sProp 𝕄 :=
  iprop(OW m ρ K c 0
      ∗ rem 0 (sigRes (F := F) c)
      ∗ ((c : Thread nD τ).loc cc0_stg0_0 ↦{fullShare} xs m ρ c)
      ∗ ((c : Thread nD τ).loc cc0_stg1_0 ↦{fullShare} ws m ρ c)
      ∗ (∃ f, ((c : Thread nD τ).loc cc0_scratch0 ↦{fullShare} f))
      ∗ (∃ f, rowPts (F := F) c c fullShare f)
      ∗ (cred (tallyAt (barCell c) () 15) ∗ atPos ER (barCell c) 0 ∅ 0)
      ∗ (bigSep Finset.univ fun k => iprop(dutyTok ER (dCell (peer c k) (dMsR c)) 0 0 ∗ dutyTok ER (dCell c (dMsS k)) 0 0))
      ∗ rem 0 (msGet (F := F) c)
      ∗ (bigSep Finset.univ fun k => atPos ER (dCell c (dMsS k)) 0 ∅ 0)
      ∗ dutyTok ER (dCell c dCs) 0 0
      ∗ (∃ f, bPts (F := F) c c f)
      ∗ (bigSep Finset.univ fun x : Fin 2 × Fin 2 => bigSep Finset.univ fun h : Fin 15 => iprop(dutyTok ER (dCell (nb x.1 c) (dRR (x.1, x.2, h))) 0 0 ∗ dutyTok ER (dCell c (dRS (x.1, x.2, h))) 0 0))
      ∗ (bigSep Finset.univ fun x : Fin 2 × Fin 2 => rem 0 (rGet (F := F) x.1 x.2 c))
      ∗ (bigSep Finset.univ fun x : Fin 2 × Fin 2 => bigSep Finset.univ fun h : Fin 15 => atPos ER (dCell c (dRS (x.1, x.2, h))) 0 ∅ 0)
      ∗ atPos ER (dCell c dCs) 0 ∅ 0)
/-- What it ends with. -/
def bodyOut (c : Dev nD) : sProp 𝕄 :=
  iprop(OW m ρ K c 90
      ∗ ((c : Thread nD τ).loc cc0_stg0_0 ↦{fullShare} xs m ρ c)
      ∗ ((c : Thread nD τ).loc cc0_stg1_0 ↦{fullShare} ws m ρ c)
      ∗ ((c : Thread nD τ).loc main_v1 ↦{fullShare} G m ρ)
      ∗ ((c : Thread nD τ).loc cc0_scratch0 ↦{fullShare} cf m ρ c)
      ∗ ((c : Thread nD τ).loc cc0_scratch1 ↦{fullShare} MS m ρ)
      ∗ atPos ER (barCell c) 1 ∅ 0
      ∗ (bigSep Finset.univ fun r => atPos ER (dCell c (dMsR (frm c r))) 1 ∅ 0)
      ∗ (bigSep Finset.univ fun k => atPos ER (dCell c (dMsS k)) 1 ∅ 0)
      ∗ (bigSep Finset.univ fun x : Fin 2 × Fin 2 => bigSep Finset.univ fun h => atPos ER (dCell c (dRS (x.1, x.2, h))) 1 ∅ 0)
      ∗ (bigSep Finset.univ fun x : Fin 2 × Fin 2 => bigSep Finset.univ fun h => atPos ER (dCell c (dRR (x.1, x.2, h))) 1 ∅ 0)
      ∗ atPos ER (dCell c dCs) 1 ∅ 0)

theorem body_run (c : Dev nD) :
    bodyIn m ρ K c ⊢ wp frame (wpE (defs₀ (F := F)) 𝒱₀ (c : Thread nD τ) none) Set.univ (cc0_body (F := F) (Memref.whole cc0_stg0_0) (Memref.isWhole_whole _) (Memref.whole cc0_stg1_0) (Memref.isWhole_whole _) (Memref.whole main_v1) (Memref.isWhole_whole _)
          (Memref.whole cc0_scratch0) (Memref.isWhole_whole _) (Memref.whole cc0_scratch1) (Memref.isWhole_whole _)
          cc0_scratch2 cc0_scratch3 cc0_scratch4 cc0_scratch5 cc0_scratch6 cc0_scratch7 cc0_scratch8) (fun _ => bodyOut m ρ K c) := by
  rw [cc0_body_eq_skeleton]; unfold cc0_body_skel
  unfold bodyIn bodyOut
  iintro ⟨HO, HL, HX, HW, HC, HR, Hb, Hm, HG, Hs, Hd, HB, Hr, Hg, Hq, Hc⟩
  rw [wp_seq]
  iapply (part78 m ρ K c) $$ [HO HL HX HW HC HR Hb Hm HG Hs Hd HB Hr Hg]
  · isplitl [HO]; · iexact HO
    isplitl [HL]; · iexact HL
    isplitl [HX]; · iexact HX
    isplitl [HW]; · iexact HW
    isplitl [HC]; · iexact HC
    isplitl [HR]; · iexact HR
    isplitl [Hb]; · iexact Hb
    isplitl [Hm]; · iexact Hm
    isplitl [HG]; · iexact HG
    isplitl [Hs]; · iexact Hs
    isplitl [Hd]; · iexact Hd
    isplitl [HB]; · iexact HB
    isplitl [Hr]; · iexact Hr
    iexact Hg
  iintro %v2 %v4 %v7 ⟨HO, S00, S10, S01, S11, HX, HW, HT, Hb, HA, Hs, Hd⟩
  dsimp only
  rw [wp_seq]
  iapply (part61 m ρ K c v2 v4 v7) $$ [HO S01 S11]
  · isplitl [HO]; · iexact HO
    isplitl [S01]; · iexact S01
    iexact S11
  iintro %r61 ⟨HO, S01, S11⟩
  dsimp only
  rw [wp_seq]
  iapply (part62 m ρ K c v2 v4 v7 r61) $$ [HO S11 S00]
  · isplitl [HO]; · iexact HO
    isplitl [S11]; · iexact S11
    iexact S00
  iintro %r62 ⟨HO, S11, S00⟩
  dsimp only
  rw [wp_seq]
  iapply (part63 m ρ K c v2 v4 v7 r62) $$ [HO S10 S01]
  · isplitl [HO]; · iexact HO
    isplitl [S10]; · iexact S10
    iexact S01
  iintro ⟨HO, S10, S01⟩
  dsimp only
  rw [wp_seq]
  iapply (part64 m ρ K c v2 v4 v7) $$ [HO S01 S11]
  · isplitl [HO]; · iexact HO
    isplitl [S01]; · iexact S01
    iexact S11
  iintro ⟨HO, S01, S11⟩
  dsimp only
  rw [wp_seq]
  iapply (part65 m ρ K c v4 v7) $$ [HO S00 S10 S01 S11]
  · isplitl [HO]; · iexact HO
    isplitl [S00]; · iexact S00
    isplitl [S10]; · iexact S10
    isplitl [S01]; · iexact S01
    iexact S11
  iintro ⟨HO, S00, S10, S01, S11⟩
  dsimp only
  ihave Hq := (Entails.of_eq (streams fun x : Fin 2 × Fin 2 => bigSep Finset.univ fun h : Fin 15 => atPos ER (dCell c (dRS (x.1, x.2, h))) 0 ∅ 0)) $$ Hq
  icases Hq with ⟨Q00, Q10, Q01, Q11⟩
  ihave S00 := (stream_done m ρ 0 0 c) $$ [S00 Q00]
  · isplitl [S00]; · iexact S00
    iexact Q00
  icases S00 with ⟨S00, G00, E00⟩
  ihave S10 := (stream_done m ρ 1 0 c) $$ [S10 Q10]
  · isplitl [S10]; · iexact S10
    iexact Q10
  icases S10 with ⟨S10, G10, E10⟩
  ihave S01 := (stream_done m ρ 0 1 c) $$ [S01 Q01]
  · isplitl [S01]; · iexact S01
    iexact Q01
  icases S01 with ⟨S01, G01, E01⟩
  ihave S11 := (stream_done m ρ 1 1 c) $$ [S11 Q11]
  · isplitl [S11]; · iexact S11
    iexact Q11
  icases S11 with ⟨S11, G11, E11⟩
  rw [wp_seq]
  iapply (part66 m ρ K c ) $$ [HO S00]
  · isplitl [HO]; · iexact HO
    iexact S00
  iintro ⟨HO, S00⟩
  dsimp only
  rw [wp_seq]
  iapply (part67 m ρ K c ) $$ [HO S00]
  · isplitl [HO]; · iexact HO
    iexact S00
  iintro ⟨HO, S00⟩
  dsimp only
  rw [wp_seq]
  iapply (part68 m ρ K c ) $$ [HO S00]
  · isplitl [HO]; · iexact HO
    iexact S00
  iintro ⟨HO, S00⟩
  dsimp only
  rw [wp_seq]
  iapply (part69 m ρ K c ) $$ [HO S10]
  · isplitl [HO]; · iexact HO
    iexact S10
  iintro ⟨HO, S10⟩
  dsimp only
  rw [wp_seq]
  iapply (part70 m ρ K c ) $$ [HO S10]
  · isplitl [HO]; · iexact HO
    iexact S10
  iintro ⟨HO, S10⟩
  dsimp only
  rw [wp_seq]
  iapply (part71 m ρ K c ) $$ [HO S10]
  · isplitl [HO]; · iexact HO
    iexact S10
  iintro ⟨HO, S10⟩
  dsimp only
  rw [wp_seq]
  iapply (part72 m ρ K c ) $$ [HO S10 S01]
  · isplitl [HO]; · iexact HO
    isplitl [S10]; · iexact S10
    iexact S01
  iintro ⟨HO, S10, S01⟩
  dsimp only
  rw [wp_seq]
  iapply (part73 m ρ K c ) $$ [HO S01]
  · isplitl [HO]; · iexact HO
    iexact S01
  iintro ⟨HO, S01⟩
  dsimp only
  rw [wp_seq]
  iapply (part74 m ρ K c ) $$ [HO S01]
  · isplitl [HO]; · iexact HO
    iexact S01
  iintro ⟨HO, S01⟩
  dsimp only
  rw [wp_seq]
  iapply (part75 m ρ K c ) $$ [HO S01 S11]
  · isplitl [HO]; · iexact HO
    isplitl [S01]; · iexact S01
    iexact S11
  iintro ⟨HO, S01, S11⟩
  dsimp only
  rw [wp_seq]
  iapply (part76 m ρ K c ) $$ [HO S11]
  · isplitl [HO]; · iexact HO
    iexact S11
  iintro ⟨HO, S11⟩
  dsimp only
  rw [wp_seq]
  iapply (part77 m ρ K c ) $$ [HO S11]
  · isplitl [HO]; · iexact HO
    iexact S11
  iintro ⟨HO, S11⟩
  dsimp only
  simp only [semSignalWord, semWaitWord, Prog.lift, Prog.bind_op, Prog.bind_ret, Prog.pure_eq_ret, Prog.bind_assoc, wp_deviceId]
  iapply (ring_out m ρ K c 1 1 14 rfl rfl (sem6 14 1) (credit_q _)) $$ [HO S11]
  · isplitl [HO]; · iexact HO
    iexact S11
  iintro ⟨HO, S11⟩
  iapply (wait_d m ρ K c dCs rfl 90 (fun j h1 h2 => absurd h2 (by omega)) sem8 (credit_b _)) $$ [HO Hd Hc]
  · isplitl [HO]; · iexact HO
    isplitl [Hd]; · iexact Hd
    iexact Hc
  iintro ⟨HO, Hc, HP⟩
  ihave HP := (Entails.of_eq (show dPay m ρ c dCs = iprop(bPts c c (G m ρ) ∗ cPts c fullShare.left (cf m ρ c)) from rfl)) $$ HP
  icases S00 with ⟨-, S00⟩
  ihave S00 := (stream_end m ρ 0 0 c) $$ [S00 G00 E00]
  · isplitl [S00]; · iexact S00
    isplitl [G00]; · iexact G00
    iexact E00
  icases S10 with ⟨-, S10⟩
  ihave S10 := (stream_end m ρ 1 0 c) $$ [S10 G10 E10]
  · isplitl [S10]; · iexact S10
    isplitl [G10]; · iexact G10
    iexact E10
  icases S01 with ⟨-, S01⟩
  ihave S01 := (stream_end m ρ 0 1 c) $$ [S01 G01 E01]
  · isplitl [S01]; · iexact S01
    isplitl [G01]; · iexact G01
    iexact E01
  icases S11 with ⟨-, S11⟩
  ihave S11 := (stream_end m ρ 1 1 c) $$ [S11 G11 E11]
  · isplitl [S11]; · iexact S11
    isplitl [G11]; · iexact G11
    iexact E11
  ihave HE := (end_join m ρ c) $$ [HP S00 S10 S01 S11]
  · isplitl [HP]; · iexact HP
    iapply (Entails.of_eq (streams fun x : Fin 2 × Fin 2 => strEnd m ρ x.1 x.2 c).symm)
    isplitl [S00]; · iexact S00
    isplitl [S10]; · iexact S10
    isplitl [S01]; · iexact S01
    iexact S11
  icases HE with ⟨HZ, HC, Hp, Hg⟩
  rw [wp_ret]; imodintro
  isplitl [HO]; · iexact HO
  isplitl [HX]; · iexact HX
  isplitl [HW]; · iexact HW
  isplitl [HZ]; · iexact HZ
  isplitl [HC]; · iexact HC
  isplitl [HT]; · iexact HT
  isplitl [Hb]; · iexact Hb
  isplitl [HA]; · iexact HA
  isplitl [Hs]; · iexact Hs
  isplitl [Hp]; · iexact Hp
  isplitl [Hg]; · iexact Hg
  iexact Hc

end Cert.SoftmaxIdeal
-- ==== Proof.DealIdeal.lean ====
/-
  Handing out the protocol at launch: the cells and their tokens, the counters' invariants, and the credits.
-/
module
public import proofs.«01_k».proof.Proof.JoinIdeal
@[expose] public section
set_option maxHeartbeats 1000000
set_option maxRecDepth 4000
noncomputable section
namespace Cert.SoftmaxIdeal
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers (shareTok shareDrop pointsTo_toks_split pointsTo_toks_join)
variable {F : FTy → Type} [FloatOps F]
local notation "𝕄" => MT nD τ sig Unit (Elt F) ℕ UU ℕ
variable (m : (ℓ : Loc nD τ sig) → Buf (Elt F) ℓ) (ρ : Dev nD → PrngReg)

/-! ## Taking a family over the cells apart -/

omit [FloatOps F] in
theorem rix_split (Φ : RIx → sProp 𝕄) :
    bigSep Finset.univ Φ = bigSep Finset.univ fun x : Fin 2 × Fin 2 => bigSep Finset.univ fun h : Fin 15 => Φ (x.1, x.2, h) := by
  rw [bigSep_univ_prod, bigSep_univ_prod]
  exact bigSep_congr fun d _ => bigSep_univ_prod _
omit [FloatOps F] in
theorem one_unit (Φ : Unit → sProp 𝕄) : bigSep Finset.univ Φ = Φ () := bigSep_singleton
omit [FloatOps F] in
theorem kix_split (Φ : KIx → sProp 𝕄) :
    bigSep Finset.univ Φ = iprop(Φ (.inl ()) ∗ (bigSep Finset.univ fun k => Φ (.inr (dMsS k))) ∗ (bigSep Finset.univ fun j => Φ (.inr (dMsR j)))
      ∗ (bigSep Finset.univ fun x => Φ (.inr (dRS x))) ∗ (bigSep Finset.univ fun x => Φ (.inr (dRR x))) ∗ Φ (.inr dCs)) := by
  rw [bigSep_univ_sum, one_unit, bigSep_univ_sum, bigSep_univ_sum, bigSep_univ_sum, bigSep_univ_sum, one_unit]
  rfl
omit [FloatOps F] in
theorem mono_univ {ι : Type} [Fintype ι] {Φ Ψ : ι → sProp 𝕄} (h : ∀ i, Φ i ⊢ Ψ i) : bigSep Finset.univ Φ ⊢ bigSep Finset.univ Ψ :=
  bigSep_mono fun i _ => h i

omit [FloatOps F] in
theorem swap_univ {ι κ : Type} [Fintype ι] [Fintype κ] (Φ : ι → κ → sProp 𝕄) :
    (bigSep Finset.univ fun i => bigSep Finset.univ fun j => Φ i j) = bigSep Finset.univ fun j => bigSep Finset.univ fun i => Φ i j := by
  rw [← bigSep_univ_prod (fun x : ι × κ => Φ x.1 x.2), ← bigSep_univ_prod (fun x : κ × ι => Φ x.2 x.1)]
  exact bigSep_univ_equiv (Equiv.prodComm κ ι) fun x : ι × κ => Φ x.1 x.2

/-! ## Minting the cells and dealing their tokens -/

def ringCells : Finset (GSem nD τ sig) := Finset.univ.map ⟨kcell, kcell_injective⟩
def tokAt (x : (Dev nD × KIx) × Fin 16) : GSem nD τ sig × ℕ × Fin 16 := (kcell x.1, 0, x.2)
theorem tokAt_injective : Function.Injective tokAt := by
  rintro ⟨a, d⟩ ⟨b, e⟩ h
  have h1 : a = b := kcell_injective (congrArg (fun t : GSem nD τ sig × ℕ × Fin 16 => t.1) h)
  have h2 : d = e := congrArg (fun t : GSem nD τ sig × ℕ × Fin 16 => t.2.2) h
  rw [h1, h2]
def ringToks : Finset (GSem nD τ sig × ℕ × Fin 16) := Finset.univ.map ⟨tokAt, tokAt_injective⟩

def u₀ : UU := (initOf (Pipeline.cells cfgs cellOf_inj) (Pipeline.launchToks cfgs cellOf_inj), initOf ringCells ringToks)

def toks (c : Dev nD) : sProp 𝕄 :=
  bigSep Finset.univ fun k : KIx => bigSep Finset.univ fun d : Fin 16 => dutyTok ER (kcell (c, k)) 0 d
def deal (c : Dev nD) : sProp 𝕄 :=
  iprop((bigSep Finset.univ fun k : KIx => roundState ER (Rd m ρ) (kcell (c, k)) 0)
    ∗ (bigSep Finset.univ fun k : KIx => iprop(atPos ER (kcell (c, k)) 0 ∅ 0 ∗ reached ER (kcell (c, k)) 0)) ∗ toks c)

theorem fund_ring : BI.own (ER (initOf ringCells ringToks)) ⊢ (|==> bigSep Finset.univ (deal m ρ) : sProp 𝕄) := by
  have hX (Φ : GSem nD τ sig → sProp 𝕄) : bigSep ringCells Φ = bigSep Finset.univ fun c : Dev nD => bigSep Finset.univ fun k : KIx => Φ (kcell (c, k)) := by
    unfold ringCells; rw [bigSep_map, bigSep_univ_prod]; rfl
  have hT (Φ : GSem nD τ sig × ℕ × Fin 16 → sProp 𝕄) : bigSep ringToks Φ
      = bigSep Finset.univ fun c : Dev nD => bigSep Finset.univ fun k : KIx => bigSep Finset.univ fun d : Fin 16 => Φ (kcell (c, k), 0, d) := by
    unfold ringToks; rw [bigSep_map, bigSep_univ_prod, bigSep_univ_prod]; rfl
  iintro HX
  imod (Rounds.fund ER (Rd m ρ) ringCells ringToks) $$ HX with ⟨Hst, Hr, Hat, Htok⟩
  ihave Hst := (Entails.of_eq (hX fun g => roundState ER (Rd m ρ) g 0)) $$ Hst
  ihave Hr := (Entails.of_eq (hX fun g => reached ER g 0)) $$ Hr
  ihave Hat := (Entails.of_eq (hX fun g => atPos ER g 0 ∅ 0)) $$ Hat
  ihave Htok := (Entails.of_eq (hT fun t => dutyTok ER t.1 t.2.1 t.2.2)) $$ Htok
  imodintro
  unfold deal toks
  simp only [bigSep_sep']
  isplitl [Hst]
  · iexact Hst
  isplitl [Hat Hr]
  · isplitl [Hat]
    · iexact Hat
    iexact Hr
  iexact Htok

/-- The tokens a device pays with: for every other device's barrier and receipts, and for its own sends. -/
def payToks (c : Dev nD) : sProp 𝕄 :=
  iprop((bigSep Finset.univ fun k : Fin 15 => dutyTok ER (barCell (peer c k)) 0 c)
    ∗ (bigSep Finset.univ fun k : Fin 15 => iprop(dutyTok ER (dCell (peer c k) (dMsR c)) 0 0 ∗ dutyTok ER (dCell c (dMsS k)) 0 0))
    ∗ dutyTok ER (dCell c dCs) 0 0
    ∗ bigSep Finset.univ fun x : RIx => iprop(dutyTok ER (dCell (nb x.1 c) (dRR x)) 0 0 ∗ dutyTok ER (dCell c (dRS x)) 0 0))

omit [FloatOps F] in
theorem first_tok (g : GSem nD τ sig) : (bigSep Finset.univ fun d : Fin 16 => (dutyTok ER g 0 d : sProp 𝕄)) ⊢ dutyTok ER g 0 0 :=
  bigSep_elim (Φ := fun d : Fin 16 => (dutyTok ER g 0 d : sProp 𝕄)) (Finset.mem_univ 0)

omit [FloatOps F] in
theorem toks_apart (c : Dev nD) : toks (F := F) c ⊢ iprop((bigSep Finset.univ fun d : Fin 16 => dutyTok ER (barCell c) 0 d)
    ∗ (bigSep Finset.univ fun k => dutyTok ER (dCell c (dMsS k)) 0 0) ∗ (bigSep Finset.univ fun j => dutyTok ER (dCell c (dMsR j)) 0 0)
    ∗ (bigSep Finset.univ fun x => dutyTok ER (dCell c (dRS x)) 0 0) ∗ (bigSep Finset.univ fun x => dutyTok ER (dCell c (dRR x)) 0 0)
    ∗ dutyTok ER (dCell c dCs) 0 0) := by
  unfold toks
  rw [kix_split]
  iintro ⟨HB, HS, HM, HR, HQ, HC⟩
  isplitl [HB]
  · iexact HB
  isplitl [HS]
  · iapply (mono_univ fun k => first_tok (F := F) (kcell (c, .inr (dMsS k)))) $$ HS
  isplitl [HM]
  · iapply (mono_univ fun k => first_tok (F := F) (kcell (c, .inr (dMsR k)))) $$ HM
  isplitl [HR]
  · iapply (mono_univ fun k => first_tok (F := F) (kcell (c, .inr (dRS k)))) $$ HR
  isplitl [HQ]
  · iapply (mono_univ fun k => first_tok (F := F) (kcell (c, .inr (dRR k)))) $$ HQ
  ihave HC := (Entails.of_eq (show (bigSep Finset.univ fun d : Fin 16 => (dutyTok ER (kcell (c, .inr dCs)) 0 d : sProp 𝕄)) = bigSep Finset.univ fun d : Fin 16 => dutyTok ER (dCell c dCs) 0 d from rfl)) $$ HC
  iapply (first_tok (F := F) (dCell c dCs)) $$ HC

/-- Of a family given by payer and payee, every payer's other payees' part. -/
theorem to_peers (Φ : Dev nD → Fin 16 → sProp 𝕄) :
    (bigSep Finset.univ fun c : Dev nD => bigSep Finset.univ fun d : Fin 16 => Φ c d)
      ⊢ bigSep Finset.univ fun d : Dev nD => bigSep Finset.univ fun k : Fin 15 => Φ (peer d k) d := by
  rw [swap_univ]
  refine bigSep_mono fun d _ => ?_
  rw [split_peer d fun c => Φ c d]
  exact (show iprop(Φ d d ∗ bigSep Finset.univ fun k : Fin 15 => Φ (peer d k) d) ⊢ bigSep Finset.univ fun k : Fin 15 => Φ (peer d k) d from by
    iintro ⟨-, H⟩; iexact H)

def nbEquiv (d : Fin 2) : Dev nD ≃ Dev nD := ⟨nb d, pv d, pv_nb d, nb_pv d⟩
omit [FloatOps F] in
theorem to_next (Φ : Dev nD → RIx → sProp 𝕄) :
    (bigSep Finset.univ fun c : Dev nD => bigSep Finset.univ fun x : RIx => Φ c x)
      = bigSep Finset.univ fun c : Dev nD => bigSep Finset.univ fun x : RIx => Φ (nb x.1 c) x := by
  rw [swap_univ]
  rw [swap_univ (Φ := fun (c : Dev nD) (x : RIx) => Φ (nb x.1 c) x)]
  exact bigSep_congr fun x _ => bigSep_univ_equiv (nbEquiv x.1) fun c => Φ c x

theorem toks_around : (bigSep Finset.univ fun c : Dev nD => toks (F := F) c) ⊢ bigSep Finset.univ fun c : Dev nD => payToks (F := F) c := by
  refine BIBase.Entails.trans (mono_univ fun c => toks_apart c) ?_
  unfold payToks
  simp only [bigSep_sep']
  iintro ⟨HB, HS, HM, HR, HQ, HC⟩
  isplitl [HB]
  · iapply (to_peers fun c d => (dutyTok ER (barCell c) 0 d : sProp 𝕄)) $$ HB
  isplitl [HM HS]
  · isplitl [HM]
    · iapply (to_peers fun c d => (dutyTok ER (dCell c (dMsR d)) 0 0 : sProp 𝕄)) $$ HM
    iexact HS
  isplitl [HC]
  · iexact HC
  isplitl [HQ]
  · iapply (Entails.of_eq (to_next fun c x => (dutyTok ER (dCell c (dRR x)) 0 0 : sProp 𝕄))) $$ HQ
  iexact HR

/-! ## The counters at launch become the cells' invariants -/

omit [FloatOps F] in
theorem unscopedSems0_eq (c : Dev nD) :
    (unscopedSems0 (Ix := Unit) (Name := ℕ) (U := UU) (Lvl := ℕ) (Val := Elt F) (sig := sig) (τ := τ) c : sProp 𝕄) = semVal (barCell c) 0 := by
  unfold unscopedSems0; rw [bigSep_eq_bigSepL_of_eq [SemLoc.reg barS] (by decide) (by decide)]; rfl
omit [FloatOps F] in
theorem sems0_eq (c : Dev nD) :
    iprop((Pipeline.ownSems0 (Ix := Unit) (Name := ℕ) (U := UU) (Lvl := ℕ) (Val := Elt F) (τ := τ) osem c : sProp 𝕄) ∗ unscopedSems0 c)
      ⊢ bigSep Finset.univ fun k : KIx => (semVal (kcell (c, k)) 0 : sProp 𝕄) := by
  have e (Φ : KIx → sProp 𝕄) : bigSep Finset.univ Φ = iprop(Φ (.inl ()) ∗ bigSep Finset.univ fun i : DIx => Φ (.inr i)) := by
    rw [bigSep_univ_sum, one_unit]; rfl
  rw [unscopedSems0_eq, e]
  iintro ⟨H1, H2⟩
  isplitl [H2]
  · iexact H2
  iapply (Entails.of_eq (show (Pipeline.ownSems0 (Ix := Unit) (Name := ℕ) (U := UU) (Lvl := ℕ) (Val := Elt F) (τ := τ) osem c : sProp 𝕄)
    = bigSep Finset.univ fun i : DIx => semVal (kcell (c, .inr i)) 0 from rfl)) $$ H1

theorem core_alloc (c : Dev nD) :
    iprop((Pipeline.ownSems0 (Ix := Unit) (Name := ℕ) (U := UU) (Lvl := ℕ) (Val := Elt F) (τ := τ) osem c : sProp 𝕄) ∗ unscopedSems0 c ∗ deal m ρ c)
      ⊢ |={Set.univ}=> iprop((bigSep Finset.univ fun k : KIx => iprop(∃ κ : ℕ, cellInv ER (Rd m ρ) κ (kcell (c, k))))
        ∗ (bigSep Finset.univ fun k : KIx => iprop(atPos ER (kcell (c, k)) 0 ∅ 0 ∗ reached ER (kcell (c, k)) 0)) ∗ toks c) := by
  unfold deal
  iintro ⟨Hs, Hu, Hst, Har, Htok⟩
  ihave Hv := (sems0_eq c) $$ [Hs Hu]
  · isplitl [Hs] <;> iassumption
  imod (show iprop((bigSep Finset.univ fun k : KIx => (semVal (kcell (c, k)) 0 : sProp 𝕄)) ∗ bigSep Finset.univ fun k : KIx => roundState ER (Rd m ρ) (kcell (c, k)) 0)
      ⊢ |={Set.univ}=> bigSep Finset.univ fun k : KIx => iprop(∃ κ : ℕ, cellInv ER (Rd m ρ) κ (kcell (c, k))) from by
    rw [← bigSep_sep']
    exact (bigSep_mono fun k _ => (Rounds.body_intro ER (Rd m ρ) (kcell (c, k))).trans inv_alloc).trans (bigSep_fupd _ _)) $$ [Hv Hst] with Hinv
  · isplitl [Hv] <;> iassumption
  imodintro
  isplitl [Hinv]
  · iexact Hinv
  isplitl [Har]
  · iexact Har
  iexact Htok

/-- What one device holds of the protocol at launch, beside the shared records: its positions and its tokens. -/
def linear (c : Dev nD) : sProp 𝕄 :=
  iprop((bigSep Finset.univ fun k : KIx => atPos ER (kcell (c, k)) 0 ∅ 0) ∗ payToks c)
/-- The records without the levels, which the launch hands over apart. -/
def marks (K : Dev nD × KIx → ℕ) : sProp 𝕄 :=
  iprop((bigSep Finset.univ fun ck : Dev nD × KIx => cellInv ER (Rd m ρ) (K ck) (kcell ck))
    ∗ bigSep Finset.univ fun ck : Dev nD × KIx => reached ER (kcell ck) 0)
instance marks_persistent (K) : BI.Persistent (marks m ρ K) := by unfold marks; infer_instance
def dealt (c : Dev nD) : sProp 𝕄 := iprop(∃ K, marks m ρ K ∗ linear c)

theorem dealt_of (K : Dev nD × KIx → ℕ) (c : Dev nD) : iprop(marks m ρ K ∗ linear c) ⊢ dealt m ρ c := by
  unfold dealt; iintro H; iexists K; iexact H

theorem deal_all : (bigSep Finset.univ fun c : Dev nD => iprop((bigSep Finset.univ fun k : KIx => iprop(∃ κ : ℕ, cellInv ER (Rd m ρ) κ (kcell (c, k))))
        ∗ (bigSep Finset.univ fun k : KIx => iprop(atPos ER (kcell (c, k)) 0 ∅ 0 ∗ reached ER (kcell (c, k)) 0)) ∗ toks c))
      ⊢ bigSep Finset.univ fun c : Dev nD => dealt m ρ c := by
  rw [bigSep_sep', bigSep_sep']
  rw [← bigSep_univ_prod (fun ck : Dev nD × KIx => iprop(∃ κ : ℕ, cellInv ER (Rd m ρ) κ (kcell ck)))]
  rw [bigSep_congr (fun (c : Dev nD) _ => bigSep_sep' (Finset.univ) (fun k : KIx => (atPos ER (kcell (c, k)) 0 ∅ 0 : sProp 𝕄)) (fun k : KIx => reached ER (kcell (c, k)) 0)), bigSep_sep']
  rw [← bigSep_univ_prod (fun ck : Dev nD × KIx => (reached ER (kcell ck) 0 : sProp 𝕄))]
  iintro ⟨HI, ⟨Hat, #HR⟩, Htok⟩
  ihave HI := (BI.bigSep_exists_pi Finset.univ (fun (ck : Dev nD × KIx) (κ : ℕ) => cellInv ER (Rd m ρ) κ (kcell ck))) $$ HI
  icases HI with ⟨%K, #HI⟩
  ihave Htok := (toks_around (F := F)) $$ Htok
  iapply ((Laws.sep_mono_left (BI.bigSep_of_persistent Finset.univ (marks m ρ K))).trans
    (by rw [← bigSep_sep']; exact bigSep_mono fun c _ => dealt_of m ρ K c :
      iprop((bigSep Finset.univ fun _ : Dev nD => marks m ρ K) ∗ bigSep Finset.univ fun c : Dev nD => linear (F := F) c) ⊢ _))
  isplitr
  · unfold marks
    isplitl
    · iexact HI
    iexact HR
  unfold linear
  rw [bigSep_sep']
  isplitl [Hat]
  · iexact Hat
  iexact Htok

theorem glob : (bigSep Finset.univ fun c : Dev nD => iprop((Pipeline.ownSems0 (Ix := Unit) (Name := ℕ) (U := UU) (Lvl := ℕ) (Val := Elt F) (τ := τ) osem c : sProp 𝕄) ∗ unscopedSems0 c ∗ deal m ρ c))
    ⊢ |={Set.univ}=> bigSep Finset.univ fun c : Dev nD => dealt m ρ c :=
  ((bigSep_mono fun c _ => core_alloc m ρ c).trans (bigSep_fupd _ _)).trans (BI.fupd_mono (deal_all m ρ))

/-! ## What the cells are owed at launch -/

abbrev OIx := Fin 15 ⊕ (Fin 15 ⊕ RIx)
def oNum : OIx → ℕ
  | .inl k => k.val
  | .inr (.inl k) => 15 + k.val
  | .inr (.inr (d, q, h)) => 30 + 4 * h.val + 2 * q.val + d.val
theorem oNum_injective : Function.Injective oNum := by
  rintro (k | k | ⟨d, q, h⟩) (k' | k' | ⟨d', q', h'⟩) e <;> simp only [oNum] at e
  · exact congrArg _ (Fin.ext e)
  · omega
  · omega
  · omega
  · exact congrArg _ (congrArg _ (Fin.ext (by omega)))
  · omega
  · omega
  · omega
  · have h1 : d = d' := Fin.ext (by omega)
    have h2 : q = q' := Fin.ext (by omega)
    have h3 : h = h' := Fin.ext (by omega)
    rw [h1, h2, h3]
theorem oNum_all : Finset.Ico 0 90 = Finset.univ.map ⟨oNum, oNum_injective⟩ := by
  ext i
  simp only [Finset.mem_Ico, Finset.mem_map, Finset.mem_univ, true_and, Function.Embedding.coeFn_mk]
  constructor
  · rintro ⟨-, h⟩
    by_cases h1 : i < 15
    · exact ⟨.inl ⟨i, h1⟩, rfl⟩
    by_cases h2 : i < 30
    · exact ⟨.inr (.inl ⟨i - 15, by omega⟩), by simp only [oNum]; omega⟩
    · exact ⟨.inr (.inr (⟨i % 2, by omega⟩, ⟨(i + 2) / 2 % 2, by omega⟩, ⟨(i - 30) / 4, by omega⟩)), by simp only [oNum]; omega⟩
  · rintro ⟨x | x | ⟨d, q, h⟩, rfl⟩ <;> simp only [oNum] <;> omega

theorem owed_sum (d : Dev nD) : owed d 0 = (∑ k : Fin 15, tallyAt (barCell (peer d k)) () 1)
    + ((∑ k : Fin 15, tallyAt (dCell (peer d k) (dMsR d)) () Nms) + ∑ x : RIx, tallyAt (dCell (nb x.1 d) (dRR x)) () Nq) := by
  unfold owed
  rw [oNum_all, Finset.sum_map, Fintype.sum_sum_type, Fintype.sum_sum_type]
  refine congrArg₂ _ (Finset.sum_congr rfl fun k _ => obl_bar d k) (congrArg₂ _ (Finset.sum_congr rfl fun k _ => obl_ms d k) (Finset.sum_congr rfl fun x _ => ?_))
  exact obl_ring d x.1 x.2.1 x.2.2

theorem owed_at (d : Dev nD) (g : GSem nD τ sig) : owed d 0 g () = (∑ k : Fin 15, tallyAt (barCell (peer d k)) () 1 g ())
    + ((∑ k : Fin 15, tallyAt (dCell (peer d k) (dMsR d)) () Nms g ()) + ∑ x : RIx, tallyAt (dCell (nb x.1 d) (dRR x)) () Nq g ()) := by
  rw [owed_sum]
  simp only [Pi.add_apply, Finsupp.add_apply, Finset.sum_apply, Finsupp.finset_sum_apply]

theorem dCell_eq {a b : Dev nD} {i j : DIx} (h : dCell a i = dCell b j) : a = b ∧ i = j := by
  have := kcell_injective (a₁ := (a, .inr i)) (a₂ := (b, .inr j)) h
  exact ⟨congrArg Prod.fst this, Sum.inr.inj (congrArg Prod.snd this)⟩
theorem bar_ne_d {a b : Dev nD} {i : DIx} : barCell a ≠ dCell b i := fun h => by
  have h2 : (SemLoc.reg barS : SemLoc sig) = .dma (dSem i) := congrArg Prod.snd h
  cases h2
theorem barCell_eq {a b : Dev nD} (h : barCell a = barCell b) : a = b := congrArg (fun g : GSem nD τ sig => g.1.1) h

theorem tally_zero {g g' : GSem nD τ sig} {n : ℕ} (h : g ≠ g') : (tallyAt g () n : CellTallies nD τ sig Unit) g' () = 0 := by
  rw [tallyAt_ne_cell (fun e => h e.symm)]; rfl
theorem tally_self {g : GSem nD τ sig} {n : ℕ} : (tallyAt g () n : CellTallies nD τ sig Unit) g () = n := by
  rw [tallyAt_apply, if_pos ⟨rfl, rfl⟩]

theorem peer_frm (c : Dev nD) (r : Fin 15) : peer (frm c r) r = c := by revert c r; decide +kernel

theorem owed_bar (d c : Dev nD) : owed d 0 (barCell c) () = if d = c then 0 else 1 := by
  rw [owed_at, Finset.sum_eq_zero (fun k _ => tally_zero (fun h => bar_ne_d h.symm)), Finset.sum_eq_zero (fun k _ => tally_zero (fun h => bar_ne_d h.symm)),
    Nat.add_zero, Nat.add_zero]
  split
  · subst d; exact Finset.sum_eq_zero fun k _ => tally_zero fun h => peer_ne c k (barCell_eq h)
  · rename_i hd
    have hm : c ∈ Finset.univ.erase d := Finset.mem_erase.mpr ⟨fun h => hd h.symm, Finset.mem_univ _⟩
    rw [peer_all d] at hm
    obtain ⟨k, -, hk⟩ := Finset.mem_map.mp hm
    have hk : peer d k = c := hk
    rw [Finset.sum_eq_single k (fun k' _ h => tally_zero fun e => h (peer_injective d ((barCell_eq e).trans hk.symm)))
      (fun h => absurd (Finset.mem_univ _) h), hk, tally_self]
theorem owed_msr (d c : Dev nD) (r : Fin 15) : owed d 0 (dCell c (dMsR (frm c r))) () = if d = frm c r then Nms else 0 := by
  rw [owed_at, Finset.sum_eq_zero (fun k _ => tally_zero bar_ne_d), Finset.sum_eq_zero (s := (Finset.univ : Finset RIx))
    (f := fun x => tallyAt (dCell (nb x.1 d) (dRR x)) () Nq (dCell c (dMsR (frm c r))) ())
    (fun x _ => tally_zero fun h => by have := (dCell_eq h).2; cases this), Nat.zero_add, Nat.add_zero]
  split
  · subst d
    rw [Finset.sum_eq_single r (fun k' _ h => tally_zero fun e => h (peer_injective _ ((dCell_eq e).1.trans (peer_frm c r).symm)))
      (fun h => absurd (Finset.mem_univ _) h), peer_frm, tally_self]
  · rename_i hd
    exact Finset.sum_eq_zero fun k _ => tally_zero fun h => hd (by have := (dCell_eq h).2; injection this with this; injection this)
theorem owed_rr (d c : Dev nD) (x : RIx) : owed d 0 (dCell c (dRR x)) () = if d = pv x.1 c then Nq else 0 := by
  have hx {y : RIx} (h : dRR y = dRR x) : y = x := by
    injection h with h; injection h with h; injection h with h; injection h
  rw [owed_at, Finset.sum_eq_zero (fun k _ => tally_zero bar_ne_d), Finset.sum_eq_zero (s := (Finset.univ : Finset (Fin 15)))
    (f := fun k => tallyAt (dCell (peer d k) (dMsR d)) () Nms (dCell c (dRR x)) ())
    (fun k _ => tally_zero fun h => by have := (dCell_eq h).2; cases this), Nat.zero_add, Nat.zero_add]
  split
  · subst d
    rw [Finset.sum_eq_single x (fun y _ h => tally_zero fun e => h (hx (dCell_eq e).2))
      (fun h => absurd (Finset.mem_univ _) h), nb_pv, tally_self]
  · rename_i hd
    refine Finset.sum_eq_zero fun y _ => tally_zero fun h => hd ?_
    have e := hx (dCell_eq h).2
    subst e
    rw [← (dCell_eq h).1, pv_nb]

def O₀ (c : Dev nD) : CellTallies nD τ sig Unit := owed c 0

theorem launch_at (g : GSem nD τ sig) (n : ℕ) (h : ∑ d : Dev nD, owed d 0 g () = n) :
    tallyOn g (launchCredit (Pipeline.owing O₀) 0 g) = (tallyAt g () n : CellTallies nD τ sig Unit) := by
  unfold tallyAt; refine congrArg _ (Finsupp.ext fun u => ?_); cases u
  rw [Pipeline.launchCredit_owing, Finsupp.single_eq_same]
  exact h
theorem launch_cell (ck : Dev nD × KIx) (g : GSem nD τ sig) (e : kcell ck = g) (n : ℕ) (h : ∑ d : Dev nD, owed d 0 g () = n) :
    tallyOn (kcell ck) (launchCredit (Pipeline.owing O₀) 0 (kcell ck)) = (tallyAt g () n : CellTallies nD τ sig Unit) := by
  rw [e]; exact launch_at g n h
theorem launch_bar (c : Dev nD) : ∑ d : Dev nD, owed d 0 (barCell c) () = 15 := by
  rw [Finset.sum_congr rfl fun d _ => owed_bar d c]; revert c; decide +kernel
theorem launch_msr (c : Dev nD) (r : Fin 15) : ∑ d : Dev nD, owed d 0 (dCell c (dMsR (frm c r))) () = Nms := by
  rw [Finset.sum_congr rfl fun d _ => owed_msr d c r, Finset.sum_ite_eq' Finset.univ _ fun _ => Nms, if_pos (Finset.mem_univ _)]
theorem launch_rr (c : Dev nD) (x : RIx) : ∑ d : Dev nD, owed d 0 (dCell c (dRR x)) () = Nq := by
  rw [Finset.sum_congr rfl fun d _ => owed_rr d c x, Finset.sum_ite_eq' Finset.univ _ fun _ => Nq, if_pos (Finset.mem_univ _)]

/-- The credits a device waits with. -/
def creds (c : Dev nD) : sProp 𝕄 :=
  iprop(cred (tallyAt (barCell c) () 15) ∗ (bigSep Finset.univ fun r : Fin 15 => cred (tallyAt (dCell c (dMsR (frm c r))) () Nms))
    ∗ bigSep Finset.univ fun x : RIx => cred (tallyAt (dCell c (dRR x)) () Nq))

theorem creds_launch (c : Dev nD) : (Pipeline.launchCred O₀ c : sProp 𝕄) ⊢ creds c := by
  refine BIBase.Entails.trans (show (Pipeline.launchCred O₀ c : sProp 𝕄) ⊢ bigSep Finset.univ fun k : KIx =>
      cred (tallyOn (kcell (c, k)) (launchCredit (Pipeline.owing O₀) 0 (kcell (c, k)))) from by
    unfold Pipeline.launchCred
    rw [show (bigSep Finset.univ fun k : KIx => cred (tallyOn (kcell (c, k)) (launchCredit (Pipeline.owing O₀) 0 (kcell (c, k))))) = _ from
      (bigSep_map (s := Finset.univ) (⟨ksem, ksem_injective⟩ : KIx ↪ SemLoc sig)
        (Φ := fun sm => (cred (tallyOn ((c : Thread nD τ), sm) (launchCredit (Pipeline.owing O₀) 0 ((c : Thread nD τ), sm))) : sProp 𝕄))).symm]
    exact bigSep_subset (Finset.subset_univ _)) ?_
  rw [kix_split, split_frm c]
  unfold creds
  iintro ⟨HB, -, ⟨-, HM⟩, -, HQ, -⟩
  isplitl [HB]
  · iapply (Entails.of_eq (congrArg cred (launch_cell (c, .inl ()) (barCell c) rfl 15 (launch_bar c)))) $$ HB
  isplitl [HM]
  · iapply (Entails.of_eq (bigSep_congr fun r _ => congrArg cred (launch_cell (c, .inr (dMsR (frm c r))) (dCell c (dMsR (frm c r))) rfl Nms (launch_msr c r)))) $$ HM
  iapply (Entails.of_eq (bigSep_congr fun x _ => congrArg cred (launch_cell (c, .inr (dRR x)) (dCell c (dRR x)) rfl Nq (launch_rr c x)))) $$ HQ

end Cert.SoftmaxIdeal
-- ==== Proof.LaunchIdeal.lean ====
/-
  The launch: the protocol's start from a machine with every counter at zero, the body's obligation, and the run of the whole program.
-/
module
public import proofs.«01_k».proof.Proof.BodyIdeal
public import proofs.«01_k».proof.Proof.DealIdeal
public import Idealize.ShloMosaic.Lib.Quiescent
public import Idealize.ShloMosaic.Lib.Pipeline.CollectiveSegs
public import Idealize.ShloMosaic.Lib.StableHlo.RunHlo
@[expose] public section
set_option maxHeartbeats 1000000
set_option maxRecDepth 40000
noncomputable section
namespace Cert.SoftmaxIdeal
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers (shareTok shareDrop pointsTo_toks_split pointsTo_toks_join)
variable {F : FTy → Type} [FloatOps F]
local notation "𝕄" => MT nD τ sig Unit (Elt F) ℕ UU ℕ
variable (m : (ℓ : Loc nD τ sig) → Buf (Elt F) ℓ) (ρ : Dev nD → PrngReg)

/-! ## What the body starts with -/

/-- What a device holds when the kernel's own part of the launch begins. -/
def start (c : Dev nD) : sProp 𝕄 :=
  iprop((∃ K, records m ρ K ∗ linear c) ∗ creds c ∗ ∃ f, ((c : Thread nD τ).loc main_v1 ↦{fullShare} f))

omit [FloatOps F] in
theorem rem_all (Φ : Fin 15 → sProp 𝕄) : rem 0 Φ = bigSep Finset.univ Φ := by
  unfold rem; rw [Finset.filter_true_of_mem fun _ _ => Nat.zero_le _]

omit [FloatOps F] in
/-- A thing given to one member of a family, nothing to the others. -/
theorem give_one (k₀ : Fin 15) (P : Fin 15 → Prop) [DecidablePred P] (h : ∀ k, Iff (P k) (k = k₀)) (X : sProp 𝕄) :
    X ⊢ bigSep Finset.univ fun k => if P k then X else iprop(emp) := by
  rw [bigSep_erase (Finset.mem_univ k₀), if_pos ((h k₀).mpr rfl),
    bigSep_congr (s := Finset.univ.erase k₀) (Ψ := fun _ => (iprop(emp) : sProp 𝕄)) fun k hk => if_neg fun e => (Finset.mem_erase.mp hk).1 ((h k).mp e)]
  refine BIBase.Entails.trans (show X ⊢ iprop(X ∗ emp) from by iintro H; isplitl [H]; · iexact H
                                                               iempintro) ?_
  exact Laws.sep_mono_right (BI.bigSep_of_persistent _ _)

theorem lend_on : ∀ (c : Dev nD) (k : Fin 15), Iff (c = nb 0 (peer c k)) (k = 14) := by decide +kernel
theorem lend_back : ∀ (c : Dev nD) (k : Fin 15), Iff (c = nb 1 (peer c k)) (k = 0) := by decide +kernel

omit [FloatOps F] in
theorem some_row (c j : Dev nD) (f : S16x256x128.Idx → F .f32) : rowPts c j fullShare f ⊢ iprop(∃ f, rowPts (F := F) c j fullShare f) := by
  iintro H; iexists f; iexact H
omit [FloatOps F] in
theorem some_q (c : Dev nD) (x : Fin 2 × Fin 2 × Fin 15) (f : S256x65536.Idx → F .f32) :
    qPts c (org x.1 c (x.2.2.val + 1)) (tq x.1 x.2.1) f ⊢ iprop(∃ f, qPts (F := F) c (org x.1 c (x.2.2.val + 1)) (tq x.1 x.2.1) f) := by
  iintro H; iexists f; iexact H

/-- The result's parts: the device's own columns, and what it lends each neighbour. -/
theorem out_lend (c : Dev nD) (f : S256x65536.Idx → F .f32) :
    ((c : Thread nD τ).loc main_v1 ↦{fullShare} f : sProp 𝕄) ⊢ iprop(bPts c c f ∗ outLent 0 c ∗ outLent 1 c) := by
  rw [out_parts]
  iintro ⟨H0, H⟩
  isplitl [H0]
  · iexact H0
  ihave H := (mono_univ fun x => some_q c x f) $$ H
  unfold outLent
  iapply (Entails.of_eq (show (bigSep Finset.univ fun x : Fin 2 × Fin 2 × Fin 15 => iprop(∃ f, qPts (F := F) c (org x.1 c (x.2.2.val + 1)) (tq x.1 x.2.1) f)) = _ from by
    rw [bigSep_univ_prod, bigSep_univ_eq_bigSepL [(0 : Fin 2), 1] (by decide) (by decide)]; rfl)) $$ H

/-- The barrier's payments, put together. -/
theorem sig_start (c : Dev nD) (f : S16x256x128.Idx → F .f32) :
    iprop((bigSep Finset.univ fun k : Fin 15 => dutyTok ER (barCell (peer c k)) 0 c)
      ∗ (bigSep Finset.univ fun k : Fin 15 => rowPts c (peer c k) fullShare f) ∗ outLent 0 c ∗ outLent 1 c) ⊢ rem 0 (sigRes (F := F) c) := by
  rw [rem_all]
  unfold sigRes barPay
  simp only [bigSep_sep']
  iintro ⟨HT, HR, H0, H1⟩
  isplitl [HT]
  · iexact HT
  isplitl [HR]
  · iapply (mono_univ fun k => some_row c (peer c k) f) $$ HR
  isplitl [H0]
  · iapply (give_one 14 _ (lend_on c) (outLent (F := F) 0 c)) $$ H0
  iapply (give_one 0 _ (lend_back c) (outLent (F := F) 1 c)) $$ H1

theorem body_start (K : Dev nD × KIx → ℕ) (c : Dev nD) :
    iprop(OW m ρ K c 0 ∗ linear c ∗ creds c
      ∗ (∃ f, ((c : Thread nD τ).loc main_v1 ↦{fullShare} f)) ∗ (∃ f, ((c : Thread nD τ).loc cc0_scratch0 ↦{fullShare} f))
      ∗ (∃ f, ((c : Thread nD τ).loc cc0_scratch1 ↦{fullShare} f))
      ∗ ((c : Thread nD τ).loc cc0_stg0_0 ↦{fullShare} xs m ρ c) ∗ ((c : Thread nD τ).loc cc0_stg1_0 ↦{fullShare} ws m ρ c))
      ⊢ iprop(bodyIn m ρ K c ∗ atPos ER (dCell c (dMsR c)) 0 ∅ 0) := by
  unfold linear payToks creds bodyIn
  rw [kix_split, split_frm c, rix_split, rix_split, rix_split, rix_split]
  iintro ⟨HO, ⟨⟨P0, P1, ⟨P2o, P2⟩, P3, P4, P5⟩, T0, T1, T2, T3⟩, ⟨C0, C1, C2⟩, ⟨%fo, Ho⟩, Hc, ⟨%fm, Hm⟩, Hx, Hw⟩
  isplitr [P2o]
  · ihave Ho := (out_lend c fo) $$ Ho
    icases Ho with ⟨Hb, Hl0, Hl1⟩
    ihave Hm := (Entails.of_eq ((whole_rows c fm).trans (split_peer c _))) $$ Hm
    icases Hm with ⟨Hm, Hms⟩
    isplitl [HO]
    · iexact HO
    isplitl [T0 Hms Hl0 Hl1]
    · iapply (sig_start c fm)
      isplitl [T0]
      · iexact T0
      isplitl [Hms]
      · iexact Hms
      isplitl [Hl0]
      · iexact Hl0
      iexact Hl1
    isplitl [Hx]
    · iexact Hx
    isplitl [Hw]
    · iexact Hw
    isplitl [Hc]
    · iexact Hc
    isplitl [Hm]
    · iexists fm; iexact Hm
    isplitl [C0 P0]
    · isplitl [C0]
      · iexact C0
      iexact P0
    isplitl [T1]
    · iexact T1
    isplitl [C1 P2]
    · rw [rem_all]; unfold msGet; rw [bigSep_sep']
      isplitl [C1]
      · iexact C1
      iexact P2
    isplitl [P1]
    · iexact P1
    isplitl [T2]
    · iexact T2
    isplitl [Hb]
    · iexists fo; iexact Hb
    isplitl [T3]
    · iexact T3
    isplitl [C2 P4]
    · simp only [rem_all]; unfold rGet; simp only [bigSep_sep']
      isplitl [C2]
      · iexact C2
      iexact P4
    isplitl [P3]
    · iexact P3
    iexact P5
  iexact P2o

/-! ## What it leaves: every counter at zero -/

/-- The round a device has reached at each of its cells at the end: nobody pays its own row of statistics. -/
def lastRound (c : Dev nD) : KIx → ℕ
  | .inr (.inr (.inl j)) => if j = c then 0 else 1
  | _ => 1

theorem recs_invs (K : Dev nD × KIx → ℕ) (c : Dev nD) :
    records m ρ K ⊢ bigSep Finset.univ fun k : KIx => cellInv ER (Rd m ρ) (K (c, k)) (kcell (c, k)) :=
  BIBase.Entails.trans (BI.bigSep_of_persistent (Finset.univ : Finset KIx) (records m ρ K)) (mono_univ fun k => rec_inv m ρ K (c, k))

theorem no_more (c : Dev nD) (k : KIx) (r : ℕ) (h : lastRound c k ≤ r) : (Rd m ρ).duties (kcell (c, k)) r = ∅ := by
  by_cases h0 : r = 0
  · subst h0
    rcases k with u | k | j | x | x | u
    · exact absurd h (by simp [lastRound])
    · exact absurd h (by simp [lastRound])
    · by_cases e : j = c
      · subst e
        exact (duties_d m ρ j (dMsR j)).trans (if_pos rfl)
      · exact absurd h (by simp [lastRound, e])
    · exact absurd h (by simp [lastRound])
    · exact absurd h (by simp [lastRound])
    · exact absurd h (by simp [lastRound])
  · exact duties_later m ρ _ h0

theorem close_all (K : Dev nD × KIx → ℕ) (c : Dev nD) :
    iprop(records m ρ K ∗ bigSep Finset.univ fun k : KIx => atPos ER (kcell (c, k)) (lastRound c k) ∅ 0)
      ⊢ |={Set.univ}=> bigSep Finset.univ fun k : KIx => (semVal (kcell (c, k)) 0 : sProp 𝕄) := by
  iintro ⟨#HR, HA⟩
  iapply (cells_close ER (Rd m ρ) (Finset.univ : Finset KIx) (fun k => kcell (c, k)) (fun k => K (c, k)) (Es := Set.univ)
    (fun _ _ => Set.mem_univ _) (fun _ _ h => h) (lastRound c) (fun k _ r h => no_more m ρ c k r h))
  rw [bigSep_sep']
  isplitr
  · iapply (recs_invs m ρ K c) $$ HR
  iexact HA

omit [FloatOps F] in
theorem sems_apart (c : Dev nD) : (bigSep Finset.univ fun k : KIx => (semVal (kcell (c, k)) 0 : sProp 𝕄))
    ⊢ iprop(unscopedSems0 (Ix := Unit) (Name := ℕ) (U := UU) (Lvl := ℕ) (Val := Elt F) (sig := sig) (τ := τ) c
      ∗ (Pipeline.ownSems0 (Ix := Unit) (Name := ℕ) (U := UU) (Lvl := ℕ) (Val := Elt F) (τ := τ) osem c : sProp 𝕄)) := by
  have e (Φ : KIx → sProp 𝕄) : bigSep Finset.univ Φ = iprop(Φ (.inl ()) ∗ bigSep Finset.univ fun i : DIx => Φ (.inr i)) := by
    rw [bigSep_univ_sum, one_unit]; rfl
  rw [unscopedSems0_eq, e]
  iintro ⟨H1, H2⟩
  isplitl [H1]
  · iexact H1
  iapply (Entails.of_eq (show (Pipeline.ownSems0 (Ix := Unit) (Name := ℕ) (U := UU) (Lvl := ℕ) (Val := Elt F) (τ := τ) osem c : sProp 𝕄)
    = bigSep Finset.univ fun i : DIx => semVal (kcell (c, .inr i)) 0 from rfl).symm) $$ H2

/-- The body's part of the invariant before it runs, and after. -/
def Φ₀ (c : Dev nD) : sProp 𝕄 :=
  iprop(start m ρ c ∗ (∃ f, ((c : Thread nD τ).loc cc0_scratch0 ↦{fullShare} f)) ∗ ∃ f, ((c : Thread nD τ).loc cc0_scratch1 ↦{fullShare} f))
def Φ₁ (c : Dev nD) : sProp 𝕄 :=
  iprop((((c : Thread nD τ).loc main_v1 ↦{fullShare} G m ρ) ∗ unscopedSems0 c)
    ∗ (Pipeline.ownSems0 (Ix := Unit) (Name := ℕ) (U := UU) (Lvl := ℕ) (Val := Elt F) (τ := τ) osem c : sProp 𝕄)
    ∗ (∃ f, ((c : Thread nD τ).loc cc0_scratch0 ↦{fullShare} f)) ∗ ∃ f, ((c : Thread nD τ).loc cc0_scratch1 ↦{fullShare} f))

theorem body_end (K : Dev nD × KIx → ℕ) (c : Dev nD) :
    iprop(bodyOut m ρ K c ∗ atPos ER (dCell c (dMsR c)) 0 ∅ 0)
      ⊢ |={Set.univ}=> iprop(Φ₁ m ρ c ∗ (∃ W, owes (c : Thread nD τ) 0 W)
        ∗ ((c : Thread nD τ).loc cc0_stg0_0 ↦{fullShare} xs m ρ c) ∗ ((c : Thread nD τ).loc cc0_stg1_0 ↦{fullShare} ws m ρ c)) := by
  unfold bodyOut OW
  rw [owed_done c (n := 90) (by decide)]
  iintro ⟨⟨⟨#HR, HO⟩, Hx, Hw, Ho, Hc, Hm, P0, P2, P1, P3, P4, P5⟩, P2o⟩
  imod (close_all m ρ K c) $$ [P0 P2 P1 P3 P4 P5 P2o] with HV
  · isplitr
    · iexact HR
    rw [kix_split, split_frm c, rix_split, rix_split]
    isplitl [P0]
    · iexact P0
    isplitl [P1]
    · iexact P1
    isplitl [P2o P2]
    · isplitl [P2o]
      · iapply (Entails.of_eq (congrArg (fun r => (atPos ER (dCell c (dMsR c)) r ∅ 0 : sProp 𝕄)) (show 0 = lastRound c (.inr (dMsR c)) from (if_pos rfl).symm))) $$ P2o
      iapply (Entails.of_eq (bigSep_congr fun r _ => congrArg (fun n => (atPos ER (dCell c (dMsR (frm c r))) n ∅ 0 : sProp 𝕄))
        (show 1 = lastRound c (.inr (dMsR (frm c r))) from (if_neg (frm_ne c r)).symm))) $$ P2
    isplitl [P3]
    · iexact P3
    isplitl [P4]
    · iexact P4
    iexact P5
  ihave HV := (sems_apart (F := F) c) $$ HV
  icases HV with ⟨HU, HV⟩
  imodintro
  unfold Φ₁
  isplitl [Ho HU HV Hc Hm]
  · isplitl [Ho HU]
    · isplitl [Ho]
      · iexact Ho
      iexact HU
    isplitl [HV]
    · iexact HV
    isplitl [Hc]
    · iexists (cf m ρ c); iexact Hc
    iexists (MS m ρ); iexact Hm
  isplitl [HO]
  · iexact HO
  isplitl [Hx]
  · iexact Hx
  iexact Hw

/-! ## The launch -/

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xs m ρ c
    | ⟨1, _⟩ => ws m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f, ⌜f = X⌝ ∗ ((c : Thread nD τ).loc b ↦{fullShare} f)) := by
  unfold owns; simp only [Memref.view_whole, View.read_whole, View.set_whole]
def stg (c : Dev nD) (b : Ref sig .tc) (X : b.ty.Contents (Elt F)) : sProp 𝕄 :=
  iprop(∃ f, ⌜f = X⌝ ∗ ((c : Thread nD τ).loc b ↦{fullShare} f))

theorem before_x (c : Dev nD) (d) : (dats m ρ 0 c).before (0 : Fin 2) t0_0 d = xs m ρ c := by
  unfold Dat.before; rw [if_pos (fetch0_0 t0_0)]; rfl
theorem before_w (c : Dev nD) (d) : (dats m ρ 0 c).before (1 : Fin 2) t0_0 d = ws m ρ c := by
  unfold Dat.before; rw [if_pos (fetch0_1 t0_0)]; rfl

def bodyPre (c : Dev nD) : sProp 𝕄 :=
  iprop(Φ₀ m ρ c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))
def bodyPost (c : Dev nD) : sProp 𝕄 :=
  iprop(Φ₁ m ρ c ∗ (dats m ρ 0 c).owesAt () t0_0.succ ∗ stg c cc0_stg0_0 (xs m ρ c) ∗ stg c cc0_stg1_0 (ws m ρ c))

theorem body_post (K : Dev nD × KIx → ℕ) (c : Dev nD) :
    iprop(bodyOut m ρ K c ∗ atPos ER (dCell c (dMsR c)) 0 ∅ 0) ⊢ |={Set.univ}=> bodyPost m ρ c := by
  iintro H
  imod (body_end m ρ K c) $$ H with ⟨HΦ, ⟨%W, HO⟩, Hx, Hw⟩
  imodintro
  unfold bodyPost stg Dat.owesAt Pipeline.owesWithin
  isplitl [HΦ]
  · iexact HΦ
  isplitl [HO]
  · iexists W
    isplitr
    · ipureintro; exact fun _ _ => Or.inl trivial
    iexact HO
  isplitl [Hx]
  · iexists _
    isplitr
    · ipureintro; rfl
    iexact Hx
  iexists _
  isplitr
  · ipureintro; rfl
  iexact Hw

theorem body_sound (c : Dev nD) : bodyPre m ρ c ⊢ wp frame (wpE (defs₀ (F := F)) 𝒱₀ (c : Thread nD τ) none) Set.univ
    (cc0_body (F := F) (Memref.whole cc0_stg0_0) (Memref.isWhole_whole _) (Memref.whole cc0_stg1_0) (Memref.isWhole_whole _) (Memref.whole main_v1) (Memref.isWhole_whole _)
          (Memref.whole cc0_scratch0) (Memref.isWhole_whole _) (Memref.whole cc0_scratch1) (Memref.isWhole_whole _)
          cc0_scratch2 cc0_scratch3 cc0_scratch4 cc0_scratch5 cc0_scratch6 cc0_scratch7 cc0_scratch8) (fun _ => bodyPost m ρ c) := by
  unfold bodyPre Φ₀ start stg Dat.owesAt Pipeline.owesWithin
  iintro ⟨⟨⟨⟨%K, #HR, HL⟩, HC, Ho⟩, Hc, Hm⟩, ⟨%W, %hW, HO⟩, ⟨%d0, %f0, %e0, Hx⟩, ⟨%d1, %f1, %e1, Hw⟩⟩
  obtain rfl := e0.trans (before_x m ρ c d0)
  obtain rfl := e1.trans (before_w m ρ c d1)
  ihave H := (body_start m ρ K c) $$ [HL HC Ho Hc Hm HO Hx Hw]
  · isplitl [HO]
    · unfold OW
      isplitr
      · iexact HR
      iexists W; iexact HO
    isplitl [HL]
    · iexact HL
    isplitl [HC]
    · iexact HC
    isplitl [Ho]
    · iexact Ho
    isplitl [Hc]
    · iexact Hc
    isplitl [Hm]
    · iexact Hm
    isplitl [Hx]
    · iexact Hx
    iexact Hw
  icases H with ⟨HB, HP⟩
  iapply (wp_fupd _ _ _ _ _)
  iapply (wp_mono _ _ _ fun _ => body_post m ρ K c)
  iapply (wp_frame_r _ _ _)
  isplitl [HB]
  · iapply (body_run m ρ K c) $$ HB
  iexact HP

theorem body_obligation (c : Dev nD) : BodyObligation (dats (F := F) m ρ 0 c) (defs₀ (F := F)) 𝒱₀ () Set.univ := fun t => by
  rw [fin_N0 t]
  rw [show ∀ Φ : Fin cfg0.W → sProp 𝕄, bigSep Finset.univ Φ = iprop(Φ (0 : Fin 2) ∗ Φ (1 : Fin 2)) from fun Φ => bigSep_W0 Φ,
    show ∀ Φ : Fin cfg0.W → sProp 𝕄, bigSep Finset.univ Φ = iprop(Φ (0 : Fin 2) ∗ Φ (1 : Fin 2)) from fun Φ => bigSep_W0 Φ]
  simp only [owns_whole_eq]
  exact body_sound m ρ c

theorem ownSemFacts : Pipeline.OwnSemFacts cfg0.spec osem where
  isScoped := by decide +kernel
  inj := osem_injective
  disj := by decide +kernel

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ dealt m ρ c)
      ⊢ |={Set.univ}=> iprop(start m ρ c ∗ emp) := by
  rw [Pipeline.unscopedRestP_none, unscopedRest0_eq]
  iintro ⟨Ho, Hlev, Hcr, -, HG⟩
  ihave Hc := (creds_launch (F := F) c) $$ Hcr
  imodintro
  unfold start dealt marks
  icases HG with ⟨%K, ⟨H1, H2⟩, HL⟩
  isplitl
  · isplitl [Hlev H1 H2 HL]
    · iexists K
      isplitr [HL]
      · unfold records
        isplitl [H1]
        · iexact H1
        isplitl [H2]
        · iexact H2
        iexact Hlev
      iexact HL
    isplitl [Hc]
    · iexact Hc
    iexists _; iexact Ho
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, H0, H1⟩
  isplitl [Hs]
  · iexact Hs
  isplitl [H0]
  · iexact H0
  iexact H1

theorem phi1_exit (c : Dev nD) :
    (dats m ρ 0 c).Φ (Fin.last cfg0.N) ⊢ iprop((((c : Thread nD τ).loc main_v1 ↦{fullShare} G m ρ) ∗ unscopedSems0 c)
      ∗ Pipeline.ownSems0 osem c ∗ Pipeline.scopedRest cfg0.spec c) := by
  rw [show (dats m ρ 0 c).Φ (Fin.last cfg0.N) = Φ₁ m ρ c from rfl, scopedRest0_eq]
  unfold Φ₁
  iintro H; iexact H

theorem mayWait_stage (c : Dev nD) (sm : SemLoc sig) (h : lv ((c : Thread nD τ), sm) () = 0) (O : CellTallies nD τ sig Unit) (hO : O = owed c 0 ∨ O = 0) :
    (levAts L lv : sProp 𝕄) ⊢ MayWait (c : Thread nD τ) sm () O := by
  rcases hO with rfl | rfl
  · exact mayWait_of c sm 0 fun i _ _ => by rw [h]; split_ifs <;> omega
  · rw [← owed_done c (n := 90) (by decide)]
    exact mayWait_of c sm 90 fun i h1 h2 => absurd h2 (by omega)

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> rfl) _ (by
      rcases t with ⟨_ | _, ht⟩
      · exact Or.inl rfl
      · exact Or.inr rfl)

/-- What every device ends with, read against the machine's state. -/
theorem read_out (c : Dev nD) (s' : Phys nD τ sig (Elt F)) :
    iprop((((c : Thread nD τ).loc main_v1 ↦{fullShare} G m ρ) ∗ unscopedSems0 c) ∗ emp ∗ SI s')
      ⊢ (|={Set.univ}=> iprop(⌜s'.mem.mem ((c : Thread nD τ).loc main_v1) = G m ρ
        ∧ ∀ sm : SemLoc sig, sm.isScoped .tc = false → s'.mem.sem ((c.tc : Thread nD τ), sm) = 0⌝ ∗ SI s') : sProp 𝕄) := by
  iintro ⟨⟨Ho, Hu⟩, -, HSI⟩
  ihave %h := (SI_pointsTo_agree (st := s') (ℓ := (c : Thread nD τ).loc main_v1) (I := Finset.univ) (q := fullShare) (f := G m ρ)) $$ [HSI Ho]
  · isplitl [HSI]
    · iexact HSI
    iexact Ho
  imod (Pipeline.unscopedSems0_read (X := (unscopedSems0 c : sProp 𝕄)) (c := c) fupd_intro s') $$ [Hu HSI] with ⟨%hs, HSI⟩
  · isplitl [Hu] <;> iassumption
  imodintro
  isplitr
  · ipureintro
    exact ⟨funext fun i => h i (Finset.mem_univ i), hs⟩
  iexact HSI

/-- The memory a run ends in: every device's result is the same array, its arguments are as they were, every counter is zero. -/
def QC : PUnit × MemSt nD τ sig (Elt F) → Prop := fun r =>
  (∀ c : Dev nD, r.2.mem ((c : Thread nD τ).loc main_v1) = G m ρ
    ∧ ∀ w : Fin cfg0.W, r.2.mem ((cfg0.win w).arr.view.loc (c : Thread nD τ)) = (dats m ρ 0 c).arrAt w cfg0.N)
  ∧ r.2.sem = fun _ => 0

theorem run_main : θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => body_obligation m ρ c) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := deal m ρ) (G' := dealt m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => iprop(((c : Thread nD τ).loc main_v1 ↦{fullShare} G m ρ) ∗ unscopedSems0 c)) (Z := fun _ => iprop(emp))
    (hX := start_intro m ρ) (hin := phi0_intro m ρ) (hout := phi1_exit m ρ)
    (QY := fun c s => s.mem ((c : Thread nD τ).loc main_v1) = G m ρ ∧ ∀ sm : SemLoc sig, sm.isScoped .tc = false → s.sem ((c.tc : Thread nD τ), sm) = 0)
    (hY := read_out m ρ)
    (hQ := fun _ h hs => ⟨fun c => ⟨(h c).2.2.1, (h c).1⟩, sem_eq_zero hs fun c => (h c).2.2.2⟩)

theorem args_kept (c : Dev nD) (w : Fin cfg0.W) : (dats (F := F) m ρ 0 c).arrAt w cfg0.N = m ((cfg0.win w).arr.view.loc (c : Thread nD τ)) := by
  fin_cases w
  · exact (dats (F := F) m ρ 0 c).arrAt_in (0 : Fin 2) rfl _
  · exact (dats (F := F) m ρ 0 c).arrAt_in (1 : Fin 2) rfl _

/-- The run, with the arguments named. -/
theorem run_named : θ_run defs (onTc (τ := τ) (main (F := F))) (s₀ m ρ) fun r =>
    (∀ c : Dev nD, r.2.mem ((c : Thread nD τ).loc main_v1) = G m ρ ∧ r.2.mem ((c : Thread nD τ).loc main_arg0) = m ((c : Thread nD τ).loc main_arg0)
      ∧ r.2.mem ((c : Thread nD τ).loc main_arg1) = m ((c : Thread nD τ).loc main_arg1)) ∧ r.2.sem = fun _ => 0 :=
  θ_run_mono (run_main m ρ) (fun r h => ⟨fun c => ⟨(h.1 c).1, ((h.1 c).2 (0 : Fin 2)).trans (args_kept m ρ c (0 : Fin 2)), ((h.1 c).2 (1 : Fin 2)).trans (args_kept m ρ c (1 : Fin 2))⟩, h.2⟩)

end Cert.SoftmaxIdeal
-- ==== Proof.KernelRun.lean ====
/-
  The kernel's run at the machine's floats. The program printed for the machine and the one printed for the ideal
  reading are the same text, so the run proved for any floats is the run of either.
-/
module
public import proofs.«01_k».proof.Defs
public import proofs.«01_k».proof.Proof.LaunchIdeal
public import proofs.«01_k».proof.Proof.Gen.Kernel
@[expose] public section
set_option maxHeartbeats 4000000
set_option maxRecDepth 100000
noncomputable section
namespace Cert.SoftmaxIdeal
open Idealize.ShloMosaic Idealize.SL.Sem
variable {F : FTy → Type} [FloatOps F]

theorem body_same : (@Cert.Kernel.cc0_body F _ Cert.Kernel.Gen.facts) = (@Cert.KernelIdeal.cc0_body F _ Cert.KernelIdeal.Gen.facts) := rfl

theorem bodies_same : (@Cert.Kernel.defs₀ F _ Cert.Kernel.Gen.facts) = (@Cert.KernelIdeal.defs₀ F _ Cert.KernelIdeal.Gen.facts) := by
  unfold Cert.Kernel.defs₀ Cert.KernelIdeal.defs₀
  refine congrArg (Defs.onTc (nD := Cert.KernelIdeal.nD) (τ := Cert.KernelIdeal.τ) (sig := Cert.KernelIdeal.sig) (Val := Elt F) (Λ := Cert.KernelIdeal.Λ₀)) ?_
  funext l a
  obtain ⟨l, hl⟩ := l
  cases l with
  | zero => rfl
  | succ n => exact absurd hl (by omega)

theorem defs_same : (@Cert.Kernel.defs F _ Cert.Kernel.Gen.facts) = (@Cert.KernelIdeal.defs F _ Cert.KernelIdeal.Gen.facts) :=
  congrArg (Pipeline.defs (Cert.KernelIdeal.pcfgs (F := F))) bodies_same

theorem frame_kernel : Cert.quiescent_Kernel := fun m g _ => by
  rw [defs_same]
  exact θ_run_mono (run_named (F := Bits) m g) fun _ h => ⟨fun c => (h.1 c).2, h.2⟩
theorem frame_ideal : Cert.quiescent_KernelIdeal := fun m g _ =>
  θ_run_mono (run_named (F := Ideal) m g) fun _ h => ⟨fun c => (h.1 c).2, h.2⟩
end Cert.SoftmaxIdeal
-- ==== Proof.RefRun.lean ====
/- The reference's run: twelve operations of the host on one device, no semaphore anywhere. -/
module

public import proofs.«01_k».proof.Defs
public import proofs.«01_k».proof.Proof.Gen.ReferenceIdeal
public import proofs.«01_k».proof.Proof.Gen.ReferenceIdeal.Run
public import Idealize.ShloMosaic.Lib.Quiescent

@[expose] public section

namespace Cert.SoftmaxIdeal

open Idealize.ShloMosaic Idealize.SL.Sem

/-- The reference ends with its arguments as they were, and it has no counter that could be left above zero. -/
theorem frame_ref : Cert.quiescent_ReferenceIdeal (hReferenceIdeal := Cert.ReferenceIdeal.Gen.facts) := by
  intro m ρ _
  exact (θ_run Cert.ReferenceIdeal.defs _ _).mono
    (fun r h => ⟨fun c => (h c).2, sem_eq_zero_of_no_sems (by decide) r.2⟩)
    (Cert.ReferenceIdeal.Value.run (F := Ideal) m ρ)

end Cert.SoftmaxIdeal
-- ==== Proof.Elements.lean ====
/-
  The kernel's values read at an element, over the extended reals: the logits, a row's maximum and sum, the table of the
  devices' statistics, and the result.
-/
module
public import proofs.«01_k».proof.Proof.SchedIdeal
public import Idealize.ShloMosaic.Lib.Pipeline.Value
public import Idealize.ShloMosaic.Lib.ValueIdx
public import Idealize.ShloMosaic.Lib.ValueLayout
public import Idealize.ShloMosaic.Lib.ValueLayoutCasts
public import Idealize.ShloMosaic.PureOps.Ideal.Laws
@[expose] public section
noncomputable section
namespace Cert.SoftmaxIdeal
open Idealize.ShloMosaic hiding ix1 ix2 ix3
open Idealize.SL.Sem Cert.KernelIdeal Cert.KernelIdeal.Gen ValueIdx
open Idealize.ShloMosaic.TcCoe

/-- The two spellings of an index by its coordinates are the same index. -/
theorem ix3_same {n0 n1 n2 : ℕ} (a : Fin n0) (b : Fin n1) (c : Fin n2) : Idealize.ShloMosaic.ix3 a b c = ix3 a b c :=
  funext fun d => by match d with | ⟨0, _⟩ => rfl | ⟨1, _⟩ => rfl | ⟨2, _⟩ => rfl

/-! ## One device -/

/-- A one-column array spread over its row. -/
theorem spread_apply (v : FVec Ideal S256x1 .f32) (r : Fin 256) (k : Fin 4096) :
    broadcastTo S256x4096 v broadcasts_S256x1_S256x4096 (ix2 r k) = v (ix2 r (0 : Fin 1)) :=
  broadcastTo_apply v _ _ _ fun a => match a with
    | ⟨0, _⟩ => by simp
    | ⟨1, _⟩ => by simp

theorem lift_row (h : S256x4096.Reduces [1] S256) (r : Fin 256) (k : Fin 4096) : h.lift (ix1 r) k = ix2 r k :=
  funext fun a => Fin.ext (by match a with | ⟨0, _⟩ => rfl | ⟨1, _⟩ => rfl)

theorem word_bot : Ideal.ofBits .f32 0xFF800000#32 = (⊥ : EReal) := by simp [Ideal.ofBits, Ideal.ieee]
theorem word_one : Ideal.ofBits .f32 0x3F800000#32 = (1 : EReal) := by
  simp [Ideal.ofBits, Ideal.ieee]
  exact_mod_cast (by norm_num : (8388608 : ℝ) * (2 ^ 23)⁻¹ = 1)

theorem lhs_row (i : S256x4096.Idx) (q : dot_S256x512_S512x4096_S256x4096_1_0_0_1_n_n.contr.Idx) :
    (dot_S256x512_S512x4096_S256x4096_1_0_0_1_n_n.lhsIdx i q 0).val = (i 0).val := by
  unfold DotDims.lhsIdx
  rw [dif_neg (show ¬(0 : Fin S256x512.rank) ∈ dot_S256x512_S512x4096_S256x4096_1_0_0_1_n_n.lhsBatch by decide),
    dif_pos (show (0 : Fin S256x512.rank) ∈ dot_S256x512_S512x4096_S256x4096_1_0_0_1_n_n.lhsNonContracting by decide)]
  rfl
theorem rhs_column (i : S256x4096.Idx) (q : dot_S256x512_S512x4096_S256x4096_1_0_0_1_n_n.contr.Idx) :
    (dot_S256x512_S512x4096_S256x4096_1_0_0_1_n_n.rhsIdx i q 1).val = (i 1).val := by
  unfold DotDims.rhsIdx
  rw [dif_neg (show ¬(1 : Fin S512x4096.rank) ∈ dot_S256x512_S512x4096_S256x4096_1_0_0_1_n_n.rhsBatch by decide),
    dif_pos (show (1 : Fin S512x4096.rank) ∈ dot_S256x512_S512x4096_S256x4096_1_0_0_1_n_n.rhsNonContracting by decide)]
  rfl

/-- A logit is the product of a row and a column. -/
theorem pay1_apply (x : Vec Ideal S256x512 .f32) (w : Vec Ideal S512x4096 .f32) (r : Fin 256) (k : Fin 4096) :
    k0_pay1 x w (ix2 r k) = ∑ q : Fin 512, x (ix2 r q) * w (ix2 q k) := by
  show FloatOps.matmul (F := Ideal) (φ₁ := .f32) (φ₂ := .f32) dot_S256x512_S512x4096_S256x4096_1_0_0_1_n_n none (shapeCast S256x512 (x : FVec Ideal S256x512 .f32) shapeCasts_S256x512_S256x512)
    (shapeCast S512x4096 (w : FVec Ideal S512x4096 .f32) shapeCasts_S512x4096_S512x4096) (constant S256x4096 .f32 0x00000000#32) (ix2 r k) = _
  have hx : shapeCast S256x512 (x : FVec Ideal S256x512 .f32) shapeCasts_S256x512_S256x512 = x := funext fun i => shapeCast_apply x _ _ _ rfl
  have hw : shapeCast S512x4096 (w : FVec Ideal S512x4096 .f32) shapeCasts_S512x4096_S512x4096 = w := funext fun i => shapeCast_apply w _ _ _ rfl
  rw [hx, hw, Ideal.matmul_constant_zero_apply,
    ← Equiv.sum_comp (contrEquiv1 dot_S256x512_S512x4096_S256x4096_1_0_0_1_n_n 512 rfl rfl).symm]
  refine Finset.sum_congr rfl fun q _ => ?_
  have hq := contrEquiv1_symm_val dot_S256x512_S512x4096_S256x4096_1_0_0_1_n_n 512 rfl rfl q
  congr 1
  · exact congrArg x (funext fun a => Fin.ext (by
      match a with
      | ⟨0, _⟩ => exact lhs_row _ _
      | ⟨1, _⟩ => exact (dot_S256x512_S512x4096_S256x4096_1_0_0_1_n_n.lhsIdx_val_of_single rfl _ _).trans hq))
  · exact congrArg w (funext fun a => Fin.ext (by
      match a with
      | ⟨0, _⟩ => exact (dot_S256x512_S512x4096_S256x4096_1_0_0_1_n_n.rhsIdx_val_of_single rfl _ _).trans hq
      | ⟨1, _⟩ => exact rhs_column _ _))

/-- The row maximum. -/
theorem pay2_apply (x : Vec Ideal S256x512 .f32) (w : Vec Ideal S512x4096 .f32) (r : Fin 256) :
    k0_pay2 x w (ix2 r (0 : Fin 1))
      = (Finset.univ : Finset (Fin 4096)).fold max ⊥ (fun k => k0_pay1 x w (ix2 r k)) := by
  show shapeCast S256x1 (multiReduction (F := Ideal) .maximumf [1] S256 (k0_pay1 x w) 0xFF800000#32 reduces_S256x4096_S256 (.inl rfl) rfl) shapeCasts_S256_S256x1
    (ix2 r (0 : Fin 1)) = _
  rw [shapeCast_a_a1_apply]
  refine (Ideal.multiReduction_maximumf_single (k0_pay1 x w) _ _ _ _ (ix1 r)).trans ?_
  rw [Ideal.ofBits_def, word_bot]
  exact congrArg (fun f => Finset.fold max ⊥ f (Finset.univ : Finset (Fin 4096)))
    (funext fun k => congrArg (k0_pay1 x w) (lift_row reduces_S256x4096_S256 r k))

/-- The exponentials. -/
theorem pay3_apply (l : FVec Ideal S256x4096 .f32) (p : FVec Ideal S256x1 .f32) (r : Fin 256) (k : Fin 4096) :
    k0_pay3 l p (ix2 r k) = Ideal.exp (l (ix2 r k) - p (ix2 r (0 : Fin 1))) := by
  show Ideal.exp (l (ix2 r k) - broadcastTo S256x4096 p broadcasts_S256x1_S256x4096 (ix2 r k)) = _
  rw [spread_apply]

theorem pay4_apply (l : FVec Ideal S256x4096 .f32) (p : FVec Ideal S256x1 .f32) (r : Fin 256) (k : Fin 4096) :
    k0_pay4 l p (ix3 (0 : Fin 1) r k) = Ideal.exp (l (ix2 r k) - p (ix2 r (0 : Fin 1))) := by
  show shapeCast S1x256x4096 (k0_pay3 l p) shapeCasts_S256x4096_S1x256x4096 (ix3 (0 : Fin 1) r k) = _
  rw [shapeCast_ab_1ab_apply, pay3_apply]

/-- The three pieces the statistics are put together from. -/
def stack (l : FVec Ideal S256x4096 .f32) (p : FVec Ideal S256x1 .f32) : List ((s : Shape) × (s.Idx → Ideal .f32)) :=
  [⟨S256x1, p⟩,
   ⟨S256x1, shapeCast S256x1 (multiReduction (F := Ideal) .add [1] S256 (k0_pay3 l p) 0x00000000#32 reduces_S256x4096_S256 (.inl rfl) rfl) shapeCasts_S256_S256x1⟩,
   ⟨S256x126, broadcast S256x126 (Scalar.ofBits (F := Ideal) .f32 0x00000000#32)⟩]

/-- The statistics of a row: its first column is the maximum, its second the sum of the exponentials. -/
theorem pay5_zero (l : FVec Ideal S256x4096 .f32) (p : FVec Ideal S256x1 .f32) (r : Fin 256) (h : 0 < 128) :
    k0_pay5 l p (ix3 (0 : Fin 1) r (⟨0, h⟩ : Fin 128)) = p (ix2 r (0 : Fin 1)) := by
  show shapeCast S1x256x128 (concatenate S256x128 1 (stack l p) concatenates_S256x1_S256x1_S256x126_S256x128_d1)
    shapeCasts_S256x128_S1x256x128 _ = _
  rw [shapeCast_ab_1ab_apply]
  exact concatenate_apply_piece (t := S256x128) 1 (stack l p) _ (ix2 r (⟨0, h⟩ : Fin 128)) 0 (by show 0 < 3; decide) S256x1 p rfl rfl 0 rfl (ix2 r (0 : Fin 1))
    (fun b hb => by match b with | ⟨0, _⟩ => rfl | ⟨1, _⟩ => exact absurd rfl hb) rfl

theorem pay5_one (l : FVec Ideal S256x4096 .f32) (p : FVec Ideal S256x1 .f32) (r : Fin 256) (h : 1 < 128) :
    k0_pay5 l p (ix3 (0 : Fin 1) r (⟨1, h⟩ : Fin 128)) = ∑ k : Fin 4096, Ideal.exp (l (ix2 r k) - p (ix2 r (0 : Fin 1))) := by
  show shapeCast S1x256x128 (concatenate S256x128 1 (stack l p) concatenates_S256x1_S256x1_S256x126_S256x128_d1)
    shapeCasts_S256x128_S1x256x128 _ = _
  rw [shapeCast_ab_1ab_apply]
  refine (concatenate_apply_piece (t := S256x128) 1 (stack l p) _ (ix2 r (⟨1, h⟩ : Fin 128)) 1 (by show 1 < 3; decide) S256x1 _ rfl rfl 1 rfl (ix2 r (0 : Fin 1))
    (fun b hb => by match b with | ⟨0, _⟩ => rfl | ⟨1, _⟩ => exact absurd rfl hb) rfl).trans ?_
  rw [shapeCast_a_a1_apply]
  refine (Ideal.multiReduction_add_single (k0_pay3 l p) _ _ _ _ (ix1 r)).trans ?_
  exact Finset.sum_congr rfl fun k _ =>
    (congrArg (k0_pay3 l p) (lift_row reduces_S256x4096_S256 r k)).trans (pay3_apply l p r k)

/-! ## All devices -/

variable (m : (ℓ : Loc nD τ sig) → Buf (Elt Ideal) ℓ) (ρ : Dev nD → PrngReg)

theorem row_lt {n c : ℕ} (inb : ∀ a, (![n, 0, c] : Fin 3 → ℕ) a + S1x256x1.size a ≤ S16x256x128.size a) : n < 16 := inb 0
theorem column_lt {n c : ℕ} (inb : ∀ a, (![n, 0, c] : Fin 3 → ℕ) a + S1x256x1.size a ≤ S16x256x128.size a) : c < 128 := inb 2

/-- What a read of one column of one device's statistics finds. -/
theorem pick (n c : ℕ) (inb : ∀ a, (![n, 0, c] : Fin 3 → ℕ) a + S1x256x1.size a ≤ S16x256x128.size a)
    (h : S1x256x1.ShapeCasts S256x1) (r : Fin 256) :
    shapeCast S256x1 (ld m ρ ![n, 0, c] inb) h (ix2 r (0 : Fin 1))
      = MS m ρ (ix3 (⟨n, row_lt inb⟩ : Fin 16) r (⟨c, column_lt inb⟩ : Fin 128)) := by
  rw [shapeCast_1ab_ab_apply]
  refine congrArg (MS m ρ) (funext fun a => Fin.ext ?_)
  match a with
  | ⟨0, _⟩ => show n + 0 = n; rfl
  | ⟨1, _⟩ => show 0 + 1 * r.val = r.val; omega
  | ⟨2, _⟩ => show c + 0 = c; rfl

theorem MS_zero (j : Fin 16) (r : Fin 256) (h : 0 < 128) :
    MS m ρ (ix3 j r (⟨0, h⟩ : Fin 128)) = mx m ρ j (ix2 r (0 : Fin 1)) := by
  show k0_pay5 (lg m ρ j) (mx m ρ j) (Idealize.ShloMosaic.ix3 (0 : Fin 1) r (⟨0, h⟩ : Fin 128)) = _
  rw [ix3_same, pay5_zero]

theorem MS_one (j : Fin 16) (r : Fin 256) (h : 1 < 128) :
    MS m ρ (ix3 j r (⟨1, h⟩ : Fin 128))
      = ∑ k : Fin 4096, Ideal.exp (lg m ρ j (ix2 r k) - mx m ρ j (ix2 r (0 : Fin 1))) := by
  show k0_pay5 (lg m ρ j) (mx m ρ j) (Idealize.ShloMosaic.ix3 (0 : Fin 1) r (⟨1, h⟩ : Fin 128)) = _
  rw [ix3_same, pay5_one]

end Cert.SoftmaxIdeal
-- ==== Proof.Quotient.lean ====
/-
  The mathematics of the softmax, free of the program: the exponentials taken against a device's own maximum and
  rescaled by the maximum over all devices give the same quotients as the exponentials taken against any one number.
-/
module
public import Idealize.ShloMosaic.PureOps.Ideal.Laws
public import Idealize.ShloMosaic.Lib.ValueIdx
@[expose] public section
noncomputable section
namespace Cert.SoftmaxIdeal
open Idealize.ShloMosaic

/-- The exponential of a real number, and a sum of such. -/
theorem exp_real (r : ℝ) : Ideal.exp (r : EReal) = (Real.exp r : EReal) := rfl

theorem sum_real {ι : Type} (s : Finset ι) (f : ι → ℝ) : ∑ i ∈ s, (f i : EReal) = ((∑ i ∈ s, f i : ℝ) : EReal) := by
  classical
  induction s using Finset.induction_on with
  | empty => rfl
  | insert a s ha ih => rw [Finset.sum_insert ha, Finset.sum_insert ha, ih, EReal.coe_add]

/-- A quotient of reals whose denominator is positive. -/
theorem div_real (a b : ℝ) (hb : 0 < b) : Ideal.div (a : EReal) (b : EReal) = ((a / b : ℝ) : EReal) := by
  unfold Ideal.div
  rw [if_neg (by exact_mod_cast hb.ne'), div_eq_mul_inv, EReal.coe_mul, EReal.coe_inv]

/-- The largest of finitely many, at least one, real numbers is a real number. -/
theorem fold_max_real {n : ℕ} [NeZero n] (f : Fin n → EReal) (hf : ∀ i, ∃ r : ℝ, f i = r) :
    ∃ r : ℝ, (Finset.univ : Finset (Fin n)).fold max ⊥ f = r := by
  have hb : (Finset.univ : Finset (Fin n)).fold max ⊥ f ≠ ⊥ := by
    refine ne_of_gt ((Finset.lt_fold_max _).2 (Or.inr ⟨0, Finset.mem_univ _, ?_⟩))
    obtain ⟨r, hr⟩ := hf 0
    rw [hr]; exact EReal.bot_lt_coe r
  have ht : (Finset.univ : Finset (Fin n)).fold max ⊥ f ≠ ⊤ := by
    refine ne_of_lt ((Finset.fold_max_lt _).2 ⟨bot_lt_top, fun i _ => ?_⟩)
    obtain ⟨r, hr⟩ := hf i
    rw [hr]; exact EReal.coe_lt_top r
  exact ⟨_, (EReal.coe_toReal ht hb).symm⟩

theorem max_real {x y : EReal} (hx : ∃ r : ℝ, x = r) (hy : ∃ r : ℝ, y = r) : ∃ r : ℝ, max x y = r := by
  rcases max_choice x y with h | h <;> rw [h]
  · exact hx
  · exact hy

/-- Products of reals added up are real. -/
theorem dot_real {n : ℕ} (f g : Fin n → EReal) (hf : ∀ i, ∃ r : ℝ, f i = r) (hg : ∀ i, ∃ r : ℝ, g i = r) :
    ∃ r : ℝ, ∑ i, f i * g i = r := by
  choose a ha using hf
  choose b hb using hg
  refine ⟨∑ i, a i * b i, ?_⟩
  rw [← sum_real]
  exact Finset.sum_congr rfl fun i _ => by rw [ha, hb, EReal.coe_mul]

/-- The sum over all columns is the sum over the devices of the sums over each device's columns. -/
theorem sum_columns (f : Fin 65536 → EReal) :
    ∑ n, f n = ∑ i : Fin 16, ∑ q : Fin 4096, f ⟨i.val * 4096 + q.val, by omega⟩ := by
  rw [← Fintype.sum_prod_type' (f := fun (i : Fin 16) (q : Fin 4096) => f ⟨i.val * 4096 + q.val, by omega⟩),
    ← Equiv.sum_comp (finProdFinEquiv (m := 16) (n := 4096)) f]
  exact Finset.sum_congr rfl fun p _ => congrArg f (Fin.ext (by
    show p.2.val + 4096 * p.1.val = p.1.val * 4096 + p.2.val
    omega))

/-- The kernel's quotient is the reference's, whatever real numbers are subtracted before the exponentials are taken:
    `p i` on device `i`, `u` over all devices, and `v` in the reference. -/
theorem quotient_same (a : Fin 16 → Fin 4096 → ℝ) (p : Fin 16 → ℝ) (u v : ℝ) (j : Fin 16) (k : Fin 4096) :
    Ideal.exp ((a j k : EReal) - (p j : EReal)) * (Ideal.exp ((p j : EReal) - (u : EReal)) * Ideal.div 1
        (∑ i, (∑ q, Ideal.exp ((a i q : EReal) - (p i : EReal))) * Ideal.exp ((p i : EReal) - (u : EReal))))
      = Ideal.div (Ideal.exp ((a j k : EReal) - (v : EReal))) (∑ i, ∑ q, Ideal.exp ((a i q : EReal) - (v : EReal))) := by
  simp only [← EReal.coe_sub, exp_real, sum_real, ← EReal.coe_mul]
  have hv : ∀ i q, Real.exp (a i q - v) = Real.exp (a i q) * Real.exp (-v) := fun i q => by
    rw [← Real.exp_add]; rfl
  have hu : ∀ i, (∑ q, Real.exp (a i q - p i)) * Real.exp (p i - u) = (∑ q, Real.exp (a i q)) * Real.exp (-u) := fun i => by
    rw [Finset.sum_mul, Finset.sum_mul]
    exact Finset.sum_congr rfl fun q _ => by rw [← Real.exp_add, ← Real.exp_add]; congr 1; ring
  have hS : 0 < ∑ i : Fin 16, ∑ q : Fin 4096, Real.exp (a i q) :=
    Finset.sum_pos (fun i _ => Finset.sum_pos (fun q _ => Real.exp_pos _) ⟨0, Finset.mem_univ _⟩) ⟨0, Finset.mem_univ _⟩
  simp only [hv, hu, ← Finset.sum_mul]
  have h1 : (1 : EReal) = ((1 : ℝ) : EReal) := rfl
  rw [h1, div_real _ _ (mul_pos hS (Real.exp_pos _)), div_real _ _ (mul_pos hS (Real.exp_pos _)), ← EReal.coe_mul, ← EReal.coe_mul]
  congr 1
  have e : Real.exp (a j k - p j) * Real.exp (p j - u) = Real.exp (a j k) * Real.exp (-u) := by
    rw [← Real.exp_add, ← Real.exp_add]; congr 1; ring
  rw [← mul_assoc, e, mul_one_div, mul_div_mul_right _ _ (Real.exp_pos _).ne', mul_div_mul_right _ _ (Real.exp_pos _).ne']

end Cert.SoftmaxIdeal
-- ==== Proof.Value.lean ====
/-
  The kernel's result read at an element, over the extended reals.
-/
module
public import proofs.«01_k».proof.Proof.Elements
public import proofs.«01_k».proof.Proof.Quotient
@[expose] public section
set_option maxRecDepth 20000
noncomputable section
namespace Cert.SoftmaxIdeal
open Idealize.ShloMosaic hiding ix1 ix2 ix3
open Idealize.SL.Sem Cert.KernelIdeal Cert.KernelIdeal.Gen ValueIdx
open Idealize.ShloMosaic.TcCoe

theorem exp_sub_apply {s : Shape} (a b : FVec Ideal s .f32) (i : s.Idx) : exp (subf a b) i = Ideal.exp (a i - b i) := rfl

variable (m : (ℓ : Loc nD τ sig) → Buf (Elt Ideal) ℓ) (ρ : Dev nD → PrngReg)

theorem largest_read (r : Fin 256) (h : ∀ j : Fin 16, ∃ u : ℝ, mx m ρ j (ix2 r (0 : Fin 1)) = u) (n : ℕ)
    (inb : ∀ a, (![n, 0, 0] : Fin 3 → ℕ) a + S1x256x1.size a ≤ S16x256x128.size a) (hc : S1x256x1.ShapeCasts S256x1) :
    ∃ u : ℝ, shapeCast S256x1 (ld m ρ ![n, 0, 0] inb) hc (ix2 r (0 : Fin 1)) = (u : EReal) := by
  rw [pick, MS_zero]
  exact h _

/-- The maximum over all devices is a real number when every device's is. -/
theorem largest_real (r : Fin 256) (h : ∀ j : Fin 16, ∃ u : ℝ, mx m ρ j (ix2 r (0 : Fin 1)) = u) :
    ∃ u : ℝ, a571 m ρ (ix2 r (0 : Fin 1)) = u := by
  simp only [a571, a562, a532, k0_pay8, k0_pay7, k0_pay6, maximumf_apply]
  have hp := fun n inb hc => largest_read m ρ r h n inb hc
  generalize ld m ρ = f at hp ⊢
  repeat' apply max_real
  all_goals exact hp _ _ _

/-- One device's share of a row's sum. -/
def share (r : Fin 256) (j : Fin 16) : EReal :=
  (∑ k : Fin 4096, Ideal.exp (lg m ρ j (ix2 r k) - mx m ρ j (ix2 r (0 : Fin 1))))
    * Ideal.exp (mx m ρ j (ix2 r (0 : Fin 1)) - a571 m ρ (ix2 r (0 : Fin 1)))

/-- Two reads of the table, scaled: one device's share. -/
theorem share_read (n : ℕ) (i0 : ∀ a, (![n, 0, 0] : Fin 3 → ℕ) a + S1x256x1.size a ≤ S16x256x128.size a)
    (i1 : ∀ a, (![n, 0, 1] : Fin 3 → ℕ) a + S1x256x1.size a ≤ S16x256x128.size a) (h0 h1 : S1x256x1.ShapeCasts S256x1) (r : Fin 256) :
    mulf (F := Ideal) (φ := .f32) (shapeCast S256x1 (ld m ρ ![n, 0, 1] i1) h1)
        (exp (subf (F := Ideal) (φ := .f32) (shapeCast S256x1 (ld m ρ ![n, 0, 0] i0) h0) (a571 m ρ))) (ix2 r (0 : Fin 1))
      = share m ρ r ⟨n, row_lt i0⟩ := by
  show shapeCast S256x1 (ld m ρ ![n, 0, 1] i1) h1 (ix2 r (0 : Fin 1))
    * Ideal.exp (shapeCast S256x1 (ld m ρ ![n, 0, 0] i0) h0 (ix2 r (0 : Fin 1)) - a571 m ρ (ix2 r (0 : Fin 1))) = _
  rw [pick, pick, MS_zero, MS_one]
  rfl

/-- The sum the kernel divides by, as the kernel adds it up. -/
def total : FVec Ideal S256x1 .f32 := addf (a692 m ρ) (mulf (a694 m ρ) (a698 m ρ))

/-- It is the sum of the devices' shares. -/
theorem total_apply (r : Fin 256) : total m ρ (ix2 r (0 : Fin 1)) = ∑ j : Fin 16, share m ρ r j := by
  have hM : k0_pay8 (a562 m ρ) (ld m ρ ![13, 0, 0] inb_S16x256x128_S1x256x1_13_0_0) (ld m ρ ![14, 0, 0] inb_S16x256x128_S1x256x1_14_0_0)
      (ld m ρ ![15, 0, 0] inb_S16x256x128_S1x256x1_15_0_0) = a571 m ρ := rfl
  simp only [total, a692, a694, a698, a662, a660, a628, a596, k0_pay9, k0_pay10, k0_pay11, k0_pay12, k0_pay13, k0_pay14, k0_pay15,
    hM, addf_apply, share_read]
  simp only [Fin.sum_univ_castSucc, Fin.sum_univ_zero]
  have z : broadcast S256x1 (Scalar.ofBits (F := Ideal) .f32 0x00000000#32) (ix2 r (0 : Fin 1)) = (0 : EReal) := Ideal.ofBits_zero_f32
  rw [z]
  rfl

/-- The result at a column of device `c`'s. -/
theorem cf_apply (c : Fin 16) (r : Fin 256) (k : Fin 4096) :
    cf m ρ c (ix3 (0 : Fin 1) r k)
      = Ideal.exp (lg m ρ c (ix2 r k) - mx m ρ c (ix2 r (0 : Fin 1)))
        * (Ideal.exp (mx m ρ c (ix2 r (0 : Fin 1)) - a571 m ρ (ix2 r (0 : Fin 1))) * Ideal.div 1 (∑ j : Fin 16, share m ρ r j)) := by
  show shapeCast S1x256x4096 (mulf (F := Ideal) (φ := .f32) (shapeCast S256x4096 (ex m ρ c) shapeCasts_S1x256x4096_S256x4096)
    (broadcastTo S256x4096 (mulf (exp (subf (mx m ρ c) (a571 m ρ))) (divf (broadcast S256x1 (Scalar.ofBits (F := Ideal) .f32 0x3F800000#32)) (total m ρ)))
      broadcasts_S256x1_S256x4096)) shapeCasts_S256x4096_S1x256x4096 (ix3 (0 : Fin 1) r k) = _
  rw [shapeCast_ab_1ab_apply, mulf_apply, shapeCast_1ab_ab_apply, spread_apply, mulf_apply, divf_apply, total_apply]
  have hx : ex m ρ c (ix3 (0 : Fin 1) r k) = _ := pay4_apply (lg m ρ c) (mx m ρ c) r k
  rw [hx]
  have o : broadcast S256x1 (Scalar.ofBits (F := Ideal) .f32 0x3F800000#32) (ix2 r (0 : Fin 1)) = (1 : EReal) := word_one
  rw [o, exp_sub_apply]

/-- The result read at an element, when the logits are real numbers: the exponential over the sum of the row's
    exponentials, whatever real number `v` is subtracted first. -/
theorem result_apply (a : Fin 16 → Fin 256 → Fin 4096 → ℝ) (hl : ∀ c r k, lg m ρ c (ix2 r k) = (a c r k : EReal))
    (c : Fin 16) (r : Fin 256) (k : Fin 4096) (v : ℝ) :
    cf m ρ c (ix3 (0 : Fin 1) r k)
      = Ideal.div (Ideal.exp (lg m ρ c (ix2 r k) - (v : EReal))) (∑ i : Fin 16, ∑ q : Fin 4096, Ideal.exp (lg m ρ i (ix2 r q) - (v : EReal))) := by
  have hm : ∀ j : Fin 16, ∃ u : ℝ, mx m ρ j (ix2 r (0 : Fin 1)) = u := fun j => by
    show ∃ u : ℝ, k0_pay2 (xs m ρ j) (ws m ρ j) (ix2 r (0 : Fin 1)) = u
    rw [pay2_apply]
    exact fold_max_real _ fun k => ⟨_, hl j r k⟩
  obtain ⟨u, hu⟩ := largest_real m ρ r hm
  choose p hp using hm
  rw [cf_apply]
  simp only [share, hu, hp, hl]
  exact quotient_same (fun i q => a i r q) p u v c k

end Cert.SoftmaxIdeal
-- ==== Proof.RefValue.lean ====
/-
  The reference's result read at an element, over the extended reals.
-/
module
public import proofs.«01_k».proof.Proof.Gen.ReferenceIdeal.Read
public import proofs.«01_k».proof.Proof.Quotient
public import Idealize.ShloMosaic.Lib.ReduceAll
@[expose] public section
set_option maxRecDepth 20000
noncomputable section
namespace Cert.SoftmaxIdeal.Ref
open Idealize.ShloMosaic
open Cert.ReferenceIdeal Cert.ReferenceIdeal.Gen Cert.ReferenceIdeal.Read ValueIdx

variable (x : (⟨S256x512, .f32⟩ : BufTy).Contents (Elt Ideal)) (w : (⟨S512x65536, .f32⟩ : BufTy).Contents (Elt Ideal))

/-- A logit is the product of a row and a column. -/
theorem logit (r : Fin 256) (n : Fin 65536) :
    val_main_v0 (F := Ideal) x w (ix2 r n) = ∑ q : Fin 512, x (ix2 r q) * w (ix2 q n) := by
  rw [val_main_v0_apply]
  refine Finset.sum_congr rfl fun q _ => ?_
  have hl : lidx_main_v0 (ix2 r n) q = ix2 r q := funext fun a => by match a with | ⟨0, _⟩ => rfl | ⟨1, _⟩ => rfl
  have hr : ridx_main_v0 (ix2 r n) q = ix2 q n := funext fun a => by match a with | ⟨0, _⟩ => rfl | ⟨1, _⟩ => rfl
  rw [hl, hr]

theorem reduces_row : S256x65536.Reduces [1] S256 := by decide

/-- The row maximum is a real number when the logits are. -/
theorem largest_real (r : Fin 256) (h : ∀ n : Fin 65536, ∃ u : ℝ, val_main_v0 (F := Ideal) x w (ix2 r n) = (u : EReal)) :
    ∃ u : ℝ, val_main_v1 (F := Ideal) x w (ix1 r) = (u : EReal) := by
  unfold val_main_v1
  generalize val_main_v0 (F := Ideal) x w = y at h ⊢
  have e := Host.reduce_eq_fold_single (FloatOps.maximumf (F := Ideal) (φ := .f32)) y (val_main_cst (F := Ideal))
    reducesTo_S256x65536_S256_d1 reduces_row h_S_ (ix1 r)
  rw [e]
  have hb : val_main_cst (F := Ideal) (Shape.Idx.first h_S_) = (⊥ : EReal) := by
    show Ideal.ofBits .f32 0xFF800000#32 = _
    simp [Ideal.ofBits, Ideal.ieee]
  rw [hb]
  exact fold_max_real (n := 65536) _ fun n => by
    have hn : reduces_row.lift (ix1 r) n = ix2 r n :=
      funext fun a => Fin.ext (by match a with | ⟨0, _⟩ => rfl | ⟨1, _⟩ => rfl)
    show ∃ u : ℝ, y (reduces_row.lift (ix1 r) n) = (u : EReal)
    rw [hn]
    exact h n

/-- An exponential, taken against the row maximum. -/
theorem exponential (r : Fin 256) (n : Fin 65536) :
    val_main_v5 (F := Ideal) x w (ix2 r n)
      = Ideal.exp (val_main_v0 (F := Ideal) x w (ix2 r n) - val_main_v1 (F := Ideal) x w (ix1 r)) := by
  rw [val_main_v5_apply, val_main_v4_apply, val_main_v3_apply, val_main_v2_apply]
  have hi : idx_main_v2 (idx_main_v3 (ix2 r n)) = ix1 r := funext fun a => by match a with | ⟨0, _⟩ => rfl
  rw [hi]
  rfl

/-- The row's sum of them. -/
theorem total (r : Fin 256) :
    val_main_v6 (F := Ideal) x w (ix1 r)
      = ∑ n : Fin 65536, Ideal.exp (val_main_v0 (F := Ideal) x w (ix2 r n) - val_main_v1 (F := Ideal) x w (ix1 r)) := by
  rw [val_main_v6_apply]
  have hz : val_main_cst_0 (F := Ideal) (Shape.Idx.first h_S_) = (0 : EReal) := Ideal.ofBits_zero_f32
  rw [hz, zero_add]
  refine Finset.sum_congr rfl fun n _ => ?_
  have hi : idx_main_v6 (ix1 r) n = ix2 r n := funext fun a => by match a with | ⟨0, _⟩ => rfl | ⟨1, _⟩ => rfl
  rw [hi, exponential]

/-- The result: the exponential over the sum of the row's exponentials. -/
theorem result (r : Fin 256) (n : Fin 65536) :
    val_main_v9 (F := Ideal) x w (ix2 r n)
      = Ideal.div (Ideal.exp (val_main_v0 (F := Ideal) x w (ix2 r n) - val_main_v1 (F := Ideal) x w (ix1 r)))
          (∑ k : Fin 65536, Ideal.exp (val_main_v0 (F := Ideal) x w (ix2 r k) - val_main_v1 (F := Ideal) x w (ix1 r))) := by
  rw [val_main_v9_apply, val_main_v8_apply, val_main_v7_apply]
  have hi : idx_main_v7 (idx_main_v8 (ix2 r n)) = ix1 r := funext fun a => by match a with | ⟨0, _⟩ => rfl
  rw [hi, total, exponential, Ideal.hostDivf_def]

end Cert.SoftmaxIdeal.Ref
-- ==== Proof.Equation.lean ====
/-
  The equation: on finite arguments, the array every device ends with is the reference's softmax.
-/
module
public import proofs.«01_k».proof.Defs
public import proofs.«01_k».proof.Proof.LaunchIdeal
public import proofs.«01_k».proof.Proof.KernelRun
public import proofs.«01_k».proof.Proof.RefRun
public import proofs.«01_k».proof.Proof.Value
public import proofs.«01_k».proof.Proof.RefValue
@[expose] public section
set_option maxRecDepth 20000
noncomputable section
namespace Cert.SoftmaxIdeal
open Idealize.ShloMosaic hiding ix1 ix2 ix3
open Idealize.SL.Sem Cert.KernelIdeal Cert.KernelIdeal.Gen ValueIdx
open Idealize.ShloMosaic.TcCoe

/-! ## The arguments -/

variable (m : (ℓ : Loc nD τ sig) → Buf (Elt Ideal) ℓ) (ρ : Dev nD → PrngReg)

/-- A device's first window is the whole of its copy of `x`, and its second the whole of its part of `W`. -/
theorem xs_whole (c : Dev nD) : xs m ρ c = m ((c : Thread nD τ).loc main_arg0) :=
  Memref.read_access_unit_zero (Elt Ideal) main_arg0 (funext fun a => by fin_cases a <;> decide)
    (fun a => by fin_cases a <;> decide) _

theorem ws_whole (c : Dev nD) : ws m ρ c = m ((c : Thread nD τ).loc main_arg1) :=
  Memref.read_access_unit_zero (Elt Ideal) main_arg1 (funext fun a => by fin_cases a <;> decide)
    (fun a => by fin_cases a <;> decide) _

/-- What a comparison of a magnitude with infinity says. -/
theorem real_of_below (y : EReal) (h : Ideal.cmp .olt (max y (-y)) ⊤ = 1#1) : ∃ u : ℝ, y = u := by
  have h' : max y (-y) < ⊤ := by
    by_contra hn
    have : Ideal.cmp .olt (max y (-y)) ⊤ = 0#1 := by
      show BitVec.ofBool (decide (max y (-y) < ⊤)) = 0#1
      rw [decide_eq_false hn]; rfl
    rw [this] at h
    exact absurd h (by decide)
  have ht : y ≠ ⊤ := ne_of_lt (lt_of_le_of_lt (le_max_left _ _) h')
  have hb : y ≠ ⊥ := fun e => by
    rw [e, EReal.neg_bot] at h'
    exact lt_irrefl _ (lt_of_le_of_lt (le_max_right _ _) h')
  exact ⟨_, (EReal.coe_toReal ht hb).symm⟩

theorem word_top : Ideal.ofBits .f32 0x7F800000#32 = (⊤ : EReal) := by simp [Ideal.ofBits, Ideal.ieee]

/-- The side conditions of the precondition, over one device's part of `W` and over all of it. -/
theorem pre_facts : Cert.Pre_finite_KernelIdeal.Facts := ⟨by decide, by decide⟩
theorem pre_facts_whole : Cert.Pre_finite_ReferenceIdeal.Facts := ⟨by decide, by decide⟩

/-- Finite arguments are real numbers, element by element. -/
theorem finite_x (h : Cert.Pre_KernelIdeal_finite_KernelIdeal (hPre_finite_KernelIdeal := pre_facts) m) (c : Dev nD) (i : S256x512.Idx) :
    ∃ u : ℝ, xs m ρ c i = (u : EReal) := by
  rw [xs_whole]
  refine real_of_below _ ?_
  rw [← word_top]
  exact congrFun (h c).1 i

theorem finite_w (h : Cert.Pre_KernelIdeal_finite_KernelIdeal (hPre_finite_KernelIdeal := pre_facts) m) (c : Dev nD) (i : S512x4096.Idx) :
    ∃ u : ℝ, ws m ρ c i = (u : EReal) := by
  rw [ws_whole]
  refine real_of_below _ ?_
  rw [← word_top]
  exact congrFun (h c).2 i

theorem finite_logit (h : Cert.Pre_KernelIdeal_finite_KernelIdeal (hPre_finite_KernelIdeal := pre_facts) m) (c : Dev nD) (r : Fin 256) (k : Fin 4096) :
    ∃ u : ℝ, lg m ρ c (ix2 r k) = (u : EReal) := by
  have e : lg m ρ c (ix2 r k) = _ := pay1_apply (xs m ρ c) (ws m ρ c) r k
  rw [e]
  exact dot_real _ _ (fun q => finite_x m ρ h c _) (fun q => finite_w m ρ h c _)

/-! ## The equation -/

/-- A device's logits are the reference's, at that device's columns. -/
theorem logit_same (X : Vec Ideal S256x512 .f32) (W : (⟨⟨2, ![512, 65536]⟩, .f32⟩ : BufTy).Contents (Elt Ideal))
    (c : Fin 16) (hx : xs m ρ c = X)
    (hw : ws m ρ c = Layout.block ⟨2, ![512, 4096]⟩ ⟨2, ![512, 65536]⟩ 1 16 c W) (r : Fin 256) (k : Fin 4096) :
    lg m ρ c (ix2 r k)
      = Cert.ReferenceIdeal.Read.val_main_v0 (F := Ideal) X W (ix2 r (⟨c.val * 4096 + k.val, by omega⟩ : Fin 65536)) := by
  rw [Ref.logit]
  refine (pay1_apply (xs m ρ c) (ws m ρ c) r k).trans ?_
  rw [hx, hw]
  refine Finset.sum_congr rfl fun q _ => congrArg (X (ix2 r q) * ·) (congrArg W (funext fun a => Fin.ext ?_))
  match a with
  | ⟨0, _⟩ => rfl
  | ⟨1, _⟩ => rfl

/-- The array every device ends with is the reference's. -/
theorem arrays_same (X : Vec Ideal S256x512 .f32) (W : (⟨⟨2, ![512, 65536]⟩, .f32⟩ : BufTy).Contents (Elt Ideal))
    (hpre : Cert.Pre_KernelIdeal_finite_KernelIdeal (hPre_finite_KernelIdeal := pre_facts) m)
    (hx : ∀ c : Fin 16, xs m ρ c = X)
    (hw : ∀ c : Fin 16, ws m ρ c = Layout.block ⟨2, ![512, 4096]⟩ ⟨2, ![512, 65536]⟩ 1 16 c W) :
    G m ρ = Cert.ReferenceIdeal.Read.val_main_v9 (F := Ideal) X W := by
  have hs := fun c r k => logit_same m ρ X W c (hx c) (hw c) r k
  have hl : ∀ (c : Fin 16) (r : Fin 256) (k : Fin 4096), ∃ u : ℝ, lg m ρ c (ix2 r k) = (u : EReal) :=
    fun c r k => finite_logit m ρ hpre c r k
  choose a ha using hl
  have split : ∀ n : Fin 65536, (⟨n.val / 4096 * 4096 + n.val % 4096, by omega⟩ : Fin 65536) = n := fun n => Fin.ext (by
    show n.val / 4096 * 4096 + n.val % 4096 = n.val
    omega)
  funext i
  obtain ⟨r, n, rfl⟩ : ∃ (r : Fin 256) (n : Fin 65536), i = ix2 r n := ⟨i 0, i 1, ValueIdx.eq_ix2 i⟩
  obtain ⟨v, hv⟩ := Ref.largest_real X W r fun n => by
    have e := hs (⟨n.val / 4096, by omega⟩ : Fin 16) r (⟨n.val % 4096, by omega⟩ : Fin 4096)
    rw [split n] at e
    exact ⟨_, e.symm.trans (ha _ _ _)⟩
  rw [Ref.result, hv, sum_columns]
  show cf m ρ (⟨n.val / 4096, by omega⟩ : Fin 16) (Idealize.ShloMosaic.ix3 (0 : Fin 1) r (⟨n.val % 4096, by omega⟩ : Fin 4096)) = _
  rw [ix3_same, result_apply m ρ a ha _ _ _ v]
  simp only [hs]
  rw [split n]

/-- On finite arguments the kernel and the reference end with the same array. -/
theorem equation : Cert.algebraic_KernelIdeal_ReferenceIdeal_pre_finite_KernelIdeal (hKernelIdeal := Cert.KernelIdeal.Gen.facts)
    (hReferenceIdeal := Cert.ReferenceIdeal.Gen.facts) (hPre_finite_KernelIdeal := pre_facts) := by
  intro m g m' g' hpre hagree
  refine ⟨Cert.ReferenceIdeal.Read.val_main_v9 (F := Ideal) _ _, ?_, (θ_run Cert.ReferenceIdeal.defs _ _).mono
    (fun r h => h 0) (Cert.ReferenceIdeal.Value.run (F := Ideal) m' g')⟩
  refine (θ_run Cert.KernelIdeal.defs _ _).mono (fun r h c => ⟨(h.1 c).1.trans ?_, (h.1 c).2⟩) (run_named (F := Ideal) m g)
  exact arrays_same m g _ _ hpre (fun c => (xs_whole m g c).trans (hagree c).1) (fun c => (ws_whole m g c).trans (hagree c).2)

end Cert.SoftmaxIdeal
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.KernelRun
public import proofs.«01_k».proof.Proof.RefRun
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The kernel runs to its end at the machine's floats and at the ideal ones, and the reference does too; the ideal
    program is the kernel's own text; and on finite arguments every device ends with the reference's array. The runs
    under the precondition are the runs that need none. -/
theorem claim : Cert.Claim := ⟨Cert.Kernel.Gen.facts, Cert.KernelIdeal.Gen.facts, Cert.ReferenceIdeal.Gen.facts,
  Cert.SoftmaxIdeal.pre_facts, Cert.SoftmaxIdeal.pre_facts_whole,
  Cert.SoftmaxIdeal.frame_kernel,
  Cert.SoftmaxIdeal.frame_ideal, fun m g _ => Cert.SoftmaxIdeal.frame_ideal m g trivial,
  Cert.SoftmaxIdeal.frame_ref, fun m g _ => Cert.SoftmaxIdeal.frame_ref m g trivial,
  trivial, Cert.SoftmaxIdeal.equation⟩

end Cert.Proof

end
